-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def preserves_Kernel_KernelIdeal : Prop :=
  IdealRules.named_const.Statement Cert.KernelIdeal.κ "exit_log" .f32 0xC2DC0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v28) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
-- ==== Pre_finite.lean ====
abbrev S32768x6912 : Shape := ⟨2, ![32768, 6912]⟩
abbrev S1x16 : Shape := ⟨2, ![1, 16]⟩
abbrev S_ : Shape := ⟨0, ![]⟩

class Facts : Prop where
  bitsLt_bf16_f32 : FTy.bits .bf16 < FTy.bits .f32
  bcast_S_S32768x6912 : S_.BroadcastsInDim S32768x6912 (![] : Fin 0 → Fin S32768x6912.rank)
  reducesTo_S32768x6912_S_d0_1 : S32768x6912.ReducesTo [0, 1] S_
  h_S_ : 0 < S_.numel

variable [Facts]

def fn {F : FTy → Type} [FloatOps F] (main_arg0 : FVec F S32768x6912 .bf16) (main_arg1 : FVec F S1x16 .f32) : IVec S_ 1 :=
  let main_v0 : FVec F S32768x6912 .f32 := (extf .f32 · bitsLt_bf16_f32) main_arg0
  let main_v1 : FVec F S32768x6912 .f32 := Host.absf main_v0
  let main_cst : FVec F S_ .f32 := constant S_ .f32 0x7F800000#32
  let main_v2 : FVec F S32768x6912 .f32 := broadcastInDim S32768x6912 ![] bcast_S_S32768x6912 main_cst
  let main_v3 : IVec S32768x6912 1 := cmpf .olt main_v1 main_v2
  let main_c : IVec S_ 1 := constantI S_ 1 1#1
  let main_v4 : IVec S_ 1 := (fun x v => Host.reduce IntOp.andi x v reducesTo_S32768x6912_S_d0_1 h_S_) main_v3 main_c
  main_v4
-- ==== Kernel.lean ====
abbrev S32768x6912 : Shape := ⟨2, ![32768, 6912]⟩
abbrev S1x16 : Shape := ⟨2, ![1, 16]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S16 : Shape := ⟨1, ![16]⟩
abbrev S2x16384x6912 : Shape := ⟨3, ![2, 16384, 6912]⟩
abbrev S2x16384x1024 : Shape := ⟨3, ![2, 16384, 1024]⟩
abbrev S2x16384x512 : Shape := ⟨3, ![2, 16384, 512]⟩
abbrev S2x128x1024 : Shape := ⟨3, ![2, 128, 1024]⟩
abbrev S2x128x128 : Shape := ⟨3, ![2, 128, 128]⟩
abbrev S2x128x512 : Shape := ⟨3, ![2, 128, 512]⟩
abbrev S128x512 : Shape := ⟨2, ![128, 512]⟩
abbrev S2 : Shape := ⟨1, ![2]⟩
abbrev S512x128 : Shape := ⟨2, ![512, 128]⟩
abbrev S1x128x128 : Shape := ⟨3, ![1, 128, 128]⟩
abbrev S128x64 : Shape := ⟨2, ![128, 64]⟩
abbrev S512x256 : Shape := ⟨2, ![512, 256]⟩
abbrev S1x128x1024 : Shape := ⟨3, ![1, 128, 1024]⟩
abbrev S128x1024 : Shape := ⟨2, ![128, 1024]⟩
abbrev S512x512 : Shape := ⟨2, ![512, 512]⟩
abbrev S1 : Shape := ⟨1, ![1]⟩
abbrev S128 : Shape := ⟨1, ![128]⟩
abbrev S128x1 : Shape := ⟨2, ![128, 1]⟩
abbrev S1x128x512 : Shape := ⟨3, ![1, 128, 512]⟩
abbrev S384x128 : Shape := ⟨2, ![384, 128]⟩
abbrev S128x384 : Shape := ⟨2, ![128, 384]⟩
abbrev S3072x256 : Shape := ⟨2, ![3072, 256]⟩
abbrev S1x128x1 : Shape := ⟨3, ![1, 128, 1]⟩
abbrev S1x1x1 : Shape := ⟨3, ![1, 1, 1]⟩
abbrev S32768x512 : Shape := ⟨2, ![32768, 512]⟩
abbrev S32768x1024 : Shape := ⟨2, ![32768, 1024]⟩

abbrev nBuf : Space → Nat
  | .hbm => 18
  | .vmem => 33
  | .smem => 1
  | _ => 0

abbrev bufTy : (tb : Table) → Fin (tcTables nBuf tb) → BufTy
  | .hbm, ⟨0, _⟩ => ⟨S32768x6912, .bf16⟩
  | .hbm, ⟨1, _⟩ => ⟨S1x16, .f32⟩
  | .hbm, ⟨2, _⟩ => ⟨S128x128, .i32⟩
  | .hbm, ⟨3, _⟩ => ⟨S128x128, .i32⟩
  | .hbm, ⟨4, _⟩ => ⟨S128x128, .i1⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x256, .f32⟩
  | .hbm, ⟨9, _⟩ => ⟨S128x256, .f32⟩
  | .hbm, ⟨10, _⟩ => ⟨S256x256, .f32⟩
  | .hbm, ⟨11, _⟩ => ⟨S256x256, .bf16⟩
  | .hbm, ⟨12, _⟩ => ⟨S16, .f32⟩
  | .hbm, ⟨13, _⟩ => ⟨S2x16384x6912, .bf16⟩
  | .hbm, ⟨14, _⟩ => ⟨S2x16384x1024, .bf16⟩
  | .hbm, ⟨15, _⟩ => ⟨S2x16384x512, .bf16⟩
  | .hbm, ⟨16, _⟩ => ⟨S32768x512, .bf16⟩
  | .hbm, ⟨17, _⟩ => ⟨S32768x1024, .bf16⟩
  | .local _ .vmem, ⟨0, _⟩ => ⟨S2x128x1024, .bf16⟩
  | .local _ .vmem, ⟨1, _⟩ => ⟨S2x128x1024, .bf16⟩
  | .local _ .vmem, ⟨2, _⟩ => ⟨S2x128x128, .bf16⟩
  | .local _ .vmem, ⟨3, _⟩ => ⟨S2x128x128, .bf16⟩
  | .local _ .vmem, ⟨4, _⟩ => ⟨S2x128x128, .bf16⟩
  | .local _ .vmem, ⟨5, _⟩ => ⟨S2x128x128, .bf16⟩
  | .local _ .vmem, ⟨6, _⟩ => ⟨S2x128x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S2x128x512, .bf16⟩
  | .local _ .vmem, ⟨11, _⟩ => ⟨S2x128x512, .bf16⟩
  | .local _ .vmem, ⟨12, _⟩ => ⟨S2x128x512, .bf16⟩
  | .local _ .vmem, ⟨13, _⟩ => ⟨S2x128x512, .bf16⟩
  | .local _ .vmem, ⟨14, _⟩ => ⟨S2x128x512, .bf16⟩
  | .local _ .vmem, ⟨15, _⟩ => ⟨S2x128x512, .bf16⟩
  | .local _ .vmem, ⟨16, _⟩ => ⟨S2x128x512, .bf16⟩
  | .local _ .vmem, ⟨17, _⟩ => ⟨S2x128x512, .bf16⟩
  | .local _ .vmem, ⟨18, _⟩ => ⟨S2x128x512, .bf16⟩
  | .local _ .vmem, ⟨19, _⟩ => ⟨S2x128x512, .bf16⟩
  | .local _ .vmem, ⟨20, _⟩ => ⟨S2x128x512, .bf16⟩
  | .local _ .vmem, ⟨21, _⟩ => ⟨S2x128x512, .bf16⟩
  | .local _ .vmem, ⟨22, _⟩ => ⟨S2x128x512, .bf16⟩
  | .local _ .vmem, ⟨23, _⟩ => ⟨S2x128x512, .bf16⟩
  | .local _ .vmem, ⟨24, _⟩ => ⟨S256x256, .bf16⟩
  | .local _ .vmem, ⟨25, _⟩ => ⟨S2x128x1024, .bf16⟩
  | .local _ .vmem, ⟨26, _⟩ => ⟨S2x128x1024, .bf16⟩
  | .local _ .vmem, ⟨27, _⟩ => ⟨S2x128x512, .bf16⟩
  | .local _ .vmem, ⟨28, _⟩ => ⟨S2x128x512, .bf16⟩
  | .local _ .vmem, ⟨29, _⟩ => ⟨S2x128x512, .f32⟩
  | .local _ .vmem, ⟨30, _⟩ => ⟨S2x128x512, .f32⟩
  | .local _ .vmem, ⟨31, _⟩ => ⟨S128x512, .bf16⟩
  | .local _ .vmem, ⟨32, _⟩ => ⟨S128x512, .bf16⟩
  | .local _ .smem, ⟨0, _⟩ => ⟨S16, .f32⟩
  | _, _ => ⟨S32768x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v12 : Ref sig .tc := ⟨.hbm, 16, rfl⟩
abbrev main_v13 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![1, 128], ![false, false]⟩

def k0_mult1 (i : grid0.Coords) (arg24 : BitVec 32) : BitVec 32 :=
  let arg0 : BitVec 32 := BitVec.ofNat 32 (i 0).val
  let c2_i32_430 : BitVec 32 := 2#32
  let v1260 : BitVec 32 := Scalar.muli arg0 c2_i32_430
  let c0_i32_431 : BitVec 32 := 0#32
  let v1261 : BitVec 32 := Scalar.addi v1260 c0_i32_431
  let c16384_i32 : BitVec 32 := 16384#32
  let v1346 : BitVec 32 := Scalar.muli v1261 c16384_i32
  let c128_i32_506 : BitVec 32 := 128#32
  let v1347 : BitVec 32 := Scalar.muli arg24 c128_i32_506
  let v1348 : BitVec 32 := Scalar.addi v1346 v1347
  v1348

def k0_off1 (i : grid0.Coords) (arg24 : BitVec 32) : Fin 2 → Nat :=
  let arg0 : BitVec 32 := BitVec.ofNat 32 (i 0).val
  let c2_i32_430 : BitVec 32 := 2#32
  let v1260 : BitVec 32 := Scalar.muli arg0 c2_i32_430
  let c0_i32_431 : BitVec 32 := 0#32
  let v1261 : BitVec 32 := Scalar.addi v1260 c0_i32_431
  let c16384_i32 : BitVec 32 := 16384#32
  let v1346 : BitVec 32 := Scalar.muli v1261 c16384_i32
  let c128_i32_506 : BitVec 32 := 128#32
  let v1347 : BitVec 32 := Scalar.muli arg24 c128_i32_506
  let v1348 : BitVec 32 := Scalar.addi v1346 v1347
  let v1349 : BitVec 32 := v1348
  let c5632_i32 : BitVec 32 := 5632#32
  ![v1349.toNat, 5632]
def k0_off2 (i : grid0.Coords) (arg24 : BitVec 32) : Fin 2 → Nat :=
  let arg0 : BitVec 32 := BitVec.ofNat 32 (i 0).val
  let c2_i32_430 : BitVec 32 := 2#32
  let v1260 : BitVec 32 := Scalar.muli arg0 c2_i32_430
  let c0_i32_431 : BitVec 32 := 0#32
  let v1261 : BitVec 32 := Scalar.addi v1260 c0_i32_431
  let c16384_i32 : BitVec 32 := 16384#32
  let v1346 : BitVec 32 := Scalar.muli v1261 c16384_i32
  let c128_i32_506 : BitVec 32 := 128#32
  let v1347 : BitVec 32 := Scalar.muli arg24 c128_i32_506
  let v1348 : BitVec 32 := Scalar.addi v1346 v1347
  let v1349 : BitVec 32 := v1348
  let c6144_i32 : BitVec 32 := 6144#32
  ![v1349.toNat, 6144]

def k0_chk1 (i : grid0.Coords) (arg24 : BitVec 32) : Prop :=
  (128 ∣ (k0_mult1 i arg24).toNat) ∧
  (∀ a, (k0_off1 i arg24) a + S128x512.size a ≤ S32768x6912.size a) ∧
  (∀ (hinb : ∀ a, (k0_off1 i arg24) a + S128x512.size a ≤ S32768x6912.size a), (Rect.unit (s := S32768x6912) (k0_off1 i arg24) S128x512.size hinb).WholeWords (EltTy.packing .bf16)) ∧
  (∀ a, (k0_off2 i arg24) a + S128x512.size a ≤ S32768x6912.size a) ∧
  (∀ (hinb : ∀ a, (k0_off2 i arg24) a + S128x512.size a ≤ S32768x6912.size a), (Rect.unit (s := S32768x6912) (k0_off2 i arg24) S128x512.size hinb).WholeWords (EltTy.packing .bf16))
theorem k0_mult1_dvd : ∀ (i : grid0.Coords) (arg24 : BitVec 32) (k0_hw1 : k0_chk1 i arg24), 128 ∣ (k0_mult1 i arg24).toNat := fun i arg24 k0_hw1 => k0_hw1.1
theorem k0_off1_inb : ∀ (i : grid0.Coords) (arg24 : BitVec 32) (k0_hw1 : k0_chk1 i arg24), ∀ a, (k0_off1 i arg24) a + S128x512.size a ≤ S32768x6912.size a := fun i arg24 k0_hw1 => k0_hw1.2.1
theorem k0_off1_wordsbf16 : ∀ (i : grid0.Coords) (arg24 : BitVec 32) (k0_hw1 : k0_chk1 i arg24), (Rect.unit (s := S32768x6912) (k0_off1 i arg24) S128x512.size (k0_off1_inb i arg24 k0_hw1)).WholeWords (EltTy.packing .bf16) := fun i arg24 k0_hw1 => k0_hw1.2.2.1 (k0_off1_inb i arg24 k0_hw1)
theorem k0_off2_inb : ∀ (i : grid0.Coords) (arg24 : BitVec 32) (k0_hw1 : k0_chk1 i arg24), ∀ a, (k0_off2 i arg24) a + S128x512.size a ≤ S32768x6912.size a := fun i arg24 k0_hw1 => k0_hw1.2.2.2.1
theorem k0_off2_wordsbf16 : ∀ (i : grid0.Coords) (arg24 : BitVec 32) (k0_hw1 : k0_chk1 i arg24), (Rect.unit (s := S32768x6912) (k0_off2 i arg24) S128x512.size (k0_off2_inb i arg24 k0_hw1)).WholeWords (EltTy.packing .bf16) := fun i arg24 k0_hw1 => k0_hw1.2.2.2.2 (k0_off2_inb i arg24 k0_hw1)

def k0_mult2 (i : grid0.Coords) (arg24 : BitVec 32) : BitVec 32 :=
  let arg0 : BitVec 32 := BitVec.ofNat 32 (i 0).val
  let c2_i32_468 : BitVec 32 := 2#32
  let v1303 : BitVec 32 := Scalar.muli arg0 c2_i32_468
  let c1_i32_469 : BitVec 32 := 1#32
  let v1304 : BitVec 32 := Scalar.addi v1303 c1_i32_469
  let c16384_i32 : BitVec 32 := 16384#32
  let v1346 : BitVec 32 := Scalar.muli v1304 c16384_i32
  let c128_i32_506 : BitVec 32 := 128#32
  let v1347 : BitVec 32 := Scalar.muli arg24 c128_i32_506
  let v1348 : BitVec 32 := Scalar.addi v1346 v1347
  v1348

def k0_off3 (i : grid0.Coords) (arg24 : BitVec 32) : Fin 2 → Nat :=
  let arg0 : BitVec 32 := BitVec.ofNat 32 (i 0).val
  let c2_i32_468 : BitVec 32 := 2#32
  let v1303 : BitVec 32 := Scalar.muli arg0 c2_i32_468
  let c1_i32_469 : BitVec 32 := 1#32
  let v1304 : BitVec 32 := Scalar.addi v1303 c1_i32_469
  let c16384_i32 : BitVec 32 := 16384#32
  let v1346 : BitVec 32 := Scalar.muli v1304 c16384_i32
  let c128_i32_506 : BitVec 32 := 128#32
  let v1347 : BitVec 32 := Scalar.muli arg24 c128_i32_506
  let v1348 : BitVec 32 := Scalar.addi v1346 v1347
  let v1349 : BitVec 32 := v1348
  let c5632_i32 : BitVec 32 := 5632#32
  ![v1349.toNat, 5632]
def k0_off4 (i : grid0.Coords) (arg24 : BitVec 32) : Fin 2 → Nat :=
  let arg0 : BitVec 32 := BitVec.ofNat 32 (i 0).val
  let c2_i32_468 : BitVec 32 := 2#32
  let v1303 : BitVec 32 := Scalar.muli arg0 c2_i32_468
  let c1_i32_469 : BitVec 32 := 1#32
  let v1304 : BitVec 32 := Scalar.addi v1303 c1_i32_469
  let c16384_i32 : BitVec 32 := 16384#32
  let v1346 : BitVec 32 := Scalar.muli v1304 c16384_i32
  let c128_i32_506 : BitVec 32 := 128#32
  let v1347 : BitVec 32 := Scalar.muli arg24 c128_i32_506
  let v1348 : BitVec 32 := Scalar.addi v1346 v1347
  let v1349 : BitVec 32 := v1348
  let c6144_i32 : BitVec 32 := 6144#32
  ![v1349.toNat, 6144]

def k0_chk2 (i : grid0.Coords) (arg24 : BitVec 32) : Prop :=
  (128 ∣ (k0_mult2 i arg24).toNat) ∧
  (∀ a, (k0_off3 i arg24) a + S128x512.size a ≤ S32768x6912.size a) ∧
  (∀ (hinb : ∀ a, (k0_off3 i arg24) a + S128x512.size a ≤ S32768x6912.size a), (Rect.unit (s := S32768x6912) (k0_off3 i arg24) S128x512.size hinb).WholeWords (EltTy.packing .bf16)) ∧
  (∀ a, (k0_off4 i arg24) a + S128x512.size a ≤ S32768x6912.size a) ∧
  (∀ (hinb : ∀ a, (k0_off4 i arg24) a + S128x512.size a ≤ S32768x6912.size a), (Rect.unit (s := S32768x6912) (k0_off4 i arg24) S128x512.size hinb).WholeWords (EltTy.packing .bf16))
theorem k0_mult2_dvd : ∀ (i : grid0.Coords) (arg24 : BitVec 32) (k0_hw2 : k0_chk2 i arg24), 128 ∣ (k0_mult2 i arg24).toNat := fun i arg24 k0_hw2 => k0_hw2.1
theorem k0_off3_inb : ∀ (i : grid0.Coords) (arg24 : BitVec 32) (k0_hw2 : k0_chk2 i arg24), ∀ a, (k0_off3 i arg24) a + S128x512.size a ≤ S32768x6912.size a := fun i arg24 k0_hw2 => k0_hw2.2.1
theorem k0_off3_wordsbf16 : ∀ (i : grid0.Coords) (arg24 : BitVec 32) (k0_hw2 : k0_chk2 i arg24), (Rect.unit (s := S32768x6912) (k0_off3 i arg24) S128x512.size (k0_off3_inb i arg24 k0_hw2)).WholeWords (EltTy.packing .bf16) := fun i arg24 k0_hw2 => k0_hw2.2.2.1 (k0_off3_inb i arg24 k0_hw2)
theorem k0_off4_inb : ∀ (i : grid0.Coords) (arg24 : BitVec 32) (k0_hw2 : k0_chk2 i arg24), ∀ a, (k0_off4 i arg24) a + S128x512.size a ≤ S32768x6912.size a := fun i arg24 k0_hw2 => k0_hw2.2.2.2.1
theorem k0_off4_wordsbf16 : ∀ (i : grid0.Coords) (arg24 : BitVec 32) (k0_hw2 : k0_chk2 i arg24), (Rect.unit (s := S32768x6912) (k0_off4 i arg24) S128x512.size (k0_off4_inb i arg24 k0_hw2)).WholeWords (EltTy.packing .bf16) := fun i arg24 k0_hw2 => k0_hw2.2.2.2.2 (k0_off4_inb i arg24 k0_hw2)

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.maxsi v0 c0_i32_0
  let c0_i32_1 : BitVec 32 := 0#32
  let v2 : BitVec 32 := Scalar.addi v1 c0_i32_1
  let c4_i32 : BitVec 32 := 4#32
  let c0_i32_2 : BitVec 32 := 0#32
  ![arg0.toNat, v2.toNat, c4_i32.toNat]

def cc0_transform_2 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let v1 : BitVec 32 := Scalar.maxsi v0 c0_i32
  let c0_i32_0 : BitVec 32 := 0#32
  let v2 : BitVec 32 := Scalar.addi v1 c0_i32_0
  let c52_i32 : BitVec 32 := 52#32
  let c0_i32_1 : BitVec 32 := 0#32
  ![arg0.toNat, v2.toNat, c52_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.maxsi v0 c0_i32_0
  let c0_i32_1 : BitVec 32 := 0#32
  let v2 : BitVec 32 := Scalar.addi v1 c0_i32_1
  let c52_i32 : BitVec 32 := 52#32
  let c0_i32_2 : BitVec 32 := 0#32
  ![arg0.toNat, v2.toNat, c52_i32.toNat]

def cc0_transform_4 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let v1 : BitVec 32 := Scalar.maxsi v0 c0_i32
  let c0_i32_0 : BitVec 32 := 0#32
  let v2 : BitVec 32 := Scalar.addi v1 c0_i32_0
  let c53_i32 : BitVec 32 := 53#32
  let c0_i32_1 : BitVec 32 := 0#32
  ![arg0.toNat, v2.toNat, c53_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.maxsi v0 c0_i32_0
  let c0_i32_1 : BitVec 32 := 0#32
  let v2 : BitVec 32 := Scalar.addi v1 c0_i32_1
  let c53_i32 : BitVec 32 := 53#32
  let c0_i32_2 : BitVec 32 := 0#32
  ![arg0.toNat, v2.toNat, c53_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.maxsi v0 c0_i32_0
  let c0_i32_1 : BitVec 32 := 0#32
  let v2 : BitVec 32 := Scalar.addi v1 c0_i32_1
  let c10_i32 : BitVec 32 := 10#32
  let c0_i32_2 : BitVec 32 := 0#32
  ![arg0.toNat, v2.toNat, c10_i32.toNat]

def cc0_transform_7 (i : grid0.Coords) : Fin 3 → Nat :=
  let arg0 : BitVec 32 := BitVec.ofNat 32 (i 0).val
  let arg1 : BitVec 32 := BitVec.ofNat 32 (i 1).val
  let c_m2_i32 : BitVec 32 := 4294967294#32
  let v0 : BitVec 32 := Scalar.addi arg1 c_m2_i32
  let c0_i32 : BitVec 32 := 0#32
  let v1 : BitVec 32 := Scalar.maxsi v0 c0_i32
  let c0_i32_0 : BitVec 32 := 0#32
  let v2 : BitVec 32 := Scalar.addi v1 c0_i32_0
  let c11_i32 : BitVec 32 := 11#32
  let c0_i32_1 : BitVec 32 := 0#32
  ![arg0.toNat, v2.toNat, c11_i32.toNat]

def cc0_transform_8 (i : grid0.Coords) : Fin 3 → Nat :=
  let arg0 : BitVec 32 := BitVec.ofNat 32 (i 0).val
  let arg1 : BitVec 32 := BitVec.ofNat 32 (i 1).val
  let c_m2_i32 : BitVec 32 := 4294967294#32
  let v0 : BitVec 32 := Scalar.addi arg1 c_m2_i32
  let c0_i32 : BitVec 32 := 0#32
  let v1 : BitVec 32 := Scalar.maxsi v0 c0_i32
  let c1_i32 : BitVec 32 := 1#32
  let v2 : BitVec 32 := Scalar.addi v1 c1_i32
  let c11_i32 : BitVec 32 := 11#32
  let c0_i32_0 : BitVec 32 := 0#32
  ![arg0.toNat, v2.toNat, c11_i32.toNat]

def cc0_transform_9 (i : grid0.Coords) : Fin 3 → Nat :=
  let arg0 : BitVec 32 := BitVec.ofNat 32 (i 0).val
  let arg1 : BitVec 32 := BitVec.ofNat 32 (i 1).val
  let c_m2_i32 : BitVec 32 := 4294967294#32
  let v0 : BitVec 32 := Scalar.addi arg1 c_m2_i32
  let c0_i32 : BitVec 32 := 0#32
  let v1 : BitVec 32 := Scalar.maxsi v0 c0_i32
  let c2_i32 : BitVec 32 := 2#32
  let v2 : BitVec 32 := Scalar.addi v1 c2_i32
  let c11_i32 : BitVec 32 := 11#32
  let c0_i32_0 : BitVec 32 := 0#32
  ![arg0.toNat, v2.toNat, c11_i32.toNat]

def cc0_transform_10 (i : grid0.Coords) : Fin 3 → Nat :=
  let arg0 : BitVec 32 := BitVec.ofNat 32 (i 0).val
  let arg1 : BitVec 32 := BitVec.ofNat 32 (i 1).val
  let c_m2_i32 : BitVec 32 := 4294967294#32
  let v0 : BitVec 32 := Scalar.addi arg1 c_m2_i32
  let c0_i32 : BitVec 32 := 0#32
  let v1 : BitVec 32 := Scalar.maxsi v0 c0_i32
  let c0_i32_0 : BitVec 32 := 0#32
  let v2 : BitVec 32 := Scalar.addi v1 c0_i32_0
  let c12_i32 : BitVec 32 := 12#32
  let c0_i32_1 : BitVec 32 := 0#32
  ![arg0.toNat, v2.toNat, c12_i32.toNat]

def cc0_transform_11 (i : grid0.Coords) : Fin 3 → Nat :=
  let arg0 : BitVec 32 := BitVec.ofNat 32 (i 0).val
  let arg1 : BitVec 32 := BitVec.ofNat 32 (i 1).val
  let c_m2_i32 : BitVec 32 := 4294967294#32
  let v0 : BitVec 32 := Scalar.addi arg1 c_m2_i32
  let c0_i32 : BitVec 32 := 0#32
  let v1 : BitVec 32 := Scalar.maxsi v0 c0_i32
  let c1_i32 : BitVec 32 := 1#32
  let v2 : BitVec 32 := Scalar.addi v1 c1_i32
  let c12_i32 : BitVec 32 := 12#32
  let c0_i32_0 : BitVec 32 := 0#32
  ![arg0.toNat, v2.toNat, c12_i32.toNat]

def cc0_transform_12 (i : grid0.Coords) : Fin 3 → Nat :=
  let arg0 : BitVec 32 := BitVec.ofNat 32 (i 0).val
  let arg1 : BitVec 32 := BitVec.ofNat 32 (i 1).val
  let c_m2_i32 : BitVec 32 := 4294967294#32
  let v0 : BitVec 32 := Scalar.addi arg1 c_m2_i32
  let c0_i32 : BitVec 32 := 0#32
  let v1 : BitVec 32 := Scalar.maxsi v0 c0_i32
  let c2_i32 : BitVec 32 := 2#32
  let v2 : BitVec 32 := Scalar.addi v1 c2_i32
  let c12_i32 : BitVec 32 := 12#32
  let c0_i32_0 : BitVec 32 := 0#32
  ![arg0.toNat, v2.toNat, c12_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S2x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "exit_log" => some ⊥
  | _ => none
-- ==== ReferenceIdeal.lean ====
abbrev S32768x6912 : Shape := ⟨2, ![32768, 6912]⟩
abbrev S1x16 : Shape := ⟨2, ![1, 16]⟩
abbrev S2x16384x6912 : Shape := ⟨3, ![2, 16384, 6912]⟩
abbrev S2x16384x512 : Shape := ⟨3, ![2, 16384, 512]⟩
abbrev S2x16384x4x128 : Shape := ⟨4, ![2, 16384, 4, 128]⟩
abbrev S2x4x16384x128 : Shape := ⟨4, ![2, 4, 16384, 128]⟩
abbrev S2x4x16384x16384 : Shape := ⟨4, ![2, 4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S32768x512 : Shape := ⟨2, ![32768, 512]⟩

abbrev nBuf : Space → Nat
  | .hbm => 62
  | .vmem => 0
  | .smem => 0
  | _ => 0

abbrev bufTy : (tb : Table) → Fin (tcTables nBuf tb) → BufTy
  | .hbm, ⟨0, _⟩ => ⟨S32768x6912, .bf16⟩
  | .hbm, ⟨1, _⟩ => ⟨S1x16, .f32⟩
  | .hbm, ⟨2, _⟩ => ⟨S32768x6912, .f32⟩
  | .hbm, ⟨3, _⟩ => ⟨S2x16384x6912, .f32⟩
  | .hbm, ⟨4, _⟩ => ⟨S2x16384x512, .f32⟩
  | .hbm, ⟨5, _⟩ => ⟨S2x16384x4x128, .f32⟩
  | .hbm, ⟨6, _⟩ => ⟨S2x16384x512, .f32⟩
  | .hbm, ⟨7, _⟩ => ⟨S2x16384x4x128, .f32⟩
  | .hbm, ⟨8, _⟩ => ⟨S2x16384x512, .f32⟩
  | .hbm, ⟨9, _⟩ => ⟨S2x16384x4x128, .f32⟩
  | .hbm, ⟨10, _⟩ => ⟨S2x4x16384x128, .f32⟩
  | .hbm, ⟨11, _⟩ => ⟨S2x4x16384x128, .f32⟩
  | .hbm, ⟨12, _⟩ => ⟨S2x4x16384x128, .f32⟩
  | .hbm, ⟨13, _⟩ => ⟨S2x4x16384x16384, .f32⟩
  | .hbm, ⟨14, _⟩ => ⟨S_, .f32⟩
  | .hbm, ⟨15, _⟩ => ⟨S2x4x16384x16384, .f32⟩
  | .hbm, ⟨16, _⟩ => ⟨S2x4x16384x16384, .f32⟩
  | .hbm, ⟨17, _⟩ => ⟨S16384, .i32⟩
  | .hbm, ⟨18, _⟩ => ⟨S1x16384, .i32⟩
  | .hbm, ⟨19, _⟩ => ⟨S16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S2x4x16384x16384, .f32⟩
  | .hbm, ⟨25, _⟩ => ⟨S_, .f32⟩
  | .hbm, ⟨26, _⟩ => ⟨S2x4x16384x16384, .f32⟩
  | .hbm, ⟨27, _⟩ => ⟨S2x4x16384x16384, .f32⟩
  | .hbm, ⟨28, _⟩ => ⟨S2x4x16384x16384, .f32⟩
  | .hbm, ⟨29, _⟩ => ⟨S2x4x16384x16384, .f32⟩
  | .hbm, ⟨30, _⟩ => ⟨S2x4x16384x16384, .i1⟩
  | .hbm, ⟨31, _⟩ => ⟨S2x4x16384x16384, .f32⟩
  | .hbm, ⟨32, _⟩ => ⟨S2x4x16384x16384, .f32⟩
  | .hbm, ⟨33, _⟩ => ⟨S2x4x16384x16384, .f32⟩
  | .hbm, ⟨34, _⟩ => ⟨S2x4x16384x16384, .f32⟩
  | .hbm, ⟨35, _⟩ => ⟨S2x4x16384x16384, .f32⟩
  | .hbm, ⟨36, _⟩ => ⟨S2x4x16384x16384, .f32⟩
  | .hbm, ⟨37, _⟩ => ⟨S2x4x16384x16384, .f32⟩
  | .hbm, ⟨38, _⟩ => ⟨S2x4x16384x16384, .f32⟩
  | .hbm, ⟨39, _⟩ => ⟨S2x4x16384x16384, .f32⟩
  | .hbm, ⟨40, _⟩ => ⟨S2x4x16384x16384, .f32⟩
  | .hbm, ⟨41, _⟩ => ⟨S_, .f32⟩
  | .hbm, ⟨42, _⟩ => ⟨S_, .f32⟩
  | .hbm, ⟨43, _⟩ => ⟨S2x4x16384x16384, .i1⟩
  | .hbm, ⟨44, _⟩ => ⟨S2x4x16384x16384, .f32⟩
  | .hbm, ⟨45, _⟩ => ⟨S2x4x16384x16384, .f32⟩
  | .hbm, ⟨46, _⟩ => ⟨S_, .f32⟩
  | .hbm, ⟨47, _⟩ => ⟨S_, .f32⟩
  | .hbm, ⟨48, _⟩ => ⟨S2x4x16384x16384, .f32⟩
  | .hbm, ⟨49, _⟩ => ⟨S2x4x16384x16384, .f32⟩
  | .hbm, ⟨50, _⟩ => ⟨S2x4x16384x16384, .f32⟩
  | .hbm, ⟨51, _⟩ => ⟨S2x4x16384x16384, .f32⟩
  | .hbm, ⟨52, _⟩ => ⟨S_, .f32⟩
  | .hbm, ⟨53, _⟩ => ⟨S_, .f32⟩
  | .hbm, ⟨54, _⟩ => ⟨S2x4x16384x16384, .i1⟩
  | .hbm, ⟨55, _⟩ => ⟨S2x4x16384x16384, .f32⟩
  | .hbm, ⟨56, _⟩ => ⟨S2x4x16384x16384, .f32⟩
  | .hbm, ⟨57, _⟩ => ⟨S2x4x16384x128, .f32⟩
  | .hbm, ⟨58, _⟩ => ⟨S2x16384x4x128, .f32⟩
  | .hbm, ⟨59, _⟩ => ⟨S2x16384x512, .f32⟩
  | .hbm, ⟨60, _⟩ => ⟨S2x16384x512, .bf16⟩
  | .hbm, ⟨61, _⟩ => ⟨S32768x512, .bf16⟩
  | _, _ => ⟨S32768x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_call2_cst : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== InProj.lean ====
abbrev S2x16384x2048 : Shape := ⟨3, ![2, 16384, 2048]⟩
abbrev S1x2048 : Shape := ⟨2, ![1, 2048]⟩
abbrev S1x2048x6912 : Shape := ⟨3, ![1, 2048, 6912]⟩
abbrev S2048x6912 : Shape := ⟨2, ![2048, 6912]⟩
abbrev S2048x512 : Shape := ⟨2, ![2048, 512]⟩
abbrev S2048x1024 : Shape := ⟨2, ![2048, 1024]⟩
abbrev S2048x128 : Shape := ⟨2, ![2048, 128]⟩
abbrev S2048x2048 : Shape := ⟨2, ![2048, 2048]⟩
abbrev S32768x2048 : Shape := ⟨2, ![32768, 2048]⟩
abbrev S2048 : Shape := ⟨1, ![2048]⟩
abbrev S32768x6912 : Shape := ⟨2, ![32768, 6912]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1x256 : Shape := ⟨2, ![1, 256]⟩

abbrev nBuf : Space → Nat
  | .hbm => 18
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x6912, .f32⟩
  | .hbm, ⟨3, _⟩ => ⟨S2048x6912, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x1024, .f32⟩
  | .hbm, ⟨8, _⟩ => ⟨S2048x128, .f32⟩
  | .hbm, ⟨9, _⟩ => ⟨S2048x128, .f32⟩
  | .hbm, ⟨10, _⟩ => ⟨S2048x2048, .f32⟩
  | .hbm, ⟨11, _⟩ => ⟨S2048x2048, .f32⟩
  | .hbm, ⟨12, _⟩ => ⟨S2048x6912, .f32⟩
  | .hbm, ⟨13, _⟩ => ⟨S2048x6912, .bf16⟩
  | .hbm, ⟨14, _⟩ => ⟨S32768x2048, .f32⟩
  | .hbm, ⟨15, _⟩ => ⟨S2048, .f32⟩
  | .hbm, ⟨16, _⟩ => ⟨S1x2048, .f32⟩
  | .hbm, ⟨17, _⟩ => ⟨S32768x6912, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .bf16⟩
  | .local _ .vmem, ⟨6, _⟩ => ⟨S1024x768, .bf16⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S2x16384x2048 : Shape := ⟨3, ![2, 16384, 2048]⟩
abbrev S1x2048 : Shape := ⟨2, ![1, 2048]⟩
abbrev S1x2048x6912 : Shape := ⟨3, ![1, 2048, 6912]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x6912 : Shape := ⟨2, ![2048, 6912]⟩
abbrev S2x16384x6912 : Shape := ⟨3, ![2, 16384, 6912]⟩
abbrev S2x16384x4096 : Shape := ⟨3, ![2, 16384, 4096]⟩
abbrev S2x16384x1024 : Shape := ⟨3, ![2, 16384, 1024]⟩
abbrev S2x16384x1536 : Shape := ⟨3, ![2, 16384, 1536]⟩
abbrev S2x16384x256 : Shape := ⟨3, ![2, 16384, 256]⟩
abbrev S32768x6912 : Shape := ⟨2, ![32768, 6912]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x6912, .f32⟩
  | .hbm, ⟨3, _⟩ => ⟨S2048, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S1x1x2048, .f32⟩
  | .hbm, ⟨18, _⟩ => ⟨S2x16384x2048, .f32⟩
  | .hbm, ⟨19, _⟩ => ⟨S2x16384x2048, .f32⟩
  | .hbm, ⟨20, _⟩ => ⟨S2048x6912, .f32⟩
  | .hbm, ⟨21, _⟩ => ⟨S2x16384x6912, .f32⟩
  | .hbm, ⟨22, _⟩ => ⟨S2x16384x4096, .f32⟩
  | .hbm, ⟨23, _⟩ => ⟨S2x16384x4096, .f32⟩
  | .hbm, ⟨24, _⟩ => ⟨S2x16384x4096, .f32⟩
  | .hbm, ⟨25, _⟩ => ⟨S_, .f32⟩
  | .hbm, ⟨26, _⟩ => ⟨S2x16384x4096, .f32⟩
  | .hbm, ⟨27, _⟩ => ⟨S2x16384x4096, .f32⟩
  | .hbm, ⟨28, _⟩ => ⟨S_, .f32⟩
  | .hbm, ⟨29, _⟩ => ⟨S2x16384x4096, .f32⟩
  | .hbm, ⟨30, _⟩ => ⟨S2x16384x4096, .f32⟩
  | .hbm, ⟨31, _⟩ => ⟨S2x16384x1024, .f32⟩
  | .hbm, ⟨32, _⟩ => ⟨S2x16384x1536, .f32⟩
  | .hbm, ⟨33, _⟩ => ⟨S2x16384x256, .f32⟩
  | .hbm, ⟨34, _⟩ => ⟨S2x16384x6912, .f32⟩
  | .hbm, ⟨35, _⟩ => ⟨S2x16384x6912, .bf16⟩
  | .hbm, ⟨36, _⟩ => ⟨S32768x6912, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Parts.lean ====
/-
  Each part of the attention kernel's body is its skeleton, stated with the arguments the part itself takes.
-/
module

public import proofs.«01_k».proof.Proof.Gen.KernelIdeal.Skeleton

@[expose] public section

noncomputable section

namespace Cert.KernelIdeal

open Cert.KernelIdeal.Gen Idealize.ShloMosaic

variable {F : FTy → Type} [FloatOps F]

set_option maxRecDepth 65536 in
theorem k0_part2_eq_skeleton : k0_part2 (F := F) = k0_part2_skel (F := F) := rfl
set_option maxRecDepth 65536 in
theorem k0_part5_eq_skeleton : k0_part5 (F := F) = k0_part5_skel (F := F) := rfl
set_option maxRecDepth 65536 in
theorem k0_part7_eq_skeleton : k0_part7 (F := F) = k0_part7_skel (F := F) := rfl
set_option maxRecDepth 65536 in
theorem k0_part9_eq_skeleton : k0_part9 (F := F) = k0_part9_skel (F := F) := rfl
set_option maxRecDepth 65536 in
theorem k0_part12_eq_skeleton : k0_part12 (F := F) = k0_part12_skel (F := F) := rfl
set_option maxRecDepth 65536 in
theorem k0_part14_eq_skeleton : k0_part14 (F := F) = k0_part14_skel (F := F) := rfl
set_option maxRecDepth 65536 in
theorem k0_part15_eq_skeleton : k0_part15 (F := F) = k0_part15_skel (F := F) := rfl
set_option maxRecDepth 65536 in
theorem k0_part16_eq_skeleton : k0_part16 (F := F) = k0_part16_skel (F := F) := rfl
set_option maxRecDepth 65536 in
theorem k0_part17_eq_skeleton : k0_part17 (F := F) = k0_part17_skel (F := F) := rfl
set_option maxRecDepth 65536 in
theorem k0_part18_eq_skeleton : k0_part18 (F := F) = k0_part18_skel (F := F) := rfl
set_option maxRecDepth 65536 in
theorem k0_part19_eq_skeleton : k0_part19 (F := F) = k0_part19_skel (F := F) := rfl
set_option maxRecDepth 65536 in
theorem k0_part20_eq_skeleton : k0_part20 (F := F) = k0_part20_skel (F := F) := rfl
set_option maxRecDepth 65536 in
theorem k0_part21_eq_skeleton : k0_part21 (F := F) = k0_part21_skel (F := F) := rfl
set_option maxRecDepth 65536 in
theorem k0_part22_eq_skeleton : k0_part22 (F := F) = k0_part22_skel (F := F) := rfl
set_option maxRecDepth 65536 in
theorem k0_part23_eq_skeleton : k0_part23 (F := F) = k0_part23_skel (F := F) := rfl
set_option maxRecDepth 65536 in
theorem k0_part25_eq_skeleton : k0_part25 (F := F) = k0_part25_skel (F := F) := rfl
set_option maxRecDepth 65536 in
theorem k0_part28_eq_skeleton : k0_part28 (F := F) = k0_part28_skel (F := F) := rfl
set_option maxRecDepth 65536 in
theorem k0_part30_eq_skeleton : k0_part30 (F := F) = k0_part30_skel (F := F) := rfl
set_option maxRecDepth 65536 in
theorem k0_part32_eq_skeleton : k0_part32 (F := F) = k0_part32_skel (F := F) := rfl
set_option maxRecDepth 65536 in
theorem k0_part34_eq_skeleton : k0_part34 (F := F) = k0_part34_skel (F := F) := rfl
set_option maxRecDepth 65536 in
theorem k0_part37_eq_skeleton : k0_part37 (F := F) = k0_part37_skel (F := F) := rfl
set_option maxRecDepth 65536 in
theorem k0_part39_eq_skeleton : k0_part39 (F := F) = k0_part39_skel (F := F) := rfl
set_option maxRecDepth 65536 in
theorem k0_part40_eq_skeleton : k0_part40 (F := F) = k0_part40_skel (F := F) := rfl
set_option maxRecDepth 65536 in
theorem k0_part41_eq_skeleton : k0_part41 (F := F) = k0_part41_skel (F := F) := rfl
set_option maxRecDepth 65536 in
theorem k0_part42_eq_skeleton : k0_part42 (F := F) = k0_part42_skel (F := F) := rfl
set_option maxRecDepth 65536 in
theorem k0_part43_eq_skeleton : k0_part43 (F := F) = k0_part43_skel (F := F) := rfl
set_option maxRecDepth 65536 in
theorem k0_part44_eq_skeleton : k0_part44 (F := F) = k0_part44_skel (F := F) := rfl
set_option maxRecDepth 65536 in
theorem k0_part45_eq_skeleton : k0_part45 (F := F) = k0_part45_skel (F := F) := rfl
set_option maxRecDepth 65536 in
theorem k0_part46_eq_skeleton : k0_part46 (F := F) = k0_part46_skel (F := F) := rfl
set_option maxRecDepth 65536 in
theorem k0_part47_eq_skeleton : k0_part47 (F := F) = k0_part47_skel (F := F) := rfl
set_option maxRecDepth 65536 in
theorem k0_part48_eq_skeleton : k0_part48 (F := F) = k0_part48_skel (F := F) := rfl
set_option maxRecDepth 65536 in
theorem k0_part49_eq_skeleton : k0_part49 (F := F) = k0_part49_skel (F := F) := rfl
set_option maxRecDepth 65536 in
theorem k0_part50_eq_skeleton : k0_part50 (F := F) = k0_part50_skel (F := F) := rfl
set_option maxRecDepth 65536 in
theorem k0_part52_eq_skeleton : k0_part52 (F := F) = k0_part52_skel (F := F) := rfl
set_option maxRecDepth 65536 in
theorem k0_part57_eq_skeleton : k0_part57 (F := F) = k0_part57_skel (F := F) := rfl
set_option maxRecDepth 65536 in
theorem k0_part58_eq_skeleton : k0_part58 (F := F) = k0_part58_skel (F := F) := rfl
set_option maxRecDepth 65536 in
theorem k0_part59_eq_skeleton : k0_part59 (F := F) = k0_part59_skel (F := F) := rfl
set_option maxRecDepth 65536 in
theorem k0_part64_eq_skeleton : k0_part64 (F := F) = k0_part64_skel (F := F) := rfl
set_option maxRecDepth 65536 in
theorem k0_part66_eq_skeleton : k0_part66 (F := F) = k0_part66_skel (F := F) := rfl
set_option maxRecDepth 65536 in
theorem k0_part72_eq_skeleton : k0_part72 (F := F) = k0_part72_skel (F := F) := rfl
set_option maxRecDepth 65536 in
theorem k0_part73_eq_skeleton : k0_part73 (F := F) = k0_part73_skel (F := F) := rfl
set_option maxRecDepth 65536 in
theorem k0_part78_eq_skeleton : k0_part78 (F := F) = k0_part78_skel (F := F) := rfl
set_option maxRecDepth 65536 in
theorem k0_part81_eq_skeleton : k0_part81 (F := F) = k0_part81_skel (F := F) := rfl
set_option maxRecDepth 65536 in
theorem k0_part82_eq_skeleton : k0_part82 (F := F) = k0_part82_skel (F := F) := rfl
set_option maxRecDepth 65536 in
theorem k0_part86_eq_skeleton : k0_part86 (F := F) = k0_part86_skel (F := F) := rfl
set_option maxRecDepth 65536 in
theorem k0_part87_eq_skeleton : k0_part87 (F := F) = k0_part87_skel (F := F) := rfl
set_option maxRecDepth 65536 in
theorem k0_part88_eq_skeleton : k0_part88 (F := F) = k0_part88_skel (F := F) := rfl
set_option maxRecDepth 65536 in
theorem k0_part89_eq_skeleton : k0_part89 (F := F) = k0_part89_skel (F := F) := rfl
set_option maxRecDepth 65536 in
theorem k0_part93_eq_skeleton : k0_part93 (F := F) = k0_part93_skel (F := F) := rfl
set_option maxRecDepth 65536 in
theorem k0_part94_eq_skeleton : k0_part94 (F := F) = k0_part94_skel (F := F) := rfl
set_option maxRecDepth 65536 in
theorem k0_part95_eq_skeleton : k0_part95 (F := F) = k0_part95_skel (F := F) := rfl
set_option maxRecDepth 65536 in
theorem k0_part96_eq_skeleton : k0_part96 (F := F) = k0_part96_skel (F := F) := rfl

end Cert.KernelIdeal
-- ==== Proof.Trip.lean ====
/-
  One trip of each of the two walks of the attention's kernel over the key blocks further back than the last three.

  A trip copies one block of 128 keys and of 128 values out of the projected array, by two transfers of its own, into two
  scratch buffers, waits for both, and adds the block's share to the running sums of the walk's batch.  The trip is run once,
  at symbolic contents; what it leaves in the buffers it writes is found by the run.
-/
module

public import proofs.«01_k».proof.Proof.Gen.KernelIdeal.Launch
public import proofs.«01_k».proof.Proof.Parts
public import Idealize.ShloMosaic.Lib.Pipeline.Frame
public import Idealize.ShloMosaic.Lib.Tactic
public import Idealize.ShloMosaic.Lib.Transfers

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The variants the walks descend along: the number of blocks left. -/
abbrev 𝒱₀ : Variants := Variants.nat

/-- Memref `M`'s buffer on core `c`: its contents type, and it held at `f`, at a share or whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two scratch buffers of running sums, the two the walk copies blocks into, and the projected array. -/
abbrev accM : Memref sig .tc .vmem S2x128x512 .f32 := Memref.whole cc0_scratch0
abbrev runM : Memref sig .tc .vmem S2x128x512 .f32 := Memref.whole cc0_scratch1
abbrev kM : Memref sig .tc .vmem S128x512 .bf16 := Memref.whole cc0_scratch2
abbrev vM : Memref sig .tc .vmem S128x512 .bf16 := Memref.whole cc0_scratch3
abbrev projM : Memref sig .tc .hbm S32768x6912 .bf16 := Memref.whole main_arg0

/-- The argument of the first walk's label at block `kb` and bound `x`. -/
abbrev arg1 (i : grid0.Coords) (M8 : Memref sig .tc .vmem S2x128x512 .bf16) (h8 : M8.IsWhole) (M15 : Memref sig .tc .vmem S256x256 .bf16)
    (h15 : M15.IsWhole) (kb : BitVec 32) (x : F .f32) : (Λ₀ F).Args 1 :=
  ⟨i, cc0_scratch4, projM, Memref.isWhole_whole _, kM, Memref.isWhole_whole _, vM, Memref.isWhole_whole _, M8, h8, M15, h15,
    runM, Memref.isWhole_whole _, accM, Memref.isWhole_whole _, kb, x⟩

/-- The argument of the second walk's label at block `kb` and bound `x`. -/
abbrev arg2 (i : grid0.Coords) (M8 : Memref sig .tc .vmem S2x128x512 .bf16) (h8 : M8.IsWhole) (M15 : Memref sig .tc .vmem S256x256 .bf16)
    (h15 : M15.IsWhole) (kb : BitVec 32) (x : F .f32) : (Λ₀ F).Args 2 :=
  ⟨i, cc0_scratch4, projM, Memref.isWhole_whole _, kM, Memref.isWhole_whole _, vM, Memref.isWhole_whole _, M8, h8, M15, h15,
    runM, Memref.isWhole_whole _, accM, Memref.isWhole_whole _, kb, x⟩

/-- The walks go on while a block is left and the bound is above the exit threshold. -/
abbrev cond (kb : BitVec 32) (x : F .f32) : Prop :=
  Scalar.andi (Scalar.cmpi .sge kb 0#32) (Scalar.cmpf .ogt x (Named.named κ "exit_log" 0xC2DC0000#32)) = 1#1

set_option maxHeartbeats 4000000 in
/-- One trip of the first walk: what it leaves in the two buffers of sums, and the bound it goes on with, with the proof that from the buffers at their contents the label's body runs to its own call at them. -/
def trip1 (c : Dev nD) (i : grid0.Coords) (M8 : Memref sig .tc .vmem S2x128x512 .bf16) (h8 : M8.IsWhole)
    (M15 : Memref sig .tc .vmem S256x256 .bf16) (h15 : M15.IsWhole) (kb : BitVec 32) (hk : k0_chk1 i kb)
    (f8 : Bf (F := F) c M8) (f15 : Bf (F := F) c M15) (fp : Bf (F := F) c projM) (fa : Bf (F := F) c accM) (fr : Bf (F := F) c runM) :
    { W : Bf (F := F) c accM × Bf (F := F) c runM × F .f32 //
      ∀ (x : F .f32) (hc : cond kb x) (fk : Bf (F := F) c kM) (fv : Bf (F := F) c vM) (Ws : Waits sig Unit) (b : Option ℕ) (K : BitVec 32 × F .f32 → sProp 𝕄),
        iprop(pt c M8 f8 ∗ pt c M15 f15 ∗ pt c projM fp ∗ pt c accM fa ∗ pt c runM fr ∗ pt c kM fk ∗ pt c vM fv
          ∗ semVal ((c : Thread nD τ), SemLoc.dma 30) 0 ∗ semVal ((c : Thread nD τ), SemLoc.dma 31) 0 ∗ owes (c : Thread nD τ) 0 Ws
          ∗ (iprop(pt c M8 f8 ∗ pt c M15 f15 ∗ pt c projM fp ∗ pt c accM W.1 ∗ pt c runM W.2.1 ∗ (∃ f, pt c kM f) ∗ (∃ f, pt c vM f)
                ∗ semVal ((c : Thread nD τ), SemLoc.dma 30) 0 ∗ semVal ((c : Thread nD τ), SemLoc.dma 31) 0 ∗ ∃ Ws', owes (c : Thread nD τ) 0 Ws')
              -∗ wp frame (wpE (defs₀ (F := F)) 𝒱₀ (c : Thread nD τ) b) Set.univ
                  (Prog.op (.call (1 : (Λ₀ F).Label) (arg1 i M8 h8 M15 h15 (kb - 1#32) W.2.2)) Prog.ret) K))
        ⊢ wp frame (wpE (defs₀ (F := F)) 𝒱₀ (c : Thread nD τ) b) Set.univ
            (cc0_while1 i cc0_scratch4 projM (Memref.isWhole_whole _) kM (Memref.isWhole_whole _) vM (Memref.isWhole_whole _) M8 h8 M15 h15
              runM (Memref.isWhole_whole _) accM (Memref.isWhole_whole _) kb x) K } := by
  refine ⟨⟨?_, ?_, ?_⟩, fun x hc fk fv Ws b K => ?run⟩
  case run =>
    simp only [cc0_while1_eq_skeleton]; unfold cc0_while1_skel
    iintro ⟨H8, H15, Hp, Ha, Hr, Hkb, Hvb, Hs0, Hs1, HW, Hk⟩
    (set_option sl_exec.maxSteps 10 in
      sl_exec (disch := first | exact hk | exact hc))
    rewrite [show View.write (Elt F) kM.view fk _ Finset.univ = _ from View.write_whole_univ _ _ _,
      show View.write (Elt F) vM.view fv _ Finset.univ = _ from View.write_whole_univ _ _ _]
    set_option sl_exec.squeezeSlice true in
    sl_exec_parts (disch := first | exact hk | exact hc)
    rewrite [show trip1.sl.v1570 kb = kb - 1#32 from rfl]
    iapply Hk
    isplitl [H8]; · iexact H8
    isplitl [H15]; · iexact H15
    isplitl [Hp]; · iexact Hp
    isplitl [Ha]; · iexact Ha
    isplitl [Hr]; · iexact Hr
    isplitl [Hkb]; · iexists _; iexact Hkb
    isplitl [Hvb]; · iexists _; iexact Hvb
    isplitl [Hs0]; · iexact Hs0
    isplitl [Hs1]; · iexact Hs1
    iexists _; iexact HW

set_option maxHeartbeats 4000000 in
/-- One trip of the second walk: what it leaves in the two buffers of sums, and the bound it goes on with, with the proof that from the buffers at their contents the label's body runs to its own call at them. -/
def trip2 (c : Dev nD) (i : grid0.Coords) (M8 : Memref sig .tc .vmem S2x128x512 .bf16) (h8 : M8.IsWhole)
    (M15 : Memref sig .tc .vmem S256x256 .bf16) (h15 : M15.IsWhole) (kb : BitVec 32) (hk : k0_chk2 i kb)
    (f8 : Bf (F := F) c M8) (f15 : Bf (F := F) c M15) (fp : Bf (F := F) c projM) (fa : Bf (F := F) c accM) (fr : Bf (F := F) c runM) :
    { W : Bf (F := F) c accM × Bf (F := F) c runM × F .f32 //
      ∀ (x : F .f32) (hc : cond kb x) (fk : Bf (F := F) c kM) (fv : Bf (F := F) c vM) (Ws : Waits sig Unit) (b : Option ℕ) (K : BitVec 32 × F .f32 → sProp 𝕄),
        iprop(pt c M8 f8 ∗ pt c M15 f15 ∗ pt c projM fp ∗ pt c accM fa ∗ pt c runM fr ∗ pt c kM fk ∗ pt c vM fv
          ∗ semVal ((c : Thread nD τ), SemLoc.dma 30) 0 ∗ semVal ((c : Thread nD τ), SemLoc.dma 31) 0 ∗ owes (c : Thread nD τ) 0 Ws
          ∗ (iprop(pt c M8 f8 ∗ pt c M15 f15 ∗ pt c projM fp ∗ pt c accM W.1 ∗ pt c runM W.2.1 ∗ (∃ f, pt c kM f) ∗ (∃ f, pt c vM f)
                ∗ semVal ((c : Thread nD τ), SemLoc.dma 30) 0 ∗ semVal ((c : Thread nD τ), SemLoc.dma 31) 0 ∗ ∃ Ws', owes (c : Thread nD τ) 0 Ws')
              -∗ wp frame (wpE (defs₀ (F := F)) 𝒱₀ (c : Thread nD τ) b) Set.univ
                  (Prog.op (.call (2 : (Λ₀ F).Label) (arg2 i M8 h8 M15 h15 (kb - 1#32) W.2.2)) Prog.ret) K))
        ⊢ wp frame (wpE (defs₀ (F := F)) 𝒱₀ (c : Thread nD τ) b) Set.univ
            (cc0_while2 i cc0_scratch4 projM (Memref.isWhole_whole _) kM (Memref.isWhole_whole _) vM (Memref.isWhole_whole _) M8 h8 M15 h15
              runM (Memref.isWhole_whole _) accM (Memref.isWhole_whole _) kb x) K } := by
  refine ⟨⟨?_, ?_, ?_⟩, fun x hc fk fv Ws b K => ?run⟩
  case run =>
    simp only [cc0_while2_eq_skeleton]; unfold cc0_while2_skel
    iintro ⟨H8, H15, Hp, Ha, Hr, Hkb, Hvb, Hs0, Hs1, HW, Hk⟩
    (set_option sl_exec.maxSteps 10 in
      sl_exec (disch := first | exact hk | exact hc))
    rewrite [show View.write (Elt F) kM.view fk _ Finset.univ = _ from View.write_whole_univ _ _ _,
      show View.write (Elt F) vM.view fv _ Finset.univ = _ from View.write_whole_univ _ _ _]
    set_option sl_exec.squeezeSlice true in
    sl_exec_parts (disch := first | exact hk | exact hc)
    rewrite [show trip2.sl.v1570 kb = kb - 1#32 from rfl]
    iapply Hk
    isplitl [H8]; · iexact H8
    isplitl [H15]; · iexact H15
    isplitl [Hp]; · iexact Hp
    isplitl [Ha]; · iexact Ha
    isplitl [Hr]; · iexact Hr
    isplitl [Hkb]; · iexists _; iexact Hkb
    isplitl [Hvb]; · iexists _; iexact Hvb
    isplitl [Hs0]; · iexact Hs0
    isplitl [Hs1]; · iexact Hs1
    iexists _; iexact HW

end Cert.KernelIdeal.Run
-- ==== Proof.Walk.lean ====
/-
  The two walks of the attention's kernel, each as a whole: what it leaves in the buffers of sums after every trip it makes, by
  recursion on the number of key blocks left, and the proof that the walk's label, called on the first of them, returns with
  the buffers at that.
-/
module

public import proofs.«01_k».proof.Proof.Trip

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The first axis of the grid has one coordinate. -/
theorem coord_zero (i : grid0.Coords) : (i 0).val = 0 := by
  have h := (i 0).isLt
  change (i 0).val < 1 at h; omega

/-- The grid's first point. -/
abbrev i₀ : grid0.Coords := grid0.coords ⟨0, by decide⟩

theorem chk1_first : ∀ k : Fin 128, k0_chk1 i₀ (BitVec.ofNat 32 k.val) := by decide +kernel
theorem chk2_first : ∀ k : Fin 128, k0_chk2 i₀ (BitVec.ofNat 32 k.val) := by decide +kernel

/-- The block a trip of the first walk copies lies inside the projected array, on a boundary of 128 rows. -/
theorem chk1_of (i : grid0.Coords) (k : ℕ) (hk : k < 128) : k0_chk1 i (BitVec.ofNat 32 k) := by
  have h := chk1_first ⟨k, hk⟩
  have e : (i 0).val = (i₀ 0).val := (coord_zero i).trans (coord_zero i₀).symm
  unfold k0_chk1 k0_off1 k0_off2 k0_mult1 at h ⊢
  rw [e]; exact h
/-- And of the second. -/
theorem chk2_of (i : grid0.Coords) (k : ℕ) (hk : k < 128) : k0_chk2 i (BitVec.ofNat 32 k) := by
  have h := chk2_first ⟨k, hk⟩
  have e : (i 0).val = (i₀ 0).val := (coord_zero i).trans (coord_zero i₀).symm
  unfold k0_chk2 k0_off3 k0_off4 k0_mult2 at h ⊢
  rw [e]; exact h

/-- What a walk carries: the two buffers of sums and the bound. -/
abbrev Carried (c : Dev nD) : Type := Bf (F := F) c accM × Bf (F := F) c runM × F .f32

section
variable (c : Dev nD) (i : grid0.Coords) (M8 : Memref sig .tc .vmem S2x128x512 .bf16) (h8 : M8.IsWhole)
    (M15 : Memref sig .tc .vmem S256x256 .bf16) (h15 : M15.IsWhole)
    (f8 : Bf (F := F) c M8) (f15 : Bf (F := F) c M15) (fp : Bf (F := F) c projM)

/-- The carried values after the trip at block `k`. -/
def step1 (k : ℕ) (hk : k < 128) (S : Carried (F := F) c) : Carried (F := F) c :=
  (trip1 c i M8 h8 M15 h15 (BitVec.ofNat 32 k) (chk1_of i k hk) f8 f15 fp S.1 S.2.1).1
def step2 (k : ℕ) (hk : k < 128) (S : Carried (F := F) c) : Carried (F := F) c :=
  (trip2 c i M8 h8 M15 h15 (BitVec.ofNat 32 k) (chk2_of i k hk) f8 f15 fp S.1 S.2.1).1

open Classical in
/-- The carried values after a walk with `k` blocks left: blocks `k − 1, k − 2, …, 0`, while the bound is above the threshold. -/
def walk1 : (k : ℕ) → k ≤ 128 → Carried (F := F) c → Carried (F := F) c
  | 0, _, S => S
  | k + 1, hk, S => if cond (F := F) (BitVec.ofNat 32 k) S.2.2 then
      walk1 k (by omega) (step1 c i M8 h8 M15 h15 f8 f15 fp k (by omega) S) else S
open Classical in
def walk2 : (k : ℕ) → k ≤ 128 → Carried (F := F) c → Carried (F := F) c
  | 0, _, S => S
  | k + 1, hk, S => if cond (F := F) (BitVec.ofNat 32 k) S.2.2 then
      walk2 k (by omega) (step2 c i M8 h8 M15 h15 f8 f15 fp k (by omega) S) else S

/-- The buffers and cells a walk uses, the sums at what is carried. -/
def held (S : Carried (F := F) c) : sProp 𝕄 :=
  iprop(pt c M8 f8 ∗ pt c M15 f15 ∗ pt c projM fp ∗ pt c accM S.1 ∗ pt c runM S.2.1 ∗ (∃ f, pt c kM f) ∗ (∃ f, pt c vM f)
    ∗ semVal ((c : Thread nD τ), SemLoc.dma 30) 0 ∗ semVal ((c : Thread nD τ), SemLoc.dma 31) 0 ∗ ∃ Ws, owes (c : Thread nD τ) 0 Ws)

/-- The first walk's specification at `k` blocks left. -/
def spec1 (k : ℕ) (hk : k ≤ 128) (S : Carried (F := F) c) : sWPT 𝕄 (BitVec 32 × F .f32) := do
  sWPT.consume (held c M8 M15 f8 f15 fp S)
  let r ← sWPT.arbitrary
  sWPT.produce (held c M8 M15 f8 f15 fp (walk1 c i M8 h8 M15 h15 f8 f15 fp k hk S))
  pure r
theorem spec1_apply (k : ℕ) (hk : k ≤ 128) (S : Carried (F := F) c) (K : BitVec 32 × F .f32 → sProp 𝕄) :
    spec1 c i M8 h8 M15 h15 f8 f15 fp k hk S K = iprop(held c M8 M15 f8 f15 fp S
      ∗ ∀ r : BitVec 32 × F .f32, (held c M8 M15 f8 f15 fp (walk1 c i M8 h8 M15 h15 f8 f15 fp k hk S) -∗ K r)) := rfl

theorem cond_zero (x : F .f32) : ¬ cond (BitVec.ofNat 32 0 - 1#32) x := by
  intro h
  have h0 : Scalar.cmpi .sge (BitVec.ofNat 32 0 - 1#32) 0#32 = 0#1 := by decide
  have h1 : ∀ y : BitVec 1, Scalar.andi 0#1 y = 0#1 := by decide
  unfold cond at h
  rw [h0, h1] at h
  exact absurd h (by decide)
theorem pred_succ (k : ℕ) : BitVec.ofNat 32 (k + 1) - 1#32 = BitVec.ofNat 32 k := by
  apply BitVec.eq_of_toNat_eq
  simp only [BitVec.toNat_sub, BitVec.toNat_ofNat]
  omega

/-- The first walk's label meets its specification. -/
theorem spec1_le : ∀ (k : ℕ) (hk : k ≤ 128) (S : Carried (F := F) c) (K : BitVec 32 × F .f32 → sProp 𝕄),
    spec1 c i M8 h8 M15 h15 f8 f15 fp k hk S K
      ⊢ wp frame (wpE (defs₀ (F := F)) 𝒱₀ (c : Thread nD τ) (some k)) Set.univ
          (defs₀ (F := F) .tc 1 (arg1 i M8 h8 M15 h15 (BitVec.ofNat 32 k - 1#32) S.2.2)) K := by
  intro k
  induction k with
  | zero =>
    intro hk S K
    rw [spec1_apply]
    show _ ⊢ wp frame (wpE (defs₀ (F := F)) 𝒱₀ (c : Thread nD τ) (some 0)) Set.univ
      (cc0_while1 i cc0_scratch4 projM (Memref.isWhole_whole _) kM (Memref.isWhole_whole _) vM (Memref.isWhole_whole _) M8 h8 M15 h15
              runM (Memref.isWhole_whole _) accM (Memref.isWhole_whole _) (BitVec.ofNat 32 0 - 1#32) S.2.2) K
    simp only [cc0_while1_eq_skeleton]; unfold cc0_while1_skel
    rw [if_neg (cond_zero S.2.2)]
    iintro ⟨H, Hk⟩
    simp only [Prog.pure_eq_ret]
    rw [wp_ret]; imodintro
    iapply Hk
    unfold walk1
    iexact H
  | succ k ih =>
    intro hk S K
    rw [spec1_apply, pred_succ]
    show _ ⊢ wp frame (wpE (defs₀ (F := F)) 𝒱₀ (c : Thread nD τ) (some (k + 1))) Set.univ
      (cc0_while1 i cc0_scratch4 projM (Memref.isWhole_whole _) kM (Memref.isWhole_whole _) vM (Memref.isWhole_whole _) M8 h8 M15 h15
              runM (Memref.isWhole_whole _) accM (Memref.isWhole_whole _) (BitVec.ofNat 32 k) S.2.2) K
    by_cases hc : cond (F := F) (BitVec.ofNat 32 k) S.2.2
    · unfold walk1
      rw [if_pos hc]
      unfold held
      iintro ⟨⟨H8, H15, Hp, Ha, Hr, ⟨%fk, Hkb⟩, ⟨%fv, Hvb⟩, Hs0, Hs1, ⟨%Ws, HW⟩⟩, Hk⟩
      iapply ((trip1 c i M8 h8 M15 h15 (BitVec.ofNat 32 k) (chk1_of i k (by omega)) f8 f15 fp S.1 S.2.1).2 S.2.2 hc fk fv Ws (some (k + 1)) K)
      isplitl [H8]; · iexact H8
      isplitl [H15]; · iexact H15
      isplitl [Hp]; · iexact Hp
      isplitl [Ha]; · iexact Ha
      isplitl [Hr]; · iexact Hr
      isplitl [Hkb]; · iexact Hkb
      isplitl [Hvb]; · iexact Hvb
      isplitl [Hs0]; · iexact Hs0
      isplitl [Hs1]; · iexact Hs1
      isplitl [HW]; · iexact HW
      iintro ⟨H8, H15, Hp, Ha, Hr, Hkb, Hvb, Hs0, Hs1, HW⟩
      iapply (wp_call_spec 𝒱₀ (c : Thread nD τ) (some (k + 1)) Set.univ
        (spec1 c i M8 h8 M15 h15 f8 f15 fp k (by omega) (step1 c i M8 h8 M15 h15 f8 f15 fp k (by omega) S)) k
        (fun u hu => by cases hu; exact Nat.lt_succ_self k) (ih (by omega) (step1 c i M8 h8 M15 h15 f8 f15 fp k (by omega) S)))
      rw [spec1_apply]; unfold held
      isplitl [H8 H15 Hp Ha Hr Hkb Hvb Hs0 Hs1 HW]
      · isplitl [H8]; · iexact H8
        isplitl [H15]; · iexact H15
        isplitl [Hp]; · iexact Hp
        isplitl [Ha]; · iexact Ha
        isplitl [Hr]; · iexact Hr
        isplitl [Hkb]; · iexact Hkb
        isplitl [Hvb]; · iexact Hvb
        isplitl [Hs0]; · iexact Hs0
        isplitl [Hs1]; · iexact Hs1
        iexact HW
      iintro %r H
      rw [wp_ret]; imodintro
      iapply Hk $$ H
    · simp only [cc0_while1_eq_skeleton]; unfold cc0_while1_skel
      rw [if_neg hc]
      iintro ⟨H, Hk⟩
      simp only [Prog.pure_eq_ret]
      rw [wp_ret]; imodintro
      iapply Hk
      unfold walk1
      rw [if_neg hc]
      iexact H

/-- The second walk's specification at `k` blocks left. -/
def spec2 (k : ℕ) (hk : k ≤ 128) (S : Carried (F := F) c) : sWPT 𝕄 (BitVec 32 × F .f32) := do
  sWPT.consume (held c M8 M15 f8 f15 fp S)
  let r ← sWPT.arbitrary
  sWPT.produce (held c M8 M15 f8 f15 fp (walk2 c i M8 h8 M15 h15 f8 f15 fp k hk S))
  pure r
theorem spec2_apply (k : ℕ) (hk : k ≤ 128) (S : Carried (F := F) c) (K : BitVec 32 × F .f32 → sProp 𝕄) :
    spec2 c i M8 h8 M15 h15 f8 f15 fp k hk S K = iprop(held c M8 M15 f8 f15 fp S
      ∗ ∀ r : BitVec 32 × F .f32, (held c M8 M15 f8 f15 fp (walk2 c i M8 h8 M15 h15 f8 f15 fp k hk S) -∗ K r)) := rfl

/-- The second walk's label meets its specification. -/
theorem spec2_le : ∀ (k : ℕ) (hk : k ≤ 128) (S : Carried (F := F) c) (K : BitVec 32 × F .f32 → sProp 𝕄),
    spec2 c i M8 h8 M15 h15 f8 f15 fp k hk S K
      ⊢ wp frame (wpE (defs₀ (F := F)) 𝒱₀ (c : Thread nD τ) (some k)) Set.univ
          (defs₀ (F := F) .tc 2 (arg2 i M8 h8 M15 h15 (BitVec.ofNat 32 k - 1#32) S.2.2)) K := by
  intro k
  induction k with
  | zero =>
    intro hk S K
    rw [spec2_apply]
    show _ ⊢ wp frame (wpE (defs₀ (F := F)) 𝒱₀ (c : Thread nD τ) (some 0)) Set.univ
      (cc0_while2 i cc0_scratch4 projM (Memref.isWhole_whole _) kM (Memref.isWhole_whole _) vM (Memref.isWhole_whole _) M8 h8 M15 h15
              runM (Memref.isWhole_whole _) accM (Memref.isWhole_whole _) (BitVec.ofNat 32 0 - 1#32) S.2.2) K
    simp only [cc0_while2_eq_skeleton]; unfold cc0_while2_skel
    rw [if_neg (cond_zero S.2.2)]
    iintro ⟨H, Hk⟩
    simp only [Prog.pure_eq_ret]
    rw [wp_ret]; imodintro
    iapply Hk
    unfold walk2
    iexact H
  | succ k ih =>
    intro hk S K
    rw [spec2_apply, pred_succ]
    show _ ⊢ wp frame (wpE (defs₀ (F := F)) 𝒱₀ (c : Thread nD τ) (some (k + 1))) Set.univ
      (cc0_while2 i cc0_scratch4 projM (Memref.isWhole_whole _) kM (Memref.isWhole_whole _) vM (Memref.isWhole_whole _) M8 h8 M15 h15
              runM (Memref.isWhole_whole _) accM (Memref.isWhole_whole _) (BitVec.ofNat 32 k) S.2.2) K
    by_cases hc : cond (F := F) (BitVec.ofNat 32 k) S.2.2
    · unfold walk2
      rw [if_pos hc]
      unfold held
      iintro ⟨⟨H8, H15, Hp, Ha, Hr, ⟨%fk, Hkb⟩, ⟨%fv, Hvb⟩, Hs0, Hs1, ⟨%Ws, HW⟩⟩, Hk⟩
      iapply ((trip2 c i M8 h8 M15 h15 (BitVec.ofNat 32 k) (chk2_of i k (by omega)) f8 f15 fp S.1 S.2.1).2 S.2.2 hc fk fv Ws (some (k + 1)) K)
      isplitl [H8]; · iexact H8
      isplitl [H15]; · iexact H15
      isplitl [Hp]; · iexact Hp
      isplitl [Ha]; · iexact Ha
      isplitl [Hr]; · iexact Hr
      isplitl [Hkb]; · iexact Hkb
      isplitl [Hvb]; · iexact Hvb
      isplitl [Hs0]; · iexact Hs0
      isplitl [Hs1]; · iexact Hs1
      isplitl [HW]; · iexact HW
      iintro ⟨H8, H15, Hp, Ha, Hr, Hkb, Hvb, Hs0, Hs1, HW⟩
      iapply (wp_call_spec 𝒱₀ (c : Thread nD τ) (some (k + 1)) Set.univ
        (spec2 c i M8 h8 M15 h15 f8 f15 fp k (by omega) (step2 c i M8 h8 M15 h15 f8 f15 fp k (by omega) S)) k
        (fun u hu => by cases hu; exact Nat.lt_succ_self k) (ih (by omega) (step2 c i M8 h8 M15 h15 f8 f15 fp k (by omega) S)))
      rw [spec2_apply]; unfold held
      isplitl [H8 H15 Hp Ha Hr Hkb Hvb Hs0 Hs1 HW]
      · isplitl [H8]; · iexact H8
        isplitl [H15]; · iexact H15
        isplitl [Hp]; · iexact Hp
        isplitl [Ha]; · iexact Ha
        isplitl [Hr]; · iexact Hr
        isplitl [Hkb]; · iexact Hkb
        isplitl [Hvb]; · iexact Hvb
        isplitl [Hs0]; · iexact Hs0
        isplitl [Hs1]; · iexact Hs1
        iexact HW
      iintro %r H
      rw [wp_ret]; imodintro
      iapply Hk $$ H
    · simp only [cc0_while2_eq_skeleton]; unfold cc0_while2_skel
      rw [if_neg hc]
      iintro ⟨H, Hk⟩
      simp only [Prog.pure_eq_ret]
      rw [wp_ret]; imodintro
      iapply Hk
      unfold walk2
      rw [if_neg hc]
      iexact H

end

end Cert.KernelIdeal.Run
-- ==== Proof.Body.lean ====
/-
  The attention kernel's body at one grid point, run once at symbolic contents.
-/
module

public import proofs.«01_k».proof.Proof.Walk

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The kernel's two tests of the second grid coordinate against two. -/
abbrev isFar (i : grid0.Coords) : Prop :=
  Scalar.cmpi .ne (Scalar.extui (Scalar.cmpi .sge (BitVec.ofNat 32 (i 1).val) 2#32) : BitVec 32) 0#32 = 1#1
abbrev isNear (i : grid0.Coords) : Prop :=
  Scalar.cmpi .ne (Scalar.extui (Scalar.cmpi .slt (BitVec.ofNat 32 (i 1).val) 2#32) : BitVec 32) 0#32 = 1#1
theorem far_tests (i : grid0.Coords) (hi : 2 ≤ (i 1).val) : isFar i ∧ ¬ isNear i := by
  have h : ∀ j : Fin 128, 2 ≤ j.val → (Scalar.cmpi .ne (Scalar.extui (Scalar.cmpi .sge (BitVec.ofNat 32 j.val) 2#32) : BitVec 32) 0#32 = 1#1)
      ∧ ¬ (Scalar.cmpi .ne (Scalar.extui (Scalar.cmpi .slt (BitVec.ofNat 32 j.val) 2#32) : BitVec 32) 0#32 = 1#1) := by
    decide +kernel
  exact h ⟨(i 1).val, (i 1).isLt⟩ hi
theorem near_tests (i : grid0.Coords) (hi : (i 1).val < 2) : ¬ isFar i ∧ isNear i := by
  have h : ∀ j : Fin 128, j.val < 2 → ¬ (Scalar.cmpi .ne (Scalar.extui (Scalar.cmpi .sge (BitVec.ofNat 32 j.val) 2#32) : BitVec 32) 0#32 = 1#1)
      ∧ (Scalar.cmpi .ne (Scalar.extui (Scalar.cmpi .slt (BitVec.ofNat 32 j.val) 2#32) : BitVec 32) 0#32 = 1#1) := by
    decide +kernel
  exact h ⟨(i 1).val, (i 1).isLt⟩ hi
/-- The block before the first a walk reads: the query's own block less three, or −1. -/
theorem walk_start (i : grid0.Coords) :
    Scalar.subi (Scalar.maxsi (Scalar.subi (BitVec.ofNat 32 (i 1).val) 2#32) 0#32) 1#32 = BitVec.ofNat 32 ((i 1).val - 2) - 1#32 := by
  have h : ∀ j : Fin 128, Scalar.subi (Scalar.maxsi (Scalar.subi (BitVec.ofNat 32 j.val) 2#32) 0#32) 1#32 = BitVec.ofNat 32 (j.val - 2) - 1#32 := by
    decide +kernel
  exact h ⟨(i 1).val, (i 1).isLt⟩
theorem walk_le (i : grid0.Coords) : (i 1).val - 2 ≤ 128 := by
  have h := (i 1).isLt
  change (i 1).val < 128 at h
  omega

set_option maxHeartbeats 16000000 in
/-- The body at a query block from the third on: what it leaves in the two result blocks, whatever the buffers hold at first. -/
def far (c : Dev nD) (i : grid0.Coords) (hi : 2 ≤ (i 1).val)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM) :
    { W : Bf (F := F) c M17 × Bf (F := F) c M18 //
      ∀ (f17 : Bf (F := F) c M17) (f18 : Bf (F := F) c M18) (fa : Bf (F := F) c accM) (fr : Bf (F := F) c runM) (fk : Bf (F := F) c kM)
        (fv : Bf (F := F) c vM) (Ws : Waits sig Unit) (K : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c projM fp ∗ pt c M17 f17 ∗ pt c M18 f18
          ∗ pt c accM fa ∗ pt c runM fr ∗ pt c kM fk ∗ pt c vM fv
          ∗ semVal ((c : Thread nD τ), SemLoc.dma 30) 0 ∗ semVal ((c : Thread nD τ), SemLoc.dma 31) 0 ∗ owes (c : Thread nD τ) 0 Ws
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c projM fp ∗ pt c M17 W.1 ∗ pt c M18 W.2
                ∗ (∃ f, pt c accM f) ∗ (∃ f, pt c runM f) ∗ (∃ f, pt c kM f) ∗ (∃ f, pt c vM f)
                ∗ semVal ((c : Thread nD τ), SemLoc.dma 30) 0 ∗ semVal ((c : Thread nD τ), SemLoc.dma 31) 0 ∗ ∃ Ws', owes (c : Thread nD τ) 0 Ws')
              -∗ K ⟨⟩))
        ⊢ wp frame (wpE (defs₀ (F := F)) 𝒱₀ (c : Thread nD τ) none) Set.univ
            (cc0_attention i M2 h2 M3 h3 M4 h4 M5 h5 M6 h6 M7 h7 M8 h8 M9 h9 M10 h10 M11 h11 M12 h12 M13 h13 M14 h14 M15 h15 projM (Memref.isWhole_whole _) M17 h17 M18 h18 accM (Memref.isWhole_whole _) runM (Memref.isWhole_whole _)
              kM (Memref.isWhole_whole _) vM (Memref.isWhole_whole _) cc0_scratch4) K } := by
  refine ⟨⟨?_, ?_⟩, fun f17 f18 fa fr fk fv Ws K => ?run⟩
  case run =>
    simp only [cc0_attention_eq_skeleton]; unfold cc0_attention_skel
    iintro ⟨H2, H3, H4, H5, H6, H7, H8, H9, H10, H11, H12, H13, H14, H15, Hp, H17, H18, Ha, Hr, Hkb, Hvb, Hs0, Hs1, HW, Hk⟩
    (set_option sl_exec.squeezeSlice true in
     sl_exec_parts! (disch := first | exact (far_tests i hi).1 | exact (far_tests i hi).2))
    rewrite [show far.sl.v1264 i = BitVec.ofNat 32 ((i 1).val - 2) - 1#32 from walk_start i]
    iapply (wp_call_spec 𝒱₀ (c : Thread nD τ) none Set.univ
      (spec1 c i M8 h8 M15 h15 f8 f15 fp ((i 1).val - 2) (walk_le i) (_, _, _)) ((i 1).val - 2)
      (fun u hu => nomatch hu) (spec1_le c i M8 h8 M15 h15 f8 f15 fp ((i 1).val - 2) (walk_le i) (_, _, _)))
    rw [spec1_apply]; unfold held
    isplitl [H8 H15 Hp Ha Hr Hkb Hvb Hs0 Hs1 HW]
    · isplitl [H8]; · iexact H8
      isplitl [H15]; · iexact H15
      isplitl [Hp]; · iexact Hp
      isplitl [Ha]; · iexact Ha
      isplitl [Hr]; · iexact Hr
      isplitl [Hkb]; · iexists _; iexact Hkb
      isplitl [Hvb]; · iexists _; iexact Hvb
      isplitl [Hs0]; · iexact Hs0
      isplitl [Hs1]; · iexact Hs1
      iexists _; iexact HW
    iintro %r ⟨H8, H15, Hp, Ha, Hr, ⟨%fk1, Hkb⟩, ⟨%fv1, Hvb⟩, Hs0, Hs1, ⟨%Ws1, HW⟩⟩
    (set_option sl_exec.squeezeSlice true in
     sl_exec_parts! (disch := first | exact (far_tests i hi).1 | exact (far_tests i hi).2))
    rewrite [show far.sl.v1307 i = BitVec.ofNat 32 ((i 1).val - 2) - 1#32 from walk_start i]
    iapply (wp_call_spec 𝒱₀ (c : Thread nD τ) none Set.univ
      (spec2 c i M8 h8 M15 h15 f8 f15 fp ((i 1).val - 2) (walk_le i) (_, _, _)) ((i 1).val - 2)
      (fun u hu => nomatch hu) (spec2_le c i M8 h8 M15 h15 f8 f15 fp ((i 1).val - 2) (walk_le i) (_, _, _)))
    rw [spec2_apply]; unfold held
    isplitl [H8 H15 Hp Ha Hr Hkb Hvb Hs0 Hs1 HW]
    · isplitl [H8]; · iexact H8
      isplitl [H15]; · iexact H15
      isplitl [Hp]; · iexact Hp
      isplitl [Ha]; · iexact Ha
      isplitl [Hr]; · iexact Hr
      isplitl [Hkb]; · iexists _; iexact Hkb
      isplitl [Hvb]; · iexists _; iexact Hvb
      isplitl [Hs0]; · iexact Hs0
      isplitl [Hs1]; · iexact Hs1
      iexists _; iexact HW
    iintro %r2 ⟨H8, H15, Hp, Ha, Hr, ⟨%fk2, Hkb⟩, ⟨%fv2, Hvb⟩, Hs0, Hs1, ⟨%Ws2, HW⟩⟩
    (set_option sl_exec.squeezeSlice true in
     sl_exec_parts! (disch := first | exact (far_tests i hi).1 | exact (far_tests i hi).2))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hp]; · iexact Hp
    isplitl [H17]; · iexact H17
    isplitl [H18]; · iexact H18
    isplitl [Ha]; · iexists _; iexact Ha
    isplitl [Hr]; · iexists _; iexact Hr
    isplitl [Hkb]; · iexists _; iexact Hkb
    isplitl [Hvb]; · iexists _; iexact Hvb
    isplitl [Hs0]; · iexact Hs0
    isplitl [Hs1]; · iexact Hs1
    iexists _; iexact HW

set_option maxHeartbeats 16000000 in
/-- The body at the first two query blocks. -/
def near (c : Dev nD) (i : grid0.Coords) (hi : (i 1).val < 2)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM) :
    { W : Bf (F := F) c M17 × Bf (F := F) c M18 //
      ∀ (f17 : Bf (F := F) c M17) (f18 : Bf (F := F) c M18) (fa : Bf (F := F) c accM) (fr : Bf (F := F) c runM) (fk : Bf (F := F) c kM)
        (fv : Bf (F := F) c vM) (Ws : Waits sig Unit) (K : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c projM fp ∗ pt c M17 f17 ∗ pt c M18 f18
          ∗ pt c accM fa ∗ pt c runM fr ∗ pt c kM fk ∗ pt c vM fv
          ∗ semVal ((c : Thread nD τ), SemLoc.dma 30) 0 ∗ semVal ((c : Thread nD τ), SemLoc.dma 31) 0 ∗ owes (c : Thread nD τ) 0 Ws
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c projM fp ∗ pt c M17 W.1 ∗ pt c M18 W.2
                ∗ (∃ f, pt c accM f) ∗ (∃ f, pt c runM f) ∗ (∃ f, pt c kM f) ∗ (∃ f, pt c vM f)
                ∗ semVal ((c : Thread nD τ), SemLoc.dma 30) 0 ∗ semVal ((c : Thread nD τ), SemLoc.dma 31) 0 ∗ ∃ Ws', owes (c : Thread nD τ) 0 Ws')
              -∗ K ⟨⟩))
        ⊢ wp frame (wpE (defs₀ (F := F)) 𝒱₀ (c : Thread nD τ) none) Set.univ
            (cc0_attention i M2 h2 M3 h3 M4 h4 M5 h5 M6 h6 M7 h7 M8 h8 M9 h9 M10 h10 M11 h11 M12 h12 M13 h13 M14 h14 M15 h15 projM (Memref.isWhole_whole _) M17 h17 M18 h18 accM (Memref.isWhole_whole _) runM (Memref.isWhole_whole _)
              kM (Memref.isWhole_whole _) vM (Memref.isWhole_whole _) cc0_scratch4) K } := by
  refine ⟨⟨?_, ?_⟩, fun f17 f18 fa fr fk fv Ws K => ?run⟩
  case run =>
    simp only [cc0_attention_eq_skeleton]; unfold cc0_attention_skel
    iintro ⟨H2, H3, H4, H5, H6, H7, H8, H9, H10, H11, H12, H13, H14, H15, Hp, H17, H18, Ha, Hr, Hkb, Hvb, Hs0, Hs1, HW, Hk⟩
    (set_option sl_exec.squeezeSlice true in
     sl_exec_parts! (disch := first | exact (near_tests i hi).1 | exact (near_tests i hi).2))
    rewrite [show near.sl.v1264 i = BitVec.ofNat 32 ((i 1).val - 2) - 1#32 from walk_start i]
    iapply (wp_call_spec 𝒱₀ (c : Thread nD τ) none Set.univ
      (spec1 c i M8 h8 M15 h15 f8 f15 fp ((i 1).val - 2) (walk_le i) (_, _, _)) ((i 1).val - 2)
      (fun u hu => nomatch hu) (spec1_le c i M8 h8 M15 h15 f8 f15 fp ((i 1).val - 2) (walk_le i) (_, _, _)))
    rw [spec1_apply]; unfold held
    isplitl [H8 H15 Hp Ha Hr Hkb Hvb Hs0 Hs1 HW]
    · isplitl [H8]; · iexact H8
      isplitl [H15]; · iexact H15
      isplitl [Hp]; · iexact Hp
      isplitl [Ha]; · iexact Ha
      isplitl [Hr]; · iexact Hr
      isplitl [Hkb]; · iexists _; iexact Hkb
      isplitl [Hvb]; · iexists _; iexact Hvb
      isplitl [Hs0]; · iexact Hs0
      isplitl [Hs1]; · iexact Hs1
      iexists _; iexact HW
    iintro %r ⟨H8, H15, Hp, Ha, Hr, ⟨%fk1, Hkb⟩, ⟨%fv1, Hvb⟩, Hs0, Hs1, ⟨%Ws1, HW⟩⟩
    (set_option sl_exec.squeezeSlice true in
     sl_exec_parts! (disch := first | exact (near_tests i hi).1 | exact (near_tests i hi).2))
    rewrite [show near.sl.v1307 i = BitVec.ofNat 32 ((i 1).val - 2) - 1#32 from walk_start i]
    iapply (wp_call_spec 𝒱₀ (c : Thread nD τ) none Set.univ
      (spec2 c i M8 h8 M15 h15 f8 f15 fp ((i 1).val - 2) (walk_le i) (_, _, _)) ((i 1).val - 2)
      (fun u hu => nomatch hu) (spec2_le c i M8 h8 M15 h15 f8 f15 fp ((i 1).val - 2) (walk_le i) (_, _, _)))
    rw [spec2_apply]; unfold held
    isplitl [H8 H15 Hp Ha Hr Hkb Hvb Hs0 Hs1 HW]
    · isplitl [H8]; · iexact H8
      isplitl [H15]; · iexact H15
      isplitl [Hp]; · iexact Hp
      isplitl [Ha]; · iexact Ha
      isplitl [Hr]; · iexact Hr
      isplitl [Hkb]; · iexists _; iexact Hkb
      isplitl [Hvb]; · iexists _; iexact Hvb
      isplitl [Hs0]; · iexact Hs0
      isplitl [Hs1]; · iexact Hs1
      iexists _; iexact HW
    iintro %r2 ⟨H8, H15, Hp, Ha, Hr, ⟨%fk2, Hkb⟩, ⟨%fv2, Hvb⟩, Hs0, Hs1, ⟨%Ws2, HW⟩⟩
    (set_option sl_exec.squeezeSlice true in
     sl_exec_parts! (disch := first | exact (near_tests i hi).1 | exact (near_tests i hi).2))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hp]; · iexact Hp
    isplitl [H17]; · iexact H17
    isplitl [H18]; · iexact H18
    isplitl [Ha]; · iexists _; iexact Ha
    isplitl [Hr]; · iexists _; iexact Hr
    isplitl [Hkb]; · iexists _; iexact Hkb
    isplitl [Hvb]; · iexists _; iexact Hvb
    isplitl [Hs0]; · iexact Hs0
    isplitl [Hs1]; · iexact Hs1
    iexists _; iexact HW

end Cert.KernelIdeal.Run
-- ==== Proof.Launch.lean ====
/-
  The attention kernel's launch: the data of its one pipeline, the body at every grid point, and the run of the whole program.
-/
module

public import proofs.«01_k».proof.Proof.Body
public import proofs.«01_k».proof.Proof.Gen.KernelIdeal.Points
public import Idealize.ShloMosaic.Lib.Pipeline.FrameBody
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The buffers the pipeline finds -/

/-- What the device's buffers hold when the pipeline is entered: after the host operations before it. -/
abbrev V₀ (c : Dev nD) : Valuation τ sig (Elt F) := StableHlo.after hostOps0 (fun b => m (c, b))
abbrev V (c : Dev nD) (b : Ref sig .tc) : Buf (Elt F) ((c : Thread nD τ).loc b) := V₀ m c (Proc.devRef .tc b)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] hostOps0_sub hostOps0_fresh main_chain

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))
/-- The same as the contents of the whole staging buffer, for a window whose block width does not divide the array's. -/
def xblk (c : Dev nD) (w : Fin (cfg0 (F := F)).W) (t : Fin (cfg0 (F := F)).N) : ((cfg0 (F := F)).win w).block.Idx → Elt F ((cfg0 (F := F)).win w).elt :=
  ((cfg0 (F := F)).win w).fill ((cfg0 (F := F)).grid.coords t) (fun _ => Classical.arbitrary _) (iblk m c w t)

abbrev ms0 (t : Fin (cfg0 (F := F)).N) : Memref sig .tc .smem S16 .f32 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S2x128x1024 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S2x128x128 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S2x128x128 .bf16 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S2x128x128 .bf16 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S2x128x128 .bf16 := win0_5.stage ((cfg0 (F := F)).slots t 5)
abbrev hs5 (t : Fin (cfg0 (F := F)).N) : (ms5 t).IsWhole := hstage0_5 (((cfg0 (F := F)).slots t 5).cast nbuf0_5)
abbrev ms6 (t : Fin (cfg0 (F := F)).N) : Memref sig .tc .vmem S2x128x512 .bf16 := win0_6.stage ((cfg0 (F := F)).slots t 6)
abbrev hs6 (t : Fin (cfg0 (F := F)).N) : (ms6 t).IsWhole := hstage0_6 (((cfg0 (F := F)).slots t 6).cast nbuf0_6)
abbrev ms7 (t : Fin (cfg0 (F := F)).N) : Memref sig .tc .vmem S2x128x512 .bf16 := win0_7.stage ((cfg0 (F := F)).slots t 7)
abbrev hs7 (t : Fin (cfg0 (F := F)).N) : (ms7 t).IsWhole := hstage0_7 (((cfg0 (F := F)).slots t 7).cast nbuf0_7)
abbrev ms8 (t : Fin (cfg0 (F := F)).N) : Memref sig .tc .vmem S2x128x512 .bf16 := win0_8.stage ((cfg0 (F := F)).slots t 8)
abbrev hs8 (t : Fin (cfg0 (F := F)).N) : (ms8 t).IsWhole := hstage0_8 (((cfg0 (F := F)).slots t 8).cast nbuf0_8)
abbrev ms9 (t : Fin (cfg0 (F := F)).N) : Memref sig .tc .vmem S2x128x512 .bf16 := win0_9.stage ((cfg0 (F := F)).slots t 9)
abbrev hs9 (t : Fin (cfg0 (F := F)).N) : (ms9 t).IsWhole := hstage0_9 (((cfg0 (F := F)).slots t 9).cast nbuf0_9)
abbrev ms10 (t : Fin (cfg0 (F := F)).N) : Memref sig .tc .vmem S2x128x512 .bf16 := win0_10.stage ((cfg0 (F := F)).slots t 10)
abbrev hs10 (t : Fin (cfg0 (F := F)).N) : (ms10 t).IsWhole := hstage0_10 (((cfg0 (F := F)).slots t 10).cast nbuf0_10)
abbrev ms11 (t : Fin (cfg0 (F := F)).N) : Memref sig .tc .vmem S2x128x512 .bf16 := win0_11.stage ((cfg0 (F := F)).slots t 11)
abbrev hs11 (t : Fin (cfg0 (F := F)).N) : (ms11 t).IsWhole := hstage0_11 (((cfg0 (F := F)).slots t 11).cast nbuf0_11)
abbrev ms12 (t : Fin (cfg0 (F := F)).N) : Memref sig .tc .vmem S2x128x512 .bf16 := win0_12.stage ((cfg0 (F := F)).slots t 12)
abbrev hs12 (t : Fin (cfg0 (F := F)).N) : (ms12 t).IsWhole := hstage0_12 (((cfg0 (F := F)).slots t 12).cast nbuf0_12)
abbrev ms13 (t : Fin (cfg0 (F := F)).N) : Memref sig .tc .vmem S256x256 .bf16 := win0_13.stage ((cfg0 (F := F)).slots t 13)
abbrev hs13 (t : Fin (cfg0 (F := F)).N) : (ms13 t).IsWhole := hstage0_13 (((cfg0 (F := F)).slots t 13).cast nbuf0_13)
abbrev ms14 (t : Fin (cfg0 (F := F)).N) : Memref sig .tc .vmem S2x128x1024 .bf16 := win0_14.stage ((cfg0 (F := F)).slots t 14)
abbrev hs14 (t : Fin (cfg0 (F := F)).N) : (ms14 t).IsWhole := hstage0_14 (((cfg0 (F := F)).slots t 14).cast nbuf0_14)
abbrev ms15 (t : Fin (cfg0 (F := F)).N) : Memref sig .tc .vmem S2x128x512 .bf16 := win0_15.stage ((cfg0 (F := F)).slots t 15)
abbrev hs15 (t : Fin (cfg0 (F := F)).N) : (ms15 t).IsWhole := hstage0_15 (((cfg0 (F := F)).slots t 15).cast nbuf0_15)
/-- What the body finds in window 0's buffer at point `t`. -/
abbrev in0 (c : Dev nD) (t : Fin (cfg0 (F := F)).N) : Bf (F := F) c (ms0 t) := (hs0 t).unread (iblk m c 0 t)
/-- What the body finds in window 1's buffer at point `t`. -/
abbrev in1 (c : Dev nD) (t : Fin (cfg0 (F := F)).N) : Bf (F := F) c (ms1 t) := (hs1 t).unread (xblk m c 1 t)
/-- What the body finds in window 2's buffer at point `t`. -/
abbrev in2 (c : Dev nD) (t : Fin (cfg0 (F := F)).N) : Bf (F := F) c (ms2 t) := (hs2 t).unread (iblk m c 2 t)
/-- What the body finds in window 3's buffer at point `t`. -/
abbrev in3 (c : Dev nD) (t : Fin (cfg0 (F := F)).N) : Bf (F := F) c (ms3 t) := (hs3 t).unread (iblk m c 3 t)
/-- What the body finds in window 4's buffer at point `t`. -/
abbrev in4 (c : Dev nD) (t : Fin (cfg0 (F := F)).N) : Bf (F := F) c (ms4 t) := (hs4 t).unread (iblk m c 4 t)
/-- What the body finds in window 5's buffer at point `t`. -/
abbrev in5 (c : Dev nD) (t : Fin (cfg0 (F := F)).N) : Bf (F := F) c (ms5 t) := (hs5 t).unread (iblk m c 5 t)
/-- What the body finds in window 6's buffer at point `t`. -/
abbrev in6 (c : Dev nD) (t : Fin (cfg0 (F := F)).N) : Bf (F := F) c (ms6 t) := (hs6 t).unread (xblk m c 6 t)
/-- What the body finds in window 7's buffer at point `t`. -/
abbrev in7 (c : Dev nD) (t : Fin (cfg0 (F := F)).N) : Bf (F := F) c (ms7 t) := (hs7 t).unread (xblk m c 7 t)
/-- What the body finds in window 8's buffer at point `t`. -/
abbrev in8 (c : Dev nD) (t : Fin (cfg0 (F := F)).N) : Bf (F := F) c (ms8 t) := (hs8 t).unread (xblk m c 8 t)
/-- What the body finds in window 9's buffer at point `t`. -/
abbrev in9 (c : Dev nD) (t : Fin (cfg0 (F := F)).N) : Bf (F := F) c (ms9 t) := (hs9 t).unread (xblk m c 9 t)
/-- What the body finds in window 10's buffer at point `t`. -/
abbrev in10 (c : Dev nD) (t : Fin (cfg0 (F := F)).N) : Bf (F := F) c (ms10 t) := (hs10 t).unread (xblk m c 10 t)
/-- What the body finds in window 11's buffer at point `t`. -/
abbrev in11 (c : Dev nD) (t : Fin (cfg0 (F := F)).N) : Bf (F := F) c (ms11 t) := (hs11 t).unread (xblk m c 11 t)
/-- What the body finds in window 12's buffer at point `t`. -/
abbrev in12 (c : Dev nD) (t : Fin (cfg0 (F := F)).N) : Bf (F := F) c (ms12 t) := (hs12 t).unread (xblk m c 12 t)
/-- What the body finds in window 13's buffer at point `t`. -/
abbrev in13 (c : Dev nD) (t : Fin (cfg0 (F := F)).N) : Bf (F := F) c (ms13 t) := (hs13 t).unread (iblk m c 13 t)

/-- The two result blocks' buffers after the body at point `t`. -/
def outs (c : Dev nD) (t : Fin (cfg0 (F := F)).N) : Bf (F := F) c (ms14 t) × Bf (F := F) c (ms15 t) :=
  if h : 2 ≤ ((grid0.coords t) 1).val then
    (far c (grid0.coords t) h (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0)).1
  else
    (near c (grid0.coords t) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0)).1

/-! ## The kernel's own semaphores and the array it copies from -/

abbrev osem0 : Fin 2 → SemLoc sig := fun j => (![SemLoc.dma 30, SemLoc.dma 31] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 30) 0 ∗ semVal ((c : Thread nD τ), SemLoc.dma 31) 0) := by
  rw [Pipeline.ownSems0_eq_of_list c osem0 [0, 1] (by decide) (by decide)]; rfl
/-- The projected array, which the kernel copies blocks of by itself. -/
def H0 : Finset (Ref sig .tc) := {main_arg0}
theorem H0_sub : H0 ⊆ Pipeline.restRefs sig spec0 := by decide
theorem H0_eq (c : Dev nD) :
    (bigSep H0 (fun b => ((c : Thread nD τ).loc b) ↦{fullShare} V m c b) : sProp 𝕄) = iprop(pt c projM (V m c main_arg0)) := by
  rw [BI.bigSep_eq_bigSepL_of_eq [main_arg0] (by decide) (by decide)]; rfl

theorem PhiD0_eq (c : Dev nD) :
    (Pipeline.ΦD osem0 spec0 H0 (V m) c : sProp 𝕄)
      = iprop(iprop((∃ f, pt c accM f) ∗ (∃ f, pt c runM f) ∗ (∃ f, pt c kM f) ∗ (∃ f, pt c vM f)) ∗ (∃ r, prngReg c r)
          ∗ iprop(semVal ((c : Thread nD τ), SemLoc.dma 30) 0 ∗ semVal ((c : Thread nD τ), SemLoc.dma 31) 0)
          ∗ iprop(pt c projM (V m c main_arg0))) := by
  rw [Pipeline.ΦD_eq, scopedRest0_eq, ownSems00_eq, H0_eq]; try rfl

/-! ## The pipeline's data -/

def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => xblk m c 1 t
    | ⟨2, _⟩ => iblk m c 2 t
    | ⟨3, _⟩ => iblk m c 3 t
    | ⟨4, _⟩ => iblk m c 4 t
    | ⟨5, _⟩ => iblk m c 5 t
    | ⟨6, _⟩ => xblk m c 6 t
    | ⟨7, _⟩ => xblk m c 7 t
    | ⟨8, _⟩ => xblk m c 8 t
    | ⟨9, _⟩ => xblk m c 9 t
    | ⟨10, _⟩ => xblk m c 10 t
    | ⟨11, _⟩ => xblk m c 11 t
    | ⟨12, _⟩ => xblk m c 12 t
    | ⟨13, _⟩ => iblk m c 13 t
    | ⟨14, _⟩ => (ms14 t).view.read (Elt F) (outs m c t).1
    | ⟨15, _⟩ => (ms15 t).view.read (Elt F) (outs m c t).2
    | ⟨n + 16, h⟩ => absurd h (Nat.not_lt.2 (Nat.le_add_left 16 n))
  Φ _ := Pipeline.ΦD osem0 spec0 H0 (V m) c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; try rfl
theorem after0_1 (c : Dev nD) (t : Fin (cfg0 (F := F)).N) : (dats m 0 c).after 1 t = xblk m c 1 t := by dsimp only [dats]; try rfl
theorem after0_2 (c : Dev nD) (t : Fin (cfg0 (F := F)).N) : (dats m 0 c).after 2 t = iblk m c 2 t := by dsimp only [dats]; try rfl
theorem after0_3 (c : Dev nD) (t : Fin (cfg0 (F := F)).N) : (dats m 0 c).after 3 t = iblk m c 3 t := by dsimp only [dats]; try rfl
theorem after0_4 (c : Dev nD) (t : Fin (cfg0 (F := F)).N) : (dats m 0 c).after 4 t = iblk m c 4 t := by dsimp only [dats]; try rfl
theorem after0_5 (c : Dev nD) (t : Fin (cfg0 (F := F)).N) : (dats m 0 c).after 5 t = iblk m c 5 t := by dsimp only [dats]; try rfl
theorem after0_6 (c : Dev nD) (t : Fin (cfg0 (F := F)).N) : (dats m 0 c).after 6 t = xblk m c 6 t := by dsimp only [dats]; try rfl
theorem after0_7 (c : Dev nD) (t : Fin (cfg0 (F := F)).N) : (dats m 0 c).after 7 t = xblk m c 7 t := by dsimp only [dats]; try rfl
theorem after0_8 (c : Dev nD) (t : Fin (cfg0 (F := F)).N) : (dats m 0 c).after 8 t = xblk m c 8 t := by dsimp only [dats]; try rfl
theorem after0_9 (c : Dev nD) (t : Fin (cfg0 (F := F)).N) : (dats m 0 c).after 9 t = xblk m c 9 t := by dsimp only [dats]; try rfl
theorem after0_10 (c : Dev nD) (t : Fin (cfg0 (F := F)).N) : (dats m 0 c).after 10 t = xblk m c 10 t := by dsimp only [dats]; try rfl
theorem after0_11 (c : Dev nD) (t : Fin (cfg0 (F := F)).N) : (dats m 0 c).after 11 t = xblk m c 11 t := by dsimp only [dats]; try rfl
theorem after0_12 (c : Dev nD) (t : Fin (cfg0 (F := F)).N) : (dats m 0 c).after 12 t = xblk m c 12 t := by dsimp only [dats]; try rfl
theorem after0_13 (c : Dev nD) (t : Fin (cfg0 (F := F)).N) : (dats m 0 c).after 13 t = iblk m c 13 t := by dsimp only [dats]; try rfl
theorem after0_14 (c : Dev nD) (t : Fin (cfg0 (F := F)).N) : (dats m 0 c).after 14 t = (ms14 t).view.read (Elt F) (outs m c t).1 := by dsimp only [dats]; try rfl
theorem after0_15 (c : Dev nD) (t : Fin (cfg0 (F := F)).N) : (dats m 0 c).after 15 t = (ms15 t).view.read (Elt F) (outs m c t).2 := by dsimp only [dats]; try rfl

theorem clip0_1 : ∀ (t : Fin (cfg0 (F := F)).N) a, ((cfg0 (F := F)).win 1).clip ((cfg0 (F := F)).grid.coords t) a = none :=
  (by decide +kernel : ∀ (t : Fin grid0.N) (a : Fin 3), Pipeline.Clip.of (cc0_transform_1 (grid0.coords t) a) (S2x128x1024.size a) (S2x16384x6912.size a) = none)
theorem before0_1 (c : Dev nD) (t : Fin (cfg0 (F := F)).N) (d) : (dats m 0 c).before 1 t d = xblk m c 1 t :=
  ((dats m 0 c).before_in_eq_fetched 1 rfl (fun _ => rfl) (fun t t' _ => funext fun a => (clip0_1 t a).trans (clip0_1 t' a).symm)
    (fun t => by rw [after0_1 m c t]; unfold xblk; rw [Pipeline.Window.cut_fill]; unfold Dat.blockOf iblk; rw [A_eq]; try rfl) t d).trans
    (by unfold Dat.fetched; refine (Pipeline.fill_of_clip_none (cfg := cfg0) 1 _ (clip0_1 t) _ (fun _ => Classical.arbitrary _) _).trans ?_; unfold xblk Dat.blockOf iblk; rw [A_eq]; try rfl)
theorem clip0_6 : ∀ (t : Fin (cfg0 (F := F)).N) a, ((cfg0 (F := F)).win 6).clip ((cfg0 (F := F)).grid.coords t) a = none :=
  (by decide +kernel : ∀ (t : Fin grid0.N) (a : Fin 3), Pipeline.Clip.of (cc0_transform_6 (grid0.coords t) a) (S2x128x512.size a) (S2x16384x6912.size a) = none)
theorem before0_6 (c : Dev nD) (t : Fin (cfg0 (F := F)).N) (d) : (dats m 0 c).before 6 t d = xblk m c 6 t :=
  ((dats m 0 c).before_in_eq_fetched 6 rfl (fun _ => rfl) (fun t t' _ => funext fun a => (clip0_6 t a).trans (clip0_6 t' a).symm)
    (fun t => by rw [after0_6 m c t]; unfold xblk; rw [Pipeline.Window.cut_fill]; unfold Dat.blockOf iblk; rw [A_eq]; try rfl) t d).trans
    (by unfold Dat.fetched; refine (Pipeline.fill_of_clip_none (cfg := cfg0) 6 _ (clip0_6 t) _ (fun _ => Classical.arbitrary _) _).trans ?_; unfold xblk Dat.blockOf iblk; rw [A_eq]; try rfl)
theorem clip0_7 : ∀ (t : Fin (cfg0 (F := F)).N) a, ((cfg0 (F := F)).win 7).clip ((cfg0 (F := F)).grid.coords t) a = none :=
  (by decide +kernel : ∀ (t : Fin grid0.N) (a : Fin 3), Pipeline.Clip.of (cc0_transform_7 (grid0.coords t) a) (S2x128x512.size a) (S2x16384x6912.size a) = none)
theorem before0_7 (c : Dev nD) (t : Fin (cfg0 (F := F)).N) (d) : (dats m 0 c).before 7 t d = xblk m c 7 t :=
  ((dats m 0 c).before_in_eq_fetched 7 rfl (fun _ => rfl) (fun t t' _ => funext fun a => (clip0_7 t a).trans (clip0_7 t' a).symm)
    (fun t => by rw [after0_7 m c t]; unfold xblk; rw [Pipeline.Window.cut_fill]; unfold Dat.blockOf iblk; rw [A_eq]; try rfl) t d).trans
    (by unfold Dat.fetched; refine (Pipeline.fill_of_clip_none (cfg := cfg0) 7 _ (clip0_7 t) _ (fun _ => Classical.arbitrary _) _).trans ?_; unfold xblk Dat.blockOf iblk; rw [A_eq]; try rfl)
theorem clip0_8 : ∀ (t : Fin (cfg0 (F := F)).N) a, ((cfg0 (F := F)).win 8).clip ((cfg0 (F := F)).grid.coords t) a = none :=
  (by decide +kernel : ∀ (t : Fin grid0.N) (a : Fin 3), Pipeline.Clip.of (cc0_transform_8 (grid0.coords t) a) (S2x128x512.size a) (S2x16384x6912.size a) = none)
theorem before0_8 (c : Dev nD) (t : Fin (cfg0 (F := F)).N) (d) : (dats m 0 c).before 8 t d = xblk m c 8 t :=
  ((dats m 0 c).before_in_eq_fetched 8 rfl (fun _ => rfl) (fun t t' _ => funext fun a => (clip0_8 t a).trans (clip0_8 t' a).symm)
    (fun t => by rw [after0_8 m c t]; unfold xblk; rw [Pipeline.Window.cut_fill]; unfold Dat.blockOf iblk; rw [A_eq]; try rfl) t d).trans
    (by unfold Dat.fetched; refine (Pipeline.fill_of_clip_none (cfg := cfg0) 8 _ (clip0_8 t) _ (fun _ => Classical.arbitrary _) _).trans ?_; unfold xblk Dat.blockOf iblk; rw [A_eq]; try rfl)
theorem clip0_9 : ∀ (t : Fin (cfg0 (F := F)).N) a, ((cfg0 (F := F)).win 9).clip ((cfg0 (F := F)).grid.coords t) a = none :=
  (by decide +kernel : ∀ (t : Fin grid0.N) (a : Fin 3), Pipeline.Clip.of (cc0_transform_9 (grid0.coords t) a) (S2x128x512.size a) (S2x16384x6912.size a) = none)
theorem before0_9 (c : Dev nD) (t : Fin (cfg0 (F := F)).N) (d) : (dats m 0 c).before 9 t d = xblk m c 9 t :=
  ((dats m 0 c).before_in_eq_fetched 9 rfl (fun _ => rfl) (fun t t' _ => funext fun a => (clip0_9 t a).trans (clip0_9 t' a).symm)
    (fun t => by rw [after0_9 m c t]; unfold xblk; rw [Pipeline.Window.cut_fill]; unfold Dat.blockOf iblk; rw [A_eq]; try rfl) t d).trans
    (by unfold Dat.fetched; refine (Pipeline.fill_of_clip_none (cfg := cfg0) 9 _ (clip0_9 t) _ (fun _ => Classical.arbitrary _) _).trans ?_; unfold xblk Dat.blockOf iblk; rw [A_eq]; try rfl)
theorem clip0_10 : ∀ (t : Fin (cfg0 (F := F)).N) a, ((cfg0 (F := F)).win 10).clip ((cfg0 (F := F)).grid.coords t) a = none :=
  (by decide +kernel : ∀ (t : Fin grid0.N) (a : Fin 3), Pipeline.Clip.of (cc0_transform_10 (grid0.coords t) a) (S2x128x512.size a) (S2x16384x6912.size a) = none)
theorem before0_10 (c : Dev nD) (t : Fin (cfg0 (F := F)).N) (d) : (dats m 0 c).before 10 t d = xblk m c 10 t :=
  ((dats m 0 c).before_in_eq_fetched 10 rfl (fun _ => rfl) (fun t t' _ => funext fun a => (clip0_10 t a).trans (clip0_10 t' a).symm)
    (fun t => by rw [after0_10 m c t]; unfold xblk; rw [Pipeline.Window.cut_fill]; unfold Dat.blockOf iblk; rw [A_eq]; try rfl) t d).trans
    (by unfold Dat.fetched; refine (Pipeline.fill_of_clip_none (cfg := cfg0) 10 _ (clip0_10 t) _ (fun _ => Classical.arbitrary _) _).trans ?_; unfold xblk Dat.blockOf iblk; rw [A_eq]; try rfl)
theorem clip0_11 : ∀ (t : Fin (cfg0 (F := F)).N) a, ((cfg0 (F := F)).win 11).clip ((cfg0 (F := F)).grid.coords t) a = none :=
  (by decide +kernel : ∀ (t : Fin grid0.N) (a : Fin 3), Pipeline.Clip.of (cc0_transform_11 (grid0.coords t) a) (S2x128x512.size a) (S2x16384x6912.size a) = none)
theorem before0_11 (c : Dev nD) (t : Fin (cfg0 (F := F)).N) (d) : (dats m 0 c).before 11 t d = xblk m c 11 t :=
  ((dats m 0 c).before_in_eq_fetched 11 rfl (fun _ => rfl) (fun t t' _ => funext fun a => (clip0_11 t a).trans (clip0_11 t' a).symm)
    (fun t => by rw [after0_11 m c t]; unfold xblk; rw [Pipeline.Window.cut_fill]; unfold Dat.blockOf iblk; rw [A_eq]; try rfl) t d).trans
    (by unfold Dat.fetched; refine (Pipeline.fill_of_clip_none (cfg := cfg0) 11 _ (clip0_11 t) _ (fun _ => Classical.arbitrary _) _).trans ?_; unfold xblk Dat.blockOf iblk; rw [A_eq]; try rfl)
theorem clip0_12 : ∀ (t : Fin (cfg0 (F := F)).N) a, ((cfg0 (F := F)).win 12).clip ((cfg0 (F := F)).grid.coords t) a = none :=
  (by decide +kernel : ∀ (t : Fin grid0.N) (a : Fin 3), Pipeline.Clip.of (cc0_transform_12 (grid0.coords t) a) (S2x128x512.size a) (S2x16384x6912.size a) = none)
theorem before0_12 (c : Dev nD) (t : Fin (cfg0 (F := F)).N) (d) : (dats m 0 c).before 12 t d = xblk m c 12 t :=
  ((dats m 0 c).before_in_eq_fetched 12 rfl (fun _ => rfl) (fun t t' _ => funext fun a => (clip0_12 t a).trans (clip0_12 t' a).symm)
    (fun t => by rw [after0_12 m c t]; unfold xblk; rw [Pipeline.Window.cut_fill]; unfold Dat.blockOf iblk; rw [A_eq]; try rfl) t d).trans
    (by unfold Dat.fetched; refine (Pipeline.fill_of_clip_none (cfg := cfg0) 12 _ (clip0_12 t) _ (fun _ => Classical.arbitrary _) _).trans ?_; unfold xblk Dat.blockOf iblk; rw [A_eq]; try rfl)
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0 m c t]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2 m c t]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3 m c t]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4 m c t]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after0_5 m c t]; unfold Dat.blockOf iblk; rw [A_eq]; try rfl) t d).trans
    (by unfold Dat.fetched Dat.blockOf iblk; rw [A_eq]; try rfl)
theorem before0_13 (c : Dev nD) (t : Fin (cfg0 (F := F)).N) (d) : (dats m 0 c).before 13 t d = iblk m c 13 t :=
  ((dats m 0 c).before_in_eq_fetched 13 rfl (fun _ => rfl) (fun _ _ _ => rfl) (fun t => by rw [after0_13 m c t]; unfold Dat.blockOf iblk; rw [A_eq]; try rfl) t d).trans
    (by unfold Dat.fetched Dat.blockOf iblk; rw [A_eq]; try rfl)

/-! ## The body at a point -/

theorem set_univ {sp : Space} {S : Shape} {e : EltTy} (M : Memref sig .tc sp S e) (h : M.IsWhole) : M.view.set = Finset.univ := by
  obtain ⟨b, rfl, rfl, rfl, hm⟩ := h; cases hm
  exact View.set_whole b
theorem owns_pt {c : Dev nD} {sp : Space} {S : Shape} {e : EltTy} (M : Memref sig .tc sp S e) (h : M.IsWhole) (X : S.Idx → Elt F e) :
    (owns (c : Thread nD τ) M fullShare X : sProp 𝕄) ⊢ pt c M (h.unread X) := by
  unfold owns pt
  rw [set_univ M h]
  iintro ⟨%f, %hf, H⟩
  rw [← h.eq_unread hf]
  iexact H
theorem pt_owns {c : Dev nD} {sp : Space} {S : Shape} {e : EltTy} (M : Memref sig .tc sp S e) (h : M.IsWhole) (f : Bf (F := F) c M) (X : S.Idx → Elt F e)
    (hf : M.view.read (Elt F) f = X) :
    (pt c M f : sProp 𝕄) ⊢ owns (c : Thread nD τ) M fullShare X := by
  unfold owns pt
  rw [set_univ M h]
  iintro H
  iexists f
  isplitr
  · ipureintro; exact hf
  iexact H

def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))

set_option maxHeartbeats 6400000 in
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  rw [after0_0, after0_1, after0_2, after0_3, after0_4, after0_5, after0_6, after0_7, after0_8, after0_9, after0_10, after0_11, after0_12, after0_13, after0_14, after0_15]
  unfold Dat.owesAt Pipeline.owesWithin
  rw [show (dats m 0 c).owed t.castSucc = 0 from rfl]
  iintro ⟨⟨⟨⟨%fa, Ha⟩, ⟨%fr, Hr⟩, ⟨%fk, Hkb⟩, ⟨%fv, Hvb⟩⟩, Hg, ⟨Hs0, Hs1⟩, Hp⟩, ⟨%Ws, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  by_cases h : 2 ≤ ((grid0.coords t) 1).val
  · rw [show outs m c t = (far c (grid0.coords t) h (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0)).1 from dif_pos h]
    iapply ((far c (grid0.coords t) h (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0)).2 ((hs14 t).unread ((dats m 0 c).before 14 t d14)) ((hs15 t).unread ((dats m 0 c).before 15 t d15)) fa fr fk fv Ws _)
    isplitl [H0]; · iapply (owns_pt (ms0 t) (hs0 t) (iblk m c 0 t)); iexact H0
    isplitl [H1]; · iapply (owns_pt (ms1 t) (hs1 t) (xblk m c 1 t)); iexact H1
    isplitl [H2]; · iapply (owns_pt (ms2 t) (hs2 t) (iblk m c 2 t)); iexact H2
    isplitl [H3]; · iapply (owns_pt (ms3 t) (hs3 t) (iblk m c 3 t)); iexact H3
    isplitl [H4]; · iapply (owns_pt (ms4 t) (hs4 t) (iblk m c 4 t)); iexact H4
    isplitl [H5]; · iapply (owns_pt (ms5 t) (hs5 t) (iblk m c 5 t)); iexact H5
    isplitl [H6]; · iapply (owns_pt (ms6 t) (hs6 t) (xblk m c 6 t)); iexact H6
    isplitl [H7]; · iapply (owns_pt (ms7 t) (hs7 t) (xblk m c 7 t)); iexact H7
    isplitl [H8]; · iapply (owns_pt (ms8 t) (hs8 t) (xblk m c 8 t)); iexact H8
    isplitl [H9]; · iapply (owns_pt (ms9 t) (hs9 t) (xblk m c 9 t)); iexact H9
    isplitl [H10]; · iapply (owns_pt (ms10 t) (hs10 t) (xblk m c 10 t)); iexact H10
    isplitl [H11]; · iapply (owns_pt (ms11 t) (hs11 t) (xblk m c 11 t)); iexact H11
    isplitl [H12]; · iapply (owns_pt (ms12 t) (hs12 t) (xblk m c 12 t)); iexact H12
    isplitl [H13]; · iapply (owns_pt (ms13 t) (hs13 t) (iblk m c 13 t)); iexact H13
    isplitl [Hp]; · iexact Hp
    isplitl [H14]; · iapply (owns_pt (ms14 t) (hs14 t) _); iexact H14
    isplitl [H15]; · iapply (owns_pt (ms15 t) (hs15 t) _); iexact H15
    isplitl [Ha]; · iexact Ha
    isplitl [Hr]; · iexact Hr
    isplitl [Hkb]; · iexact Hkb
    isplitl [Hvb]; · iexact Hvb
    isplitl [Hs0]; · iexact Hs0
    isplitl [Hs1]; · iexact Hs1
    isplitl [HO]; · iexact HO
    iintro ⟨H0, H1, H2, H3, H4, H5, H6, H7, H8, H9, H10, H11, H12, H13, Hp, H14, H15, Ha, Hr, Hkb, Hvb, Hs0, Hs1, ⟨%Ws', HO⟩⟩
    isplitl [Hp Ha Hr Hkb Hvb Hs0 Hs1 Hg]
    · isplitl [Ha Hr Hkb Hvb]
      · isplitl [Ha]; · iexact Ha
        isplitl [Hr]; · iexact Hr
        isplitl [Hkb]; · iexact Hkb
        iexact Hvb
      isplitl [Hg]; · iexact Hg
      isplitl [Hs0 Hs1]
      · isplitl [Hs0]; · iexact Hs0
        iexact Hs1
      iexact Hp
    isplitl [HO]
    · iexists Ws'; isplitr; · ipureintro; exact fun _ _ => Or.inl trivial
      iexact HO
    isplitl [H0]; · iapply (pt_owns (ms0 t) (hs0 t) _ (iblk m c 0 t) ((hs0 t).read_unread _)); iexact H0
    isplitl [H1]; · iapply (pt_owns (ms1 t) (hs1 t) _ (xblk m c 1 t) ((hs1 t).read_unread _)); iexact H1
    isplitl [H2]; · iapply (pt_owns (ms2 t) (hs2 t) _ (iblk m c 2 t) ((hs2 t).read_unread _)); iexact H2
    isplitl [H3]; · iapply (pt_owns (ms3 t) (hs3 t) _ (iblk m c 3 t) ((hs3 t).read_unread _)); iexact H3
    isplitl [H4]; · iapply (pt_owns (ms4 t) (hs4 t) _ (iblk m c 4 t) ((hs4 t).read_unread _)); iexact H4
    isplitl [H5]; · iapply (pt_owns (ms5 t) (hs5 t) _ (iblk m c 5 t) ((hs5 t).read_unread _)); iexact H5
    isplitl [H6]; · iapply (pt_owns (ms6 t) (hs6 t) _ (xblk m c 6 t) ((hs6 t).read_unread _)); iexact H6
    isplitl [H7]; · iapply (pt_owns (ms7 t) (hs7 t) _ (xblk m c 7 t) ((hs7 t).read_unread _)); iexact H7
    isplitl [H8]; · iapply (pt_owns (ms8 t) (hs8 t) _ (xblk m c 8 t) ((hs8 t).read_unread _)); iexact H8
    isplitl [H9]; · iapply (pt_owns (ms9 t) (hs9 t) _ (xblk m c 9 t) ((hs9 t).read_unread _)); iexact H9
    isplitl [H10]; · iapply (pt_owns (ms10 t) (hs10 t) _ (xblk m c 10 t) ((hs10 t).read_unread _)); iexact H10
    isplitl [H11]; · iapply (pt_owns (ms11 t) (hs11 t) _ (xblk m c 11 t) ((hs11 t).read_unread _)); iexact H11
    isplitl [H12]; · iapply (pt_owns (ms12 t) (hs12 t) _ (xblk m c 12 t) ((hs12 t).read_unread _)); iexact H12
    isplitl [H13]; · iapply (pt_owns (ms13 t) (hs13 t) _ (iblk m c 13 t) ((hs13 t).read_unread _)); iexact H13
    isplitl [H14]; · iapply (pt_owns (ms14 t) (hs14 t) _ _ rfl); iexact H14
    iapply (pt_owns (ms15 t) (hs15 t) _ _ rfl); iexact H15
  · rw [show outs m c t = (near c (grid0.coords t) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0)).1 from dif_neg h]
    iapply ((near c (grid0.coords t) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0)).2 ((hs14 t).unread ((dats m 0 c).before 14 t d14)) ((hs15 t).unread ((dats m 0 c).before 15 t d15)) fa fr fk fv Ws _)
    isplitl [H0]; · iapply (owns_pt (ms0 t) (hs0 t) (iblk m c 0 t)); iexact H0
    isplitl [H1]; · iapply (owns_pt (ms1 t) (hs1 t) (xblk m c 1 t)); iexact H1
    isplitl [H2]; · iapply (owns_pt (ms2 t) (hs2 t) (iblk m c 2 t)); iexact H2
    isplitl [H3]; · iapply (owns_pt (ms3 t) (hs3 t) (iblk m c 3 t)); iexact H3
    isplitl [H4]; · iapply (owns_pt (ms4 t) (hs4 t) (iblk m c 4 t)); iexact H4
    isplitl [H5]; · iapply (owns_pt (ms5 t) (hs5 t) (iblk m c 5 t)); iexact H5
    isplitl [H6]; · iapply (owns_pt (ms6 t) (hs6 t) (xblk m c 6 t)); iexact H6
    isplitl [H7]; · iapply (owns_pt (ms7 t) (hs7 t) (xblk m c 7 t)); iexact H7
    isplitl [H8]; · iapply (owns_pt (ms8 t) (hs8 t) (xblk m c 8 t)); iexact H8
    isplitl [H9]; · iapply (owns_pt (ms9 t) (hs9 t) (xblk m c 9 t)); iexact H9
    isplitl [H10]; · iapply (owns_pt (ms10 t) (hs10 t) (xblk m c 10 t)); iexact H10
    isplitl [H11]; · iapply (owns_pt (ms11 t) (hs11 t) (xblk m c 11 t)); iexact H11
    isplitl [H12]; · iapply (owns_pt (ms12 t) (hs12 t) (xblk m c 12 t)); iexact H12
    isplitl [H13]; · iapply (owns_pt (ms13 t) (hs13 t) (iblk m c 13 t)); iexact H13
    isplitl [Hp]; · iexact Hp
    isplitl [H14]; · iapply (owns_pt (ms14 t) (hs14 t) _); iexact H14
    isplitl [H15]; · iapply (owns_pt (ms15 t) (hs15 t) _); iexact H15
    isplitl [Ha]; · iexact Ha
    isplitl [Hr]; · iexact Hr
    isplitl [Hkb]; · iexact Hkb
    isplitl [Hvb]; · iexact Hvb
    isplitl [Hs0]; · iexact Hs0
    isplitl [Hs1]; · iexact Hs1
    isplitl [HO]; · iexact HO
    iintro ⟨H0, H1, H2, H3, H4, H5, H6, H7, H8, H9, H10, H11, H12, H13, Hp, H14, H15, Ha, Hr, Hkb, Hvb, Hs0, Hs1, ⟨%Ws', HO⟩⟩
    isplitl [Hp Ha Hr Hkb Hvb Hs0 Hs1 Hg]
    · isplitl [Ha Hr Hkb Hvb]
      · isplitl [Ha]; · iexact Ha
        isplitl [Hr]; · iexact Hr
        isplitl [Hkb]; · iexact Hkb
        iexact Hvb
      isplitl [Hg]; · iexact Hg
      isplitl [Hs0 Hs1]
      · isplitl [Hs0]; · iexact Hs0
        iexact Hs1
      iexact Hp
    isplitl [HO]
    · iexists Ws'; isplitr; · ipureintro; exact fun _ _ => Or.inl trivial
      iexact HO
    isplitl [H0]; · iapply (pt_owns (ms0 t) (hs0 t) _ (iblk m c 0 t) ((hs0 t).read_unread _)); iexact H0
    isplitl [H1]; · iapply (pt_owns (ms1 t) (hs1 t) _ (xblk m c 1 t) ((hs1 t).read_unread _)); iexact H1
    isplitl [H2]; · iapply (pt_owns (ms2 t) (hs2 t) _ (iblk m c 2 t) ((hs2 t).read_unread _)); iexact H2
    isplitl [H3]; · iapply (pt_owns (ms3 t) (hs3 t) _ (iblk m c 3 t) ((hs3 t).read_unread _)); iexact H3
    isplitl [H4]; · iapply (pt_owns (ms4 t) (hs4 t) _ (iblk m c 4 t) ((hs4 t).read_unread _)); iexact H4
    isplitl [H5]; · iapply (pt_owns (ms5 t) (hs5 t) _ (iblk m c 5 t) ((hs5 t).read_unread _)); iexact H5
    isplitl [H6]; · iapply (pt_owns (ms6 t) (hs6 t) _ (xblk m c 6 t) ((hs6 t).read_unread _)); iexact H6
    isplitl [H7]; · iapply (pt_owns (ms7 t) (hs7 t) _ (xblk m c 7 t) ((hs7 t).read_unread _)); iexact H7
    isplitl [H8]; · iapply (pt_owns (ms8 t) (hs8 t) _ (xblk m c 8 t) ((hs8 t).read_unread _)); iexact H8
    isplitl [H9]; · iapply (pt_owns (ms9 t) (hs9 t) _ (xblk m c 9 t) ((hs9 t).read_unread _)); iexact H9
    isplitl [H10]; · iapply (pt_owns (ms10 t) (hs10 t) _ (xblk m c 10 t) ((hs10 t).read_unread _)); iexact H10
    isplitl [H11]; · iapply (pt_owns (ms11 t) (hs11 t) _ (xblk m c 11 t) ((hs11 t).read_unread _)); iexact H11
    isplitl [H12]; · iapply (pt_owns (ms12 t) (hs12 t) _ (xblk m c 12 t) ((hs12 t).read_unread _)); iexact H12
    isplitl [H13]; · iapply (pt_owns (ms13 t) (hs13 t) _ (iblk m c 13 t) ((hs13 t).read_unread _)); iexact H13
    isplitl [H14]; · iapply (pt_owns (ms14 t) (hs14 t) _ _ rfl); iexact H14
    iapply (pt_owns (ms15 t) (hs15 t) _ _ rfl); iexact H15

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

theorem tail_sub : ∀ ops ∈ [(hostOps1 : List (HloOp τ sig (Elt F)))], ∀ op ∈ ops,
    op.bufs ⊆ Pipeline.tailRefsBut sig Pipeline.Prefetch.none spec0 H0 := by
  intro ops h op hop
  rw [List.mem_singleton] at h; subst h
  simp only [hostOps1, List.mem_cons, List.not_mem_nil, or_false] at hop
  rcases hop with rfl | rfl
  · show ({Proc.devRef .tc main_v11_1, Proc.devRef .tc main_v12} : Finset (DevRef τ sig)) ⊆ _
    decide
  · show ({Proc.devRef .tc main_v11_0, Proc.devRef .tc main_v13} : Finset (DevRef τ sig)) ⊆ _
    decide
theorem tail_fresh : ∀ ops ∈ [(hostOps1 : List (HloOp τ sig (Elt F)))], ∀ op ∈ ops, op.fresh = ∅ := by
  intro ops h op hop
  rw [List.mem_singleton] at h; subst h
  simp only [hostOps1, List.mem_cons, List.not_mem_nil, or_false] at hop
  rcases hop with rfl | rfl <;> rfl
theorem tail_keep : ∀ ops ∈ [(hostOps1 : List (HloOp τ sig (Elt F)))], ∀ op ∈ ops, ∀ w,
    Proc.devRef .tc (Pipeline.arrRef spec0 w) ∉ op.writes := by
  intro ops h op hop
  rw [List.mem_singleton] at h; subst h
  simp only [hostOps1, List.mem_cons, List.not_mem_nil, or_false] at hop
  rcases hop with rfl | rfl
  · intro w; rw [StableHlo.reshape_writes, Finset.mem_singleton]; exact StableHlo.devRef_ne_of_ne ((by decide : ∀ w, Pipeline.arrRef spec0 w ≠ main_v12) w)
  · intro w; rw [StableHlo.reshape_writes, Finset.mem_singleton]; exact StableHlo.devRef_ne_of_ne ((by decide : ∀ w, Pipeline.arrRef spec0 w ≠ main_v13) w)

set_option backward.isDefEq.respectTransparency.types false in
/-- Every execution ends, with the pipeline's arrays at what its data say, the other buffers at what the last host operations leave,
    and every semaphore at zero. -/
theorem run_main : θ_run defs (onTc (τ := τ) (main (F := F))) (s₀ m ρ)
    (fun r => Pipeline.FramePost cfgs (dats m) 0 (Pipeline.afterTail₀ cfgs (dats m) 0 (V₀ m) [hostOps1]) r ∧ r.2.sem = fun _ => 0) :=
  Pipeline.θ_run_frame_dma_around_shared (Q' := _) cfgs (dats m) (0 : Fin 1) launch₀0 osem0 defs₀ 𝒱₀ ownSemFacts0 H0 H0_sub m ρ main
    (hbody := fun c => (body_obligation m c).loose) (hq := fun _ _ _ => rfl) (howed := fun _ _ => rfl) (V₀ := V₀ m) (opss := [hostOps1])
    (hsub := tail_sub) (hfresh := tail_fresh) (hkeep := tail_keep) (hmain := hmain m 𝒱₀) (hA := A_eq m)
    (hin := fun _ => .rfl) (hout := fun _ => .rfl)

end Cert.KernelIdeal.Run
-- ==== Proof.Frame.lean ====
/-
  What the attention's launch leaves outside its pipeline's arrays: the arguments unchanged, and the two results, which are the
  pipeline's two result arrays with their first two axes joined.
-/
module

public import proofs.«01_k».proof.Proof.Launch

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem

variable {F : FTy → Type} [FloatOps F] [Named F] [∀ e, Nonempty (Elt F e)]

variable (m : (ℓ : Loc nD τ sig) → Buf (Elt F) ℓ) (ρ : Dev nD → PrngReg)

theorem V_arg0 (c : Dev nD) : V m c main_arg0 = m ((c.tc : Thread nD τ).loc main_arg0) := by
  unfold V V₀; after_results_simp; try rfl
theorem V_arg1 (c : Dev nD) : V m c main_arg1 = m ((c.tc : Thread nD τ).loc main_arg1) := by
  unfold V V₀; after_results_simp; try rfl

theorem tail_arg0 (c : Dev nD) : Pipeline.afterTail₀ cfgs (dats m) 0 (V₀ m) [hostOps1] c main_arg0 = m ((c.tc : Thread nD τ).loc main_arg0) := by
  refine Eq.trans ?_ (V_arg0 m c)
  unfold Pipeline.afterTail₀
  rw [show ([hostOps1 (F := F)]).flatten = hostOps1 from rfl]
  after_results_simp
  exact Pipeline.withArrays_of_ne spec0 c (V₀ m c) _ main_arg0 (by decide)
theorem tail_arg1 (c : Dev nD) : Pipeline.afterTail₀ cfgs (dats m) 0 (V₀ m) [hostOps1] c main_arg1 = m ((c.tc : Thread nD τ).loc main_arg1) := by
  refine Eq.trans ?_ (V_arg1 m c)
  unfold Pipeline.afterTail₀
  rw [show ([hostOps1 (F := F)]).flatten = hostOps1 from rfl]
  after_results_simp
  exact Pipeline.withArrays_of_ne spec0 c (V₀ m c) _ main_arg1 (by decide)

theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c =>
    ⟨((h.1 c).2 main_arg0 (Pipeline.mem_restRefs_of main_arg0 (by decide) (by decide : ∀ w, (spec0 w).arr.view.ref ≠ main_arg0))).trans (tail_arg0 m c),
     ((h.1 c).2 main_arg1 (Pipeline.mem_restRefs_of main_arg1 (by decide) (by decide : ∀ w, (spec0 w).arr.view.ref ≠ main_arg1))).trans (tail_arg1 m c)⟩, h.2⟩) (run_main m ρ)

end Cert.KernelIdeal.Run
-- ==== Proof.Reads.lean ====
/-
  Reading the attention kernel's buffers of sums and of queries head by head: head `h` of batch `g` is the 128 columns from
  `128 h` on of the buffer's plane `g`, which the kernel loads and stores through a slice of the plane.
-/
module

public import proofs.«01_k».proof.Proof.Walk
public import Idealize.ShloMosaic.Lib.Pointwise

@[expose] public section

noncomputable section

namespace Cert.KernelIdeal.Run

open Cert.KernelIdeal Cert.KernelIdeal.Gen
open Idealize.ShloMosaic Idealize.ShloMosaic.TcCoe Idealize.SL.Sem

section
variable {F : FTy → Type} {sp : Space} {e : EltTy}

/-- A load of 128 columns of a plane. -/
theorem load_head (v : View sig .tc sp S2x128x512 e) (f : v.ty.Contents (Elt F)) (g o : ℕ) (hg : g < 2)
    (h1 : ∀ a, (![g, 0, 0] : Fin 3 → ℕ) a + S1x128x512.size a ≤ S2x128x512.size a)
    (h2 : ∀ a, (![0, o] : Fin 2 → ℕ) a + S128x128.size a ≤ S128x512.size a)
    (h3 : (![1, 128, 512] : Fin 3 → ℕ) 0 = 1) (h4 : ∀ i : Fin 2, (![1, 128, 512] : Fin 3 → ℕ) i.succ = (![128, 512] : Fin 2 → ℕ) i)
    (h5 : ∀ a, (Rect.unit (s := S2x128x512) ![g, 0, 0] S1x128x512.size h1).stride a = 1) hR
    (r d : Fin 128) (ho : o + d.val < 512) :
    (LoadRect.valAlong hR (View.readAt (Elt F) v
      ((Rect.unit (s := S2x128x512) ![g, 0, 0] S1x128x512.size h1).withinL
        ((Rect.unit (s := S128x512) ![0, o] S128x128.size h2).toLoadRect.consLift ![1, 128, 512] h3 h4) h5) f) :
        (Rect.unit (s := S128x512) ![0, o] S128x128.size h2).toLoadRect.shape.Idx → Elt F e) (ix2 r d)
      = v.read (Elt F) f (ix3 ⟨g, hg⟩ r ⟨o + d.val, ho⟩) := by
  have hx := Shape.reshapeEquiv_cons_one (d := (![128, 128] : Fin 2 → ℕ)) hR (ix2 r d)
  show v.read (Elt F) f _ = _
  congr 1
  funext a
  apply Fin.ext
  have hx' := congrFun hx
  match a with
  | ⟨0, _⟩ => exact (by intro x hx; omega : ∀ x : ℕ, x = 0 → (g + 0) + 1 * x = g) _ (congrArg Fin.val (hx' 0))
  | ⟨1, _⟩ => exact (by intro x hx; omega : ∀ x : ℕ, x = r.val → (0 + 0) + 1 * x = r.val) _ (congrArg Fin.val (hx' 1))
  | ⟨2, _⟩ => exact (by intro x hx; omega : ∀ x : ℕ, x = d.val → (0 + o) + 1 * x = o + d.val) _ (congrArg Fin.val (hx' 2))

variable (v : View sig .tc sp S2x128x512 e) (f : v.ty.Contents (Elt F)) (g o : ℕ) (hg : g < 2)
    (h1 : ∀ a, (![g, 0, 0] : Fin 3 → ℕ) a + S1x128x512.size a ≤ S2x128x512.size a)
    (h2 : ∀ a, (![0, o] : Fin 2 → ℕ) a + S128x128.size a ≤ S128x512.size a)
    (h3 : (![1, 128, 512] : Fin 3 → ℕ) 0 = 1) (h4 : ∀ i : Fin 2, (![1, 128, 512] : Fin 3 → ℕ) i.succ = (![128, 512] : Fin 2 → ℕ) i)
    (h5 : ∀ a, (Rect.unit (s := S2x128x512) ![g, 0, 0] S1x128x512.size h1).stride a = 1)
    (hR : ((Rect.unit (s := S128x512) ![0, o] S128x128.size h2).consLift ![1, 128, 512] h3 h4).shape.numel
      = (Rect.unit (s := S128x512) ![0, o] S128x128.size h2).shape.numel)
    (w : S128x128.Idx → Elt F e) (L : List (View.Piece (Elt F) S2x128x512 e))

/-- A store of 128 columns of a plane, read at one of them: what was stored. -/
theorem store_hit (r d : Fin 128) (c : Fin 512) (hc : c.val = o + d.val) :
    v.read (Elt F) (v.writes (Elt F) f (⟨(Rect.unit (s := S2x128x512) ![g, 0, 0] S1x128x512.size h1).within
      ((Rect.unit (s := S128x512) ![0, o] S128x128.size h2).consLift ![1, 128, 512] h3 h4) h5, Rect.payAlong hR w⟩ :: L)) (ix3 ⟨g, hg⟩ r c) = w (ix2 r d) := by
  refine (View.read_writes_cons_hit_of_coords v f _ _ L (ix3 (0 : Fin 1) r d : (⟨3, ![1, 128, 128]⟩ : Shape).Idx) _ (by
    intro a
    match a with
    | ⟨0, _⟩ => show g = (g + 0) + 1 * 0; omega
    | ⟨1, _⟩ => show r.val = (0 + 0) + 1 * r.val; omega
    | ⟨2, _⟩ => show c.val = (0 + o) + 1 * d.val; omega)).trans ?_
  exact Rect.payAlong_consLift (Rect.unit (s := S128x512) ![0, o] S128x128.size h2) ![1, 128, 512] h3 h4 w hR _ (ix2 r d) (by
    intro i
    match i with
    | ⟨0, _⟩ => rfl
    | ⟨1, _⟩ => rfl)

/-- Read at another column: what the earlier stores left. -/
theorem store_miss_col (y : S2x128x512.Idx) (hy : (y 2).val < o ∨ o + 128 ≤ (y 2).val) :
    v.read (Elt F) (v.writes (Elt F) f (⟨(Rect.unit (s := S2x128x512) ![g, 0, 0] S1x128x512.size h1).within
      ((Rect.unit (s := S128x512) ![0, o] S128x128.size h2).consLift ![1, 128, 512] h3 h4) h5, Rect.payAlong hR w⟩ :: L)) y
      = v.read (Elt F) (v.writes (Elt F) f L) y :=
  View.read_writes_cons_miss_of_axis v f _ L y (2 : Fin 3) o 128 (by show 0 + o = o; omega) rfl rfl hy

/-- Read in the other plane. -/
theorem store_miss_plane (y : S2x128x512.Idx) (hy : (y 0).val ≠ g) :
    v.read (Elt F) (v.writes (Elt F) f (⟨(Rect.unit (s := S2x128x512) ![g, 0, 0] S1x128x512.size h1).within
      ((Rect.unit (s := S128x512) ![0, o] S128x128.size h2).consLift ![1, 128, 512] h3 h4) h5, Rect.payAlong hR w⟩ :: L)) y
      = v.read (Elt F) (v.writes (Elt F) f L) y :=
  View.read_writes_cons_miss_of_axis v f _ L y (0 : Fin 3) g 1 (by show g + 0 = g; omega) rfl rfl (by omega)

end

end Cert.KernelIdeal.Run
-- ==== Proof.Tiles.lean ====
/-
  The stick-breaking arithmetic on one tile of 128 queries by 128 keys, as the attention kernel spells it on vectors: scores,
  their softplus, the pair whose product with the constant matrix gives the later sums, weights, running sums.
-/
module

public import proofs.«01_k».proof.Proof.Gen.KernelIdeal
public import proofs.«01_k».proof.Proof.Gen.KernelIdeal.Skeleton
public import Idealize.ShloMosaic.Lib.Pointwise

@[expose] public section

noncomputable section

namespace Cert.KernelIdeal.Tiles

open Cert.KernelIdeal Cert.KernelIdeal.Gen
open Idealize.ShloMosaic Idealize.ShloMosaic.TcCoe

section
variable {F : FTy → Type} [FloatOps F]

/-- A tile of zeros. -/
def zeroT : FVec F S128x128 .f32 := broadcast S128x128 (Scalar.ofBits .f32 0x00000000#32)
/-- The scores of one block of keys. -/
def zT (q k : Vec F S128x128 .bf16) : FVec F S128x128 .f32 := k0_pay680 q k
/-- The scores of three blocks of keys side by side. -/
def zW (q k0 k1 k2 : Vec F S128x128 .bf16) : FVec F S128x384 .f32 := k0_pay4 k0 k1 k2 q
def zW0 (w : FVec F S128x384 .f32) : FVec F S128x128 .f32 := extractStridedSlice S128x128 ![0, 0] w slices_S128x384_o0_0_S128x128
def zW1 (w : FVec F S128x384 .f32) : FVec F S128x128 .f32 := extractStridedSlice S128x128 ![0, 128] w slices_S128x384_o0_128_S128x128
def zW2 (w : FVec F S128x384 .f32) : FVec F S128x128 .f32 := extractStridedSlice S128x128 ![0, 256] w slices_S128x384_o0_256_S128x128
/-- The softplus of a tile of scores. -/
def spT (z : FVec F S128x128 .f32) : FVec F S128x128 .f32 :=
  addf (maximumf z zeroT) (log (addf (broadcast S128x128 (Scalar.ofBits .f32 0x3F800000#32)) (exp (subf zeroT (absf z)))))
/-- A tile kept where the mask is set. -/
def keepT (m : IVec S128x128 1) (s : FVec F S128x128 .f32) : FVec F S128x128 .f32 := select m s zeroT
/-- A tile and what its rounding left, side by side. -/
def hlT (s : FVec F S128x128 .f32) : FVec F S128x256 .bf16 := k0_pay683 s
/-- Four pairs, one under the other. -/
def stack4 (x : Fin 4 → FVec F S128x256 .bf16) : FVec F S512x256 .bf16 :=
  concatenate S512x256 0 [⟨S128x256, x 0⟩, ⟨S128x256, x 1⟩, ⟨S128x256, x 2⟩, ⟨S128x256, x 3⟩]
    concatenates_S128x256_S128x256_S128x256_S128x256_S512x256_d0
/-- The sums of four pairs. -/
def sum4 (x : Fin 4 → FVec F S128x256 .bf16) (C : Vec F S256x256 .bf16) : FVec F S512x256 .f32 :=
  matmul dot_S512x256_S256x256_S512x256_1_0_0_1_n_n none (stack4 x)
    (shapeCast S256x256 C shapeCasts_S256x256_S256x256) (constant S512x256 .f32 0x00000000#32)
/-- The weights of a tile. -/
def wT (z : FVec F S128x128 .f32) (S : FVec F S128x256 .f32) (run : FVec F S128x128 .f32) : FVec F S128x128 .f32 :=
  exp (addf (subf z (spT z)) (addf (extractStridedSlice S128x128 ![0, 0] S slices_S128x256_o0_0_S128x128) run))
/-- The running sums past a tile. -/
def runT (run : FVec F S128x128 .f32) (S : FVec F S128x256 .f32) : FVec F S128x128 .f32 :=
  addf run (extractStridedSlice S128x128 ![0, 128] S slices_S128x256_o0_128_S128x128)
/-- The output past a tile. -/
def accT (acc w : FVec F S128x128 .f32) (v : Vec F S128x128 .bf16) : FVec F S128x128 .f32 :=
  addf acc (matmul dot_S128x128_S128x128_S128x128_1_0_0_1_n_n none (truncf .bf16 w bitsLt_bf16_f32) v (constant S128x128 .f32 0x00000000#32))
/-- The output of three tiles at once. -/
def accW (w0 w1 w2 : FVec F S128x128 .f32) (v0 v1 v2 : Vec F S128x128 .bf16) : FVec F S128x128 .f32 :=
  matmul dot_S128x384_S384x128_S128x128_1_0_0_1_n_n none
    (concatenate S128x384 1 [⟨S128x128, truncf .bf16 w0 bitsLt_bf16_f32⟩, ⟨S128x128, truncf .bf16 w1 bitsLt_bf16_f32⟩,
      ⟨S128x128, truncf .bf16 w2 bitsLt_bf16_f32⟩] concatenates_S128x128_S128x128_S128x128_S128x384_d1)
    (concatenate S384x128 0 [⟨S128x128, shapeCast S128x128 v0 shapeCasts_S128x128_S128x128⟩,
      ⟨S128x128, shapeCast S128x128 v1 shapeCasts_S128x128_S128x128⟩,
      ⟨S128x128, shapeCast S128x128 v2 shapeCasts_S128x128_S128x128⟩] concatenates_S128x128_S128x128_S128x128_S384x128_d0)
    (constant S128x128 .f32 0x00000000#32)
/-- The twenty-four pairs of a starting window, one under the other. -/
def stack24 (x : Fin 24 → FVec F S128x256 .bf16) : FVec F S3072x256 .bf16 :=
  concatenate S3072x256 0 [⟨S128x256, x 0⟩, ⟨S128x256, x 1⟩, ⟨S128x256, x 2⟩, ⟨S128x256, x 3⟩, ⟨S128x256, x 4⟩, ⟨S128x256, x 5⟩,
    ⟨S128x256, x 6⟩, ⟨S128x256, x 7⟩, ⟨S128x256, x 8⟩, ⟨S128x256, x 9⟩, ⟨S128x256, x 10⟩, ⟨S128x256, x 11⟩,
    ⟨S128x256, x 12⟩, ⟨S128x256, x 13⟩, ⟨S128x256, x 14⟩, ⟨S128x256, x 15⟩, ⟨S128x256, x 16⟩, ⟨S128x256, x 17⟩,
    ⟨S128x256, x 18⟩, ⟨S128x256, x 19⟩, ⟨S128x256, x 20⟩, ⟨S128x256, x 21⟩, ⟨S128x256, x 22⟩, ⟨S128x256, x 23⟩]
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S3072x256_d0
def sum24 (x : Fin 24 → FVec F S128x256 .bf16) (C : Vec F S256x256 .bf16) : FVec F S3072x256 .f32 :=
  matmul dot_S3072x256_S256x256_S3072x256_1_0_0_1_n_n none (stack24 x)
    (shapeCast S256x256 C shapeCasts_S256x256_S256x256) (constant S3072x256 .f32 0x00000000#32)
end

/-! ## On the reals -/

/-- The factor on the scores. -/
def scl : ℝ := 11863283 / 134217728
/-- The softplus. -/
def sp (z : ℝ) : ℝ := max z 0 + Real.log (1 + Real.exp (-|z|))

theorem scl_bits : Ideal.ofBits .f32 0x3DB504F3#32 = ((scl : ℝ) : EReal) := by
  unfold scl
  simp [Ideal.ofBits, Ideal.ieee, -EReal.coe_mul]
  norm_num
theorem one_bits : Ideal.ofBits .f32 0x3F800000#32 = (1 : EReal) := by
  simp [Ideal.ofBits, Ideal.ieee, -EReal.coe_mul]
  norm_num

theorem sum_coe {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

theorem abs_coe (z : ℝ) : (FloatOps.absf (F := Ideal) (φ := .f32) (z : EReal) : EReal) = ((|z| : ℝ) : EReal) := by
  rw [Ideal.absf_def]
  show max (z : EReal) (-(z : EReal)) = _
  rw [← EReal.coe_neg, ← EReal.coe_strictMono.monotone.map_max]
  rfl

theorem sp_coe (z : ℝ) : max (z : EReal) 0 + Ideal.log (1 + Ideal.exp (0 - FloatOps.absf (F := Ideal) (φ := .f32) (z : EReal)))
    = ((sp z : ℝ) : EReal) := by
  have h : ¬ (1 + Real.exp (-|z|) ≤ 0) := by have := Real.exp_pos (-|z|); linarith
  rw [abs_coe, show (0 : EReal) - ((|z| : ℝ) : EReal) = ((-|z| : ℝ) : EReal) by rw [← EReal.coe_zero, ← EReal.coe_sub, zero_sub],
    Ideal.exp_coe, show (1 : EReal) + ((Real.exp (-|z|) : ℝ) : EReal) = ((1 + Real.exp (-|z|) : ℝ) : EReal) by
      rw [EReal.coe_add, EReal.coe_one], Ideal.log_coe, if_neg h, ← EReal.coe_zero, ← EReal.coe_strictMono.monotone.map_max, ← EReal.coe_add]
  rfl

/-- A tile whose entries are these reals. -/
def R2 (x : S128x128.Idx → EReal) (f : Fin 128 → Fin 128 → ℝ) : Prop := ∀ r c, x (ix2 r c) = ((f r c : ℝ) : EReal)
/-- A pair of tiles whose entries are these reals. -/
def R2p (x : S128x256.Idx → EReal) (f : Fin 128 → Fin 256 → ℝ) : Prop := ∀ r c, x (ix2 r c) = ((f r c : ℝ) : EReal)

/-- The scores of a tile. -/
def zR (Q K : Fin 128 → Fin 128 → ℝ) (r c : Fin 128) : ℝ := (∑ d, Q r d * K c d) * scl

theorem zR_coe (Q K : Fin 128 → Fin 128 → ℝ) (r c : Fin 128) :
    (∑ d, ((Q r d : ℝ) : EReal) * ((K c d : ℝ) : EReal)) * Ideal.ofBits .f32 1035273459#32 = ((zR Q K r c : ℝ) : EReal) := by
  rw [show Ideal.ofBits .f32 1035273459#32 = ((scl : ℝ) : EReal) from scl_bits]
  unfold zR
  rw [EReal.coe_mul, sum_coe]
  simp only [EReal.coe_mul]

theorem zT_real {q k : Vec Ideal S128x128 .bf16} {Q K : Fin 128 → Fin 128 → ℝ} (hq : R2 q Q) (hk : R2 k K) :
    R2 (zT q k) (zR Q K) := by
  intro r c
  rw [← zR_coe]
  unfold zT
  pointwise [k0_pay680]
  simp only [hq r _, hk c _]

section
variable {q k0 k1 k2 : Vec Ideal S128x128 .bf16} {Q K0 K1 K2 : Fin 128 → Fin 128 → ℝ}

theorem zW0_real (hq : R2 q Q) (h0 : R2 k0 K0) : R2 (zW0 (zW q k0 k1 k2)) (zR Q K0) := by
  intro r c
  rw [← zR_coe]
  pointwise [zW0, zW, k0_pay4]
  simp only [hq r _, h0 c _]
theorem zW1_real (hq : R2 q Q) (h1 : R2 k1 K1) : R2 (zW1 (zW q k0 k1 k2)) (zR Q K1) := by
  intro r c
  rw [← zR_coe]
  pointwise [zW1, zW, k0_pay4]
  simp only [hq r _, h1 c _]
theorem zW2_real (hq : R2 q Q) (h2 : R2 k2 K2) : R2 (zW2 (zW q k0 k1 k2)) (zR Q K2) := by
  intro r c
  rw [← zR_coe]
  pointwise [zW2, zW, k0_pay4]
  congr 1
  refine Finset.sum_congr rfl (fun x _ => ?_)
  have hc := c.isLt
  rw [dif_neg (by omega), dif_neg (by omega), hq r x, ← h2 c x]
  congr 3
  apply Fin.ext
  show 256 + c.val - 128 - 128 = c.val
  omega
end

section
variable {z s acc w w0 w1 w2 : FVec Ideal S128x128 .f32} {ζ σ α ω ω0 ω1 ω2 : Fin 128 → Fin 128 → ℝ}

theorem spT_real (hz : R2 z ζ) : R2 (spT z) (fun r c => sp (ζ r c)) := by
  intro r c
  pointwise [spT, zeroT]
  rw [hz r c, sp_coe]

theorem keepT_real {m : IVec S128x128 1} (p : Fin 128 → Fin 128 → Prop) [∀ r c, Decidable (p r c)]
    (hm : ∀ r c, m (ix2 r c) = 1#1 ↔ p r c) (hs : R2 s σ) : R2 (keepT m s) (fun r c => if p r c then σ r c else 0) := by
  intro r c
  pointwise [keepT, zeroT]
  rw [hs r c]
  show (if m (ix2 r c) = 1#1 then ((σ r c : ℝ) : EReal) else 0) = (((if p r c then σ r c else 0) : ℝ) : EReal)
  by_cases h : p r c
  · rw [if_pos ((hm r c).2 h), if_pos h]
  · rw [if_neg (fun e => h ((hm r c).1 e)), if_neg h, EReal.coe_zero]

/-- The pair's entries: the tile, then nothing. -/
def hlR (σ : Fin 128 → Fin 128 → ℝ) (r : Fin 128) (l : Fin 256) : ℝ := if h : l.val < 128 then σ r ⟨l.val, h⟩ else 0

theorem hlT_real (hs : R2 s σ) : R2p (hlT s) (hlR σ) := by
  intro r l
  unfold hlT hlR
  pointwise [k0_pay683]
  split
  · rw [hs r _]
  · rw [hs r _, ← EReal.coe_sub, sub_self]

/-- The constant matrix: minus the ones strictly below the diagonal, beside minus the ones, twice. -/
def cR (l c : Fin 256) : ℝ := if c.val < 128 then (if c.val < l.val % 128 then -1 else 0) else -1

theorem hl_sum (σ : Fin 128 → Fin 128 → ℝ) (r : Fin 128) (g : Fin 256 → ℝ) :
    ∑ l : Fin 256, hlR σ r l * g l = ∑ l : Fin 128, σ r l * g ⟨l.val, by omega⟩ := by
  rw [show (∑ l : Fin 256, hlR σ r l * g l) = ∑ l : Fin (128 + 128), hlR σ r l * g l from rfl, Fin.sum_univ_add]
  have h2 : ∑ i : Fin 128, hlR σ r (Fin.natAdd 128 i) * g (Fin.natAdd 128 i) = 0 := by
    refine Finset.sum_eq_zero (fun i _ => ?_)
    unfold hlR
    rw [dif_neg (by simp), zero_mul]
  rw [h2, add_zero]
  refine Finset.sum_congr rfl (fun i _ => ?_)
  unfold hlR
  rw [dif_pos (by simp)]
  rfl

/-- The sums of a tile: over the later keys, and over all. -/
def sR (σ : Fin 128 → Fin 128 → ℝ) (r : Fin 128) (c : Fin 256) : ℝ := ∑ l : Fin 256, hlR σ r l * cR l c

theorem sR_low (σ : Fin 128 → Fin 128 → ℝ) (r c : Fin 128) :
    sR σ r ⟨c.val, by omega⟩ = -∑ l : Fin 128, if c < l then σ r l else 0 := by
  unfold sR
  rw [hl_sum, ← Finset.sum_neg_distrib]
  refine Finset.sum_congr rfl (fun l _ => ?_)
  unfold cR
  have hc := c.isLt
  have hl := l.isLt
  have e : l.val % 128 = l.val := by omega
  simp only [hc, if_true, e]
  by_cases h : c < l
  · rw [if_pos (show c.val < l.val from h), if_pos h]; ring
  · rw [if_neg (show ¬ c.val < l.val from h), if_neg h]; ring

theorem sR_high (σ : Fin 128 → Fin 128 → ℝ) (r c : Fin 128) :
    sR σ r ⟨128 + c.val, by omega⟩ = -∑ l : Fin 128, σ r l := by
  unfold sR
  rw [hl_sum, ← Finset.sum_neg_distrib]
  refine Finset.sum_congr rfl (fun l _ => ?_)
  unfold cR
  rw [if_neg (by simp)]; ring

theorem sum_real {x : S128x256.Idx → EReal} {C : Vec Ideal S256x256 .bf16} (hx : R2p x (hlR σ))
    (hC : ∀ l c, C (ix2 l c) = ((cR l c : ℝ) : EReal)) (r : Fin 128) (c : Fin 256) :
    ∑ l, x (ix2 r l) * C (ix2 l c) = ((sR σ r c : ℝ) : EReal) := by
  unfold sR
  rw [sum_coe]
  refine Finset.sum_congr rfl (fun l _ => ?_)
  rw [hx r l, hC l c, EReal.coe_mul]

variable {S : FVec Ideal S128x256 .f32} {ρ : Fin 128 → ℝ} {run : FVec Ideal S128x128 .f32}

/-- A tile's weights, from its scores, its kept softplus and the sum over the later tiles. -/
def wR (ζ σ : Fin 128 → Fin 128 → ℝ) (ρ : Fin 128 → ℝ) (r c : Fin 128) : ℝ :=
  Real.exp (ζ r c - sp (ζ r c) + ((-∑ l : Fin 128, if c < l then σ r l else 0) + ρ r))
/-- The sum past a tile. -/
def runR (ρ : Fin 128 → ℝ) (σ : Fin 128 → Fin 128 → ℝ) (r : Fin 128) : ℝ := ρ r + -∑ l : Fin 128, σ r l

theorem wT_real (hz : R2 z ζ) (hS : R2p S (sR σ)) (hr : R2 run (fun r _ => ρ r)) : R2 (wT z S run) (wR ζ σ ρ) := by
  intro r c
  pointwise [wT, spT, zeroT]
  rw [hz r c, sp_coe, hr r c, hS r _, sR_low, ← EReal.coe_sub, ← EReal.coe_add, ← EReal.coe_add, Ideal.exp_coe]
  rfl

theorem runT_real (hr : R2 run (fun r _ => ρ r)) (hS : R2p S (sR σ)) : R2 (runT run S) (fun r _ => runR ρ σ r) := by
  intro r c
  pointwise [runT]
  rw [hr r c, hS r _, sR_high, ← EReal.coe_add]
  rfl

theorem zeroT_real : R2 (zeroT (F := Ideal)) (fun _ _ => 0) := by
  intro r c
  pointwise [zeroT]
  rfl

variable {v v0 v1 v2 : Vec Ideal S128x128 .bf16} {ν ν0 ν1 ν2 : Fin 128 → Fin 128 → ℝ}

theorem accT_real (ha : R2 acc α) (hw : R2 w ω) (hv : R2 v ν) :
    R2 (accT acc w v) (fun r d => α r d + ∑ c, ω r c * ν c d) := by
  intro r d
  pointwise [accT]
  rw [EReal.coe_add, sum_coe, ha r d]
  simp only [hw r _, hv _ d, EReal.coe_mul]

theorem accW_real (h0 : R2 w0 ω0) (h1 : R2 w1 ω1) (h2 : R2 w2 ω2) (k0 : R2 v0 ν0) (k1 : R2 v1 ν1) (k2 : R2 v2 ν2) :
    R2 (accW w0 w1 w2 v0 v1 v2) (fun r d => ((∑ c, ω2 r c * ν2 c d) + ∑ c, ω1 r c * ν1 c d) + ∑ c, ω0 r c * ν0 c d) := by
  intro r d
  pointwise [accW]
  simp only [h0 r _, h1 r _, h2 r _, k0 _ d, k1 _ d, k2 _ d]
  rw [show (Finset.univ : Finset (Fin 384)) = (Finset.univ : Finset (Fin (128 + 128 + 128))) from rfl]
  rw [Fin.sum_univ_add, Fin.sum_univ_add, EReal.coe_add, EReal.coe_add, sum_coe, sum_coe, sum_coe]
  rw [add_comm (∑ x, (((ω2 r x * ν2 x d : ℝ)) : EReal)) _, add_comm _ (∑ x, (((ω0 r x * ν0 x d : ℝ)) : EReal)), ← add_assoc]
  congr 1
end

end Cert.KernelIdeal.Tiles
-- ==== Proof.Stacks.lean ====
/-
  A block of rows of the product of stacked pairs with the constant matrix is the sums of that block's pair.
-/
module

public import proofs.«01_k».proof.Proof.Tiles

@[expose] public section

set_option maxHeartbeats 8000000

noncomputable section

namespace Cert.KernelIdeal.Tiles

open Cert.KernelIdeal Cert.KernelIdeal.Gen
open Idealize.ShloMosaic Idealize.ShloMosaic.TcCoe

theorem off0 {N : ℕ} {q : Fin N} (r : Fin 128) (l : Fin 256) (b : Fin S128x256.rank) (hb : b.cast (rfl : S128x256.rank = 2) ≠ (0 : Fin 2)) :
    ((ix2 r l : S128x256.Idx) b).val = ((ix2 q l : (⟨2, ![N, 256]⟩ : Shape).Idx) (b.cast rfl)).val := by
  match b with
  | ⟨0, _⟩ => exact absurd rfl hb
  | ⟨1, _⟩ => rfl

/-- The rows of the first `k` of pieces of 128 rows each. -/
theorem pre_sum (xs : List ((s : Shape) × (s.Idx → Ideal .bf16))) (hall : ∀ p ∈ xs, p.1 = S128x256) (T : Shape) (hT : T.rank = 2) (a : Fin T.rank) (ha : a.val = 0) (k : ℕ) (hk : k ≤ xs.length) :
    (((xs.take k).map (·.1)).map fun s => if h : s.rank = T.rank then s.size (a.cast h.symm) else 0).sum = 128 * k := by
  induction xs generalizing k with
  | nil =>
    have : k = 0 := by simpa using hk
    subst this
    rfl
  | cons p xs ih =>
    match k with
    | 0 => rfl
    | k + 1 =>
      have hk' : k ≤ xs.length := by simpa using hk
      rw [List.take_succ_cons, List.map_cons, List.map_cons, List.sum_cons, ih (fun q hq => hall q (List.mem_cons_of_mem _ hq)) k hk']
      have e := hall p List.mem_cons_self
      obtain ⟨s, y⟩ := p
      dsimp only at e ⊢
      subst e
      rw [dif_pos hT.symm]
      have : S128x256.size (a.cast hT) = 128 := by
        rw [show a.cast hT = (0 : Fin 2) from Fin.ext ha]
        rfl
      omega

theorem stack24_apply (x : Fin 24 → FVec Ideal S128x256 .bf16) (n : Fin 24) (r : Fin 128) (l : Fin 256) (h : 128 * n.val + r.val < 3072) :
    stack24 x (ix2 ⟨128 * n.val + r.val, h⟩ l) = x n (ix2 r l) := by
  unfold stack24
  refine concatenate_apply_piece (t := S3072x256) (0 : Fin 2) _ _ _ n.val (by exact n.isLt) S128x256 (x n) ?_ rfl (128 * n.val)
    (pre_sum _ (by intro p hp; simp only [List.mem_cons, List.not_mem_nil, or_false] at hp; rcases hp with rfl | rfl | rfl | rfl | rfl | rfl | rfl | rfl | rfl | rfl | rfl | rfl | rfl | rfl | rfl | rfl | rfl | rfl | rfl | rfl | rfl | rfl | rfl | rfl <;> rfl) S3072x256 rfl 0 rfl n.val (by exact n.isLt.le)) (ix2 r l) (off0 r l) rfl
  obtain ⟨k, hk⟩ := n
  match k, hk with
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | k + 24, hk => exact absurd hk (by omega)

theorem stack4_apply (x : Fin 4 → FVec Ideal S128x256 .bf16) (n : Fin 4) (r : Fin 128) (l : Fin 256) (h : 128 * n.val + r.val < 512) :
    stack4 x (ix2 ⟨128 * n.val + r.val, h⟩ l) = x n (ix2 r l) := by
  unfold stack4
  refine concatenate_apply_piece (t := S512x256) (0 : Fin 2) _ _ _ n.val (by exact n.isLt) S128x256 (x n) ?_ rfl (128 * n.val)
    (pre_sum _ (by intro p hp; simp only [List.mem_cons, List.not_mem_nil, or_false] at hp; rcases hp with rfl | rfl | rfl | rfl <;> rfl) S512x256 rfl 0 rfl n.val (by exact n.isLt.le)) (ix2 r l) (off0 r l) rfl
  obtain ⟨k, hk⟩ := n
  match k, hk with
  | 0, _ => rfl
  | 1, _ => rfl
  | 2, _ => rfl
  | 3, _ => rfl
  | k + 4, hk => exact absurd hk (by omega)

section
variable {C : Vec Ideal S256x256 .bf16} {σ : Fin 128 → Fin 128 → ℝ}

theorem sum24_real (hC : ∀ l c, C (ix2 l c) = ((cR l c : ℝ) : EReal)) (x : Fin 24 → FVec Ideal S128x256 .bf16) (n : Fin 24) (o : ℕ)
    (ho : o = 128 * n.val) (h : S3072x256.Slices ![o, 0] S128x256) (hx : R2p (x n) (hlR σ)) :
    R2p (extractStridedSlice S128x256 ![o, 0] (sum24 x C) h) (sR σ) := by
  intro r c
  unfold sum24
  pointwise []
  rw [← sum_real hx hC r c]
  refine Finset.sum_congr rfl (fun l _ => ?_)
  congr 1
  subst ho
  exact stack24_apply x n r l _

theorem sum4_real (hC : ∀ l c, C (ix2 l c) = ((cR l c : ℝ) : EReal)) (x : Fin 4 → FVec Ideal S128x256 .bf16) (n : Fin 4) (o : ℕ)
    (ho : o = 128 * n.val) (h : S512x256.Slices ![o, 0] S128x256) (hx : R2p (x n) (hlR σ)) :
    R2p (extractStridedSlice S128x256 ![o, 0] (sum4 x C) h) (sR σ) := by
  intro r c
  unfold sum4
  pointwise []
  rw [← sum_real hx hC r c]
  refine Finset.sum_congr rfl (fun l _ => ?_)
  congr 1
  subst ho
  exact stack4_apply x n r l _
end

end Cert.KernelIdeal.Tiles
-- ==== Proof.Heads.lean ====
/-
  One trip of a walk as a function of tiles: the four heads' queries, the keys and values of the block copied, and what the
  buffers of sums held.
-/
module

public import proofs.«01_k».proof.Proof.Reads
public import proofs.«01_k».proof.Proof.Stacks

@[expose] public section

noncomputable section

namespace Cert.KernelIdeal.Run

open Cert.KernelIdeal Cert.KernelIdeal.Gen Cert.KernelIdeal.Tiles
open Idealize.ShloMosaic Idealize.ShloMosaic.TcCoe Idealize.SL.Sem

theorem plane_le {g : ℕ} (hg : g < 2) (a : Fin 3) : (![g, 0, 0] : Fin 3 → ℕ) a + S1x128x512.size a ≤ S2x128x512.size a := by
  match a with
  | ⟨0, _⟩ => show g + 1 ≤ 2; omega
  | ⟨1, _⟩ => show 0 + 128 ≤ 128; omega
  | ⟨2, _⟩ => show 0 + 512 ≤ 512; omega
theorem cols_le (h : Fin 4) (a : Fin 2) : (![0, 128 * h.val] : Fin 2 → ℕ) a + S128x128.size a ≤ S128x512.size a := by
  have := h.isLt
  match a with
  | ⟨0, _⟩ => show 0 + 128 ≤ 128; omega
  | ⟨1, _⟩ => show 128 * h.val + 128 ≤ 512; omega
theorem lift_sizes (i : Fin 2) : (![1, 128, 512] : Fin 3 → ℕ) i.succ = (![128, 512] : Fin 2 → ℕ) i := by
  match i with
  | ⟨0, _⟩ => rfl
  | ⟨1, _⟩ => rfl

section
variable {F : FTy → Type} {sp : Space} {e : EltTy}

theorem lift_numel (h : Fin 4) : ((Rect.unit (s := S128x512) ![0, 128 * h.val] S128x128.size (cols_le h)).consLift ![1, 128, 512] rfl lift_sizes).shape.numel
      = (Rect.unit (s := S128x512) ![0, 128 * h.val] S128x128.size (cols_le h)).shape.numel := by
  revert h
  decide +kernel

/-- Head `h` of plane `g`, loaded. -/
def headOf (v : View sig .tc sp S2x128x512 e) (f : v.ty.Contents (Elt F)) {g : ℕ} (hg : g < 2) (h : Fin 4) : S128x128.Idx → Elt F e :=
  LoadRect.valAlong (lr := (Rect.unit (s := S128x512) ![0, 128 * h.val] S128x128.size (cols_le h)).toLoadRect)
    (LR := (Rect.unit (s := S2x128x512) ![g, 0, 0] S1x128x512.size (plane_le hg)).withinL
      ((Rect.unit (s := S128x512) ![0, 128 * h.val] S128x128.size (cols_le h)).toLoadRect.consLift ![1, 128, 512] rfl lift_sizes) (fun _ => rfl))
    (lift_numel h).symm (View.readAt (Elt F) v _ f)

theorem headOf_apply (v : View sig .tc sp S2x128x512 e) (f : v.ty.Contents (Elt F)) {g : ℕ} (hg : g < 2) (h : Fin 4) (r d : Fin 128) :
    headOf v f hg h (ix2 r d) = v.read (Elt F) f (ix3 ⟨g, hg⟩ r ⟨128 * h.val + d.val, by omega⟩) :=
  load_head v f g (128 * h.val) hg _ _ _ _ _ _ r d _

/-- The store of `w` at head `h` of plane `g`. -/
def headPiece {g : ℕ} (hg : g < 2) (h : Fin 4) (w : S128x128.Idx → Elt F e) : View.Piece (Elt F) S2x128x512 e :=
  ⟨(Rect.unit (s := S2x128x512) ![g, 0, 0] S1x128x512.size (plane_le hg)).within
      ((Rect.unit (s := S128x512) ![0, 128 * h.val] S128x128.size (cols_le h)).consLift ![1, 128, 512] rfl lift_sizes) (fun _ => rfl),
    Rect.payAlong (lift_numel h) w⟩

/-- The buffer after its plane `g` is stored, head by head. -/
def stored (v : View sig .tc sp S2x128x512 e) (f : v.ty.Contents (Elt F)) {g : ℕ} (hg : g < 2) (w : Fin 4 → S128x128.Idx → Elt F e) : v.ty.Contents (Elt F) :=
  v.writes (Elt F) f [headPiece hg 3 (w 3), headPiece hg 2 (w 2), headPiece hg 1 (w 1), headPiece hg 0 (w 0)]

variable (v : View sig .tc sp S2x128x512 e) (f : v.ty.Contents (Elt F)) {g : ℕ} (hg : g < 2)

theorem piece_hit (h : Fin 4) (w : S128x128.Idx → Elt F e) (L : List (View.Piece (Elt F) S2x128x512 e)) (r d : Fin 128) (c : Fin 512) (hc : c.val = 128 * h.val + d.val) :
    v.read (Elt F) (v.writes (Elt F) f (headPiece hg h w :: L)) (ix3 ⟨g, hg⟩ r c) = w (ix2 r d) :=
  store_hit v f g (128 * h.val) hg _ _ _ _ _ _ w L r d c hc
theorem piece_col (h : Fin 4) (w : S128x128.Idx → Elt F e) (L : List (View.Piece (Elt F) S2x128x512 e)) (y : S2x128x512.Idx)
    (hy : (y 2).val < 128 * h.val ∨ 128 * h.val + 128 ≤ (y 2).val) :
    v.read (Elt F) (v.writes (Elt F) f (headPiece hg h w :: L)) y = v.read (Elt F) (v.writes (Elt F) f L) y :=
  store_miss_col v f g (128 * h.val) _ _ _ _ _ _ w L y hy
theorem piece_plane (h : Fin 4) (w : S128x128.Idx → Elt F e) (L : List (View.Piece (Elt F) S2x128x512 e)) (y : S2x128x512.Idx)
    (hy : (y 0).val ≠ g) :
    v.read (Elt F) (v.writes (Elt F) f (headPiece hg h w :: L)) y = v.read (Elt F) (v.writes (Elt F) f L) y :=
  store_miss_plane v f g (128 * h.val) _ _ _ _ _ _ w L y hy

theorem stored_hit (w : Fin 4 → S128x128.Idx → Elt F e) (h : Fin 4) (r d : Fin 128) (c : Fin 512) (hc : c.val = 128 * h.val + d.val) :
    v.read (Elt F) (stored v f hg w) (ix3 ⟨g, hg⟩ r c) = w h (ix2 r d) := by
  have hd := d.isLt
  unfold stored
  match h, hc with
  | ⟨3, _⟩, hc => exact piece_hit v f hg 3 _ _ r d c hc
  | ⟨2, _⟩, hc =>
    have hc : c.val = 256 + d.val := hc
    rw [piece_col v f hg 3 _ _ _ (Or.inl (by show c.val < 384; omega))]
    exact piece_hit v f hg 2 _ _ r d c hc
  | ⟨1, _⟩, hc =>
    have hc : c.val = 128 + d.val := hc
    rw [piece_col v f hg 3 _ _ _ (Or.inl (by show c.val < 384; omega)), piece_col v f hg 2 _ _ _ (Or.inl (by show c.val < 256; omega))]
    exact piece_hit v f hg 1 _ _ r d c hc
  | ⟨0, _⟩, hc =>
    have hc : c.val = 0 + d.val := hc
    rw [piece_col v f hg 3 _ _ _ (Or.inl (by show c.val < 384; omega)), piece_col v f hg 2 _ _ _ (Or.inl (by show c.val < 256; omega)),
      piece_col v f hg 1 _ _ _ (Or.inl (by show c.val < 128; omega))]
    exact piece_hit v f hg 0 _ _ r d c hc
theorem stored_miss (w : Fin 4 → S128x128.Idx → Elt F e) (y : S2x128x512.Idx) (hy : (y 0).val ≠ g) :
    v.read (Elt F) (stored v f hg w) y = v.read (Elt F) f y := by
  unfold stored
  rw [piece_plane v f hg 3 _ _ _ hy, piece_plane v f hg 2 _ _ _ hy, piece_plane v f hg 1 _ _ _ hy, piece_plane v f hg 0 _ _ _ hy]
  rfl
end

section
variable {F : FTy → Type} [FloatOps F] [Named F]

theorem slice4 (h : Fin 4) : S512x256.Slices ![128 * h.val, 0] S128x256 := by
  match h with
  | ⟨0, _⟩ => exact slices_S512x256_o0_0_S128x256
  | ⟨1, _⟩ => exact slices_S512x256_o128_0_S128x256
  | ⟨2, _⟩ => exact slices_S512x256_o256_0_S128x256
  | ⟨3, _⟩ => exact slices_S512x256_o384_0_S128x256

/-- The sums of a head's block. -/
def tripS (q k : Fin 4 → Vec F S128x128 .bf16) (C : Vec F S256x256 .bf16) (h : Fin 4) : FVec F S128x256 .f32 :=
  extractStridedSlice S128x256 ![128 * h.val, 0] (sum4 (fun h => hlT (spT (zT (q h) (k h)))) C) (slice4 h)
/-- What the trip stores as a head's running sums. -/
def tripRun (q k : Fin 4 → Vec F S128x128 .bf16) (C : Vec F S256x256 .bf16) (run : Fin 4 → FVec F S128x128 .f32) (h : Fin 4) : FVec F S128x128 .f32 :=
  shapeCast S128x128 (runT (run h) (tripS q k C h)) shapeCasts_S128x128_S128x128
/-- What the trip stores as a head's output. -/
def tripAcc (q k v : Fin 4 → Vec F S128x128 .bf16) (C : Vec F S256x256 .bf16) (run acc : Fin 4 → FVec F S128x128 .f32) (h : Fin 4) : FVec F S128x128 .f32 :=
  shapeCast S128x128 (accT (acc h) (wT (zT (q h) (k h)) (tripS q k C h) (run h)) (v h)) shapeCasts_S128x128_S128x128

variable (c : Dev nD)
/-- The first head's queries, loaded as a slice of the plane. -/
def q0 (M8 : Memref sig .tc .vmem S2x128x512 .bf16) (f8 : Bf (F := F) c M8) {g : ℕ} (hg : g < 2) : Vec F S128x128 .bf16 :=
  View.readAt (Elt F) ((M8.slice (Rect.unit (s := S2x128x512) ![g, 0, 0] S1x128x512.size (plane_le hg)) (fun _ => rfl)).squeeze S128x512 squeezes_S1x128x512_S128x512).view
    (Rect.unit (s := S128x512) ![0, 0] S128x128.size inb_S128x512_S128x128_0_0).toLoadRect f8
/-- The queries of the four heads. -/
def qs (M8 : Memref sig .tc .vmem S2x128x512 .bf16) (f8 : Bf (F := F) c M8) {g : ℕ} (hg : g < 2) (h : Fin 4) : Vec F S128x128 .bf16 := match h with
  | 0 => q0 c M8 f8 hg
  | 1 => headOf M8.view f8 hg 1
  | 2 => headOf M8.view f8 hg 2
  | 3 => headOf M8.view f8 hg 3
/-- The keys and the values of the four heads, out of the blocks copied. -/
def ks (f : Bf (F := F) c kM) (h : Fin 4) : Vec F S128x128 .bf16 :=
  View.readAt (Elt F) kM.view (Rect.unit (s := S128x512) ![0, 128 * h.val] S128x128.size (cols_le h)).toLoadRect f
def vs (f : Bf (F := F) c vM) (h : Fin 4) : Vec F S128x128 .bf16 :=
  View.readAt (Elt F) vM.view (Rect.unit (s := S128x512) ![0, 128 * h.val] S128x128.size (cols_le h)).toLoadRect f
/-- The constant matrix. -/
def cs (M15 : Memref sig .tc .vmem S256x256 .bf16) (f : Bf (F := F) c M15) : Vec F S256x256 .bf16 :=
  View.readAt (Elt F) M15.view (Rect.unit (s := S256x256) ![0, 0] S256x256.size inb_S256x256_S256x256_0_0).toLoadRect f

end

end Cert.KernelIdeal.Run
-- ==== Proof.Starts.lean ====
/-
  The first three key blocks of a query block, done at once: the eight heads' tiles, their sums out of one product, what is
  stored as running sums and as outputs, and the bound and the result block made of what the buffers then hold.
-/
module

public import proofs.«01_k».proof.Proof.Heads
public import proofs.«01_k».proof.Proof.Body

@[expose] public section

noncomputable section

namespace Cert.KernelIdeal.Run

open Cert.KernelIdeal Cert.KernelIdeal.Gen Cert.KernelIdeal.Tiles
open Idealize.ShloMosaic Idealize.ShloMosaic.TcCoe Idealize.SL.Sem

theorem col_le (h : Fin 4) (a : Fin 2) : (![0, 128 * h.val] : Fin 2 → ℕ) a + S128x1.size a ≤ S128x512.size a := by
  have := h.isLt
  match a with
  | ⟨0, _⟩ => show 0 + 128 ≤ 128; omega
  | ⟨1, _⟩ => show 128 * h.val + 1 ≤ 512; omega
theorem col_numel (h : Fin 4) : ((Rect.unit (s := S128x512) ![0, 128 * h.val] S128x1.size (col_le h)).consLift ![1, 128, 512] rfl lift_sizes).shape.numel
      = (Rect.unit (s := S128x512) ![0, 128 * h.val] S128x1.size (col_le h)).shape.numel := by
  revert h
  decide +kernel

/-- The three blocks of an entry of the stack: batch, head and block. -/
def gg (n : Fin 24) : Fin 2 := ⟨n.val / 12, by omega⟩
def hh (n : Fin 24) : Fin 4 := ⟨n.val / 3 % 4, by omega⟩
def jj (n : Fin 24) : Fin 3 := ⟨n.val % 3, by omega⟩
/-- The entry of the stack of a batch, a head and a block. -/
def nn (g : Fin 2) (h : Fin 4) (j : Fin 3) : Fin 24 := ⟨12 * g.val + 3 * h.val + j.val, by omega⟩
theorem slice24 (n : Fin 24) : S3072x256.Slices ![128 * n.val, 0] S128x256 := by
  revert n
  decide +kernel

section
variable {F : FTy → Type} [FloatOps F] [Named F]

/-- One of the three blocks of scores. -/
def zJ (j : Fin 3) (w : FVec F S128x384 .f32) : FVec F S128x128 .f32 := match j with
  | 0 => zW0 w
  | 1 => zW1 w
  | 2 => zW2 w

/-- What the first three blocks are computed from: queries, keys, values by batch and head, and what each block keeps of a tile. -/
structure St (F : FTy → Type) where
  q : Fin 2 → Fin 4 → Vec F S128x128 .bf16
  k0 : Fin 2 → Fin 4 → Vec F S128x128 .bf16
  k1 : Fin 2 → Fin 4 → Vec F S128x128 .bf16
  k2 : Fin 2 → Fin 4 → Vec F S128x128 .bf16
  v0 : Fin 2 → Fin 4 → Vec F S128x128 .bf16
  v1 : Fin 2 → Fin 4 → Vec F S128x128 .bf16
  v2 : Fin 2 → Fin 4 → Vec F S128x128 .bf16
  kp : Fin 3 → FVec F S128x128 .f32 → FVec F S128x128 .f32

def St.z (T : St F) (g : Fin 2) (h : Fin 4) : FVec F S128x384 .f32 := zW (T.q g h) (T.k0 g h) (T.k1 g h) (T.k2 g h)
def St.x (T : St F) (n : Fin 24) : FVec F S128x256 .bf16 := hlT (T.kp (jj n) (spT (zJ (jj n) (T.z (gg n) (hh n)))))
/-- The sums of a block of a head of a batch. -/
def sl24 (X : FVec F S3072x256 .f32) (g : Fin 2) (h : Fin 4) (j : Fin 3) : FVec F S128x256 .f32 :=
  extractStridedSlice S128x256 ![128 * (nn g h j).val, 0] X (slice24 (nn g h j))
/-- The running sums past the last block, and past the last two. -/
def run2 (X : FVec F S3072x256 .f32) (g : Fin 2) (h : Fin 4) : FVec F S128x128 .f32 := runT zeroT (sl24 X g h 2)
def run1 (X : FVec F S3072x256 .f32) (g : Fin 2) (h : Fin 4) : FVec F S128x128 .f32 := runT (run2 X g h) (sl24 X g h 1)
/-- The running sums stored. -/
def startRun (X : FVec F S3072x256 .f32) (g : Fin 2) (h : Fin 4) : FVec F S128x128 .f32 :=
  shapeCast S128x128 (runT (run1 X g h) (sl24 X g h 0)) shapeCasts_S128x128_S128x128
/-- The outputs stored. -/
def St.acc (T : St F) (X : FVec F S3072x256 .f32) (g : Fin 2) (h : Fin 4) : FVec F S128x128 .f32 :=
  shapeCast S128x128 (accW (T.kp 0 (wT (zJ 0 (T.z g h)) (sl24 X g h 0) (run1 X g h))) (T.kp 1 (wT (zJ 1 (T.z g h)) (sl24 X g h 1) (run2 X g h)))
    (T.kp 2 (wT (zJ 2 (T.z g h)) (sl24 X g h 2) zeroT)) (T.v0 g h) (T.v1 g h) (T.v2 g h)) shapeCasts_S128x128_S128x128

variable (c : Dev nD)
/-- The two buffers after the stores. -/
def startA (T : St F) (X : FVec F S3072x256 .f32) : Bf (F := F) c accM :=
  stored accM.view (stored accM.view accM.view.junk (by decide : 0 < 2) (T.acc X 0)) (by decide : 1 < 2) (T.acc X 1)
def startR (X : FVec F S3072x256 .f32) : Bf (F := F) c runM :=
  stored runM.view (stored runM.view runM.view.junk (by decide : 0 < 2) (startRun X 0)) (by decide : 1 < 2) (startRun X 1)

/-- The first column of a head of the running sums. -/
def colOf (f : Bf (F := F) c runM) {g : ℕ} (hg : g < 2) (h : Fin 4) : S128x1.Idx → F .f32 :=
  LoadRect.valAlong (lr := (Rect.unit (s := S128x512) ![0, 128 * h.val] S128x1.size (col_le h)).toLoadRect)
    (LR := (Rect.unit (s := S2x128x512) ![g, 0, 0] S1x128x512.size (plane_le hg)).withinL
      ((Rect.unit (s := S128x512) ![0, 128 * h.val] S128x1.size (col_le h)).toLoadRect.consLift ![1, 128, 512] rfl lift_sizes) (fun _ => rfl))
    (col_numel h).symm (View.readAt (Elt F) runM.view _ f)
/-- The greatest of a column. -/
def hmax (v : S128x1.Idx → F .f32) : F .f32 :=
  extractAt ![0, 0, 0] (shapeCast S1x1x1 (multiReduction .maximumf [1, 2] S1 (shapeCast S1x128x1 (v : FVec F S128x1 .f32) shapeCasts_S128x1_S1x128x1) 0xFF800000#32
    reduces_S1x128x1_S1 (Or.inl rfl) rfl) shapeCasts_S1_S1x1x1) inpos_S1x1x1_p0_0_0
/-- The block of results a plane of the buffer of outputs makes. -/
def outP (f : Bf (F := F) c accM) {g : ℕ} (hg : g < 2) : Vec F S1x128x512 .bf16 :=
  shapeCast S1x128x512 (truncf .bf16 (shapeCast S128x512 (View.readAt (Elt F) accM.view (Rect.unit (s := S2x128x512) ![g, 0, 0] S1x128x512.size (plane_le hg)).toLoadRect f)
    shapeCasts_S1x128x512_S128x512 : FVec F S128x512 .f32) bitsLt_bf16_f32) shapeCasts_S128x512_S1x128x512
/-- The result block's buffer, from the buffer of outputs after either walk. -/
def outW (M18 : Memref sig .tc .vmem S2x128x512 .bf16) (A1 A2 : Bf (F := F) c accM) : Bf (F := F) c M18 :=
  M18.view.writes (Elt F) M18.view.junk [⟨Rect.unit (s := S2x128x512) ![1, 0, 0] S1x128x512.size (plane_le (by decide : 1 < 2)), outP c A2 (by decide : 1 < 2)⟩,
    ⟨Rect.unit (s := S2x128x512) ![0, 0, 0] S1x128x512.size (plane_le (by decide : 0 < 2)), outP c A1 (by decide : 0 < 2)⟩]

/-- All heads of both batches, loaded. -/
def heads2 (M : Memref sig .tc .vmem S2x128x512 .bf16) (f : Bf (F := F) c M) (g : Fin 2) (h : Fin 4) : Vec F S128x128 .bf16 := headOf M.view f g.isLt h

/-- The mask of a block against the query's own: column less than row. -/
def maskD : IVec S128x128 1 := k0_pay3 (iota Kind.tc S128x128 32 [0] iota_S128x128_d0_w32) (iota Kind.tc S128x128 32 [1] iota_S128x128_d1_w32)
def kpFar (j : Fin 3) (s : FVec F S128x128 .f32) : FVec F S128x128 .f32 := match j with
  | 0 => s
  | 1 => s
  | 2 => keepT maskD s
/-- The mask of a block near the array's start: position of the key less than the query's. -/
def maskN (i : grid0.Coords) (w : BitVec 32) : IVec S128x128 1 :=
  cmpi .slt (addi (broadcast S128x128 (Scalar.muli (Scalar.addi (Scalar.maxsi (Scalar.subi (BitVec.ofNat 32 (i 1).val) 2#32) 0#32) w) 128#32))
      (iota Kind.tc S128x128 32 [1] iota_S128x128_d1_w32))
    (addi (broadcast S128x128 (Scalar.muli (BitVec.ofNat 32 (i 1).val) 128#32)) (iota Kind.tc S128x128 32 [0] iota_S128x128_d0_w32))
def kpNear (i : grid0.Coords) (j : Fin 3) (s : FVec F S128x128 .f32) : FVec F S128x128 .f32 := match j with
  | 0 => keepT (maskN i 0#32) s
  | 1 => keepT (maskN i 1#32) s
  | 2 => keepT (maskN i 2#32) s
end

end Cert.KernelIdeal.Run
-- ==== Proof.Sticks.lean ====
/-
  Stick-breaking weights over the reals, block by block: for a query's scores `z` and the number `t` of keys before the query, the
  sum of softplus over the later keys, the weight of a key, the weighted sum of the values, each over the keys from `n` on; and how
  a block of 128 keys carries each from the block's end to its beginning.
-/
module

public import proofs.«01_k».proof.Proof.Tiles

@[expose] public section

noncomputable section

namespace Cert.KernelIdeal.Sticks

open Cert.KernelIdeal.Tiles Finset

/-- The softplus of a key before the query, nothing of another. -/
def kept (z : ℕ → ℝ) (t j : ℕ) : ℝ := if j < t then sp (z j) else 0
/-- Minus the sum of softplus over the keys from `n` on. -/
def R (z : ℕ → ℝ) (t n : ℕ) : ℝ := -∑ j ∈ Ico n 16384, kept z t j
/-- A key's weight. -/
def W (z : ℕ → ℝ) (t s : ℕ) : ℝ := if s < t then Real.exp (z s - sp (z s) + R z t (s + 1)) else 0
/-- The weighted sum over the keys from `n` on. -/
def A (z : ℕ → ℝ) (t : ℕ) (v : ℕ → ℝ) (n : ℕ) : ℝ := ∑ s ∈ Ico n 16384, W z t s * v s

variable (z : ℕ → ℝ) (t : ℕ) (v : ℕ → ℝ)

theorem R_past (n : ℕ) (h : t ≤ n) : R z t n = 0 := by
  unfold R
  rw [sum_eq_zero, neg_zero]
  intro j hj
  unfold kept
  rw [if_neg (by have := (mem_Ico.1 hj).1; omega)]

theorem A_past (n : ℕ) (h : t ≤ n) : A z t v n = 0 := by
  unfold A
  refine sum_eq_zero fun j hj => ?_
  unfold W
  rw [if_neg (by have := (mem_Ico.1 hj).1; omega), zero_mul]

theorem block_sum (f : ℕ → ℝ) (B : ℕ) (hB : 128 * B + 128 ≤ 16384) :
    ∑ j ∈ Ico (128 * B) 16384, f j = (∑ c : Fin 128, f (128 * B + c.val)) + ∑ j ∈ Ico (128 * B + 128) 16384, f j := by
  rw [← sum_Ico_consecutive f (by omega : 128 * B ≤ 128 * B + 128) hB, sum_Ico_eq_sum_range, Nat.add_sub_cancel_left, sum_range]

theorem block_R (B : ℕ) (hB : 128 * B + 128 ≤ 16384) :
    R z t (128 * B + 128) + -∑ l : Fin 128, kept z t (128 * B + l.val) = R z t (128 * B) := by
  unfold R
  rw [block_sum _ B hB]
  ring

theorem later_sum (f : ℕ → ℝ) (B : ℕ) (hB : 128 * B + 128 ≤ 16384) (c : Fin 128) :
    ∑ j ∈ Ico (128 * B + c.val + 1) 16384, f j
      = (∑ l : Fin 128, if c < l then f (128 * B + l.val) else 0) + ∑ j ∈ Ico (128 * B + 128) 16384, f j := by
  have hc := c.isLt
  rw [← sum_Ico_consecutive f (by omega : 128 * B + c.val + 1 ≤ 128 * B + 128) hB]
  congr 1
  refine Eq.trans ?_ (sum_range (fun l => if c.val < l then f (128 * B + l) else 0))
  rw [← sum_filter, sum_Ico_eq_sum_range]
  refine sum_bij (fun i _ => c.val + 1 + i) ?_ ?_ ?_ ?_
  · intro i hi
    have := mem_range.1 hi
    rw [mem_filter, mem_range]
    omega
  · intro i _ j _ h
    simpa using h
  · intro b hb
    rw [mem_filter, mem_range] at hb
    exact ⟨b - (c.val + 1), mem_range.2 (by omega), by omega⟩
  · intro i _
    congr 1
    omega

theorem block_W (B : ℕ) (hB : 128 * B + 128 ≤ 16384) (c : Fin 128) (hc : 128 * B + c.val < t) :
    Real.exp (z (128 * B + c.val) - sp (z (128 * B + c.val))
      + ((-∑ l : Fin 128, if c < l then kept z t (128 * B + l.val) else 0) + R z t (128 * B + 128))) = W z t (128 * B + c.val) := by
  unfold W
  rw [if_pos hc]
  congr 2
  unfold R
  rw [later_sum _ B hB c]
  ring

theorem block_A (B : ℕ) (hB : 128 * B + 128 ≤ 16384) :
    A z t v (128 * B + 128) + ∑ c : Fin 128, W z t (128 * B + c.val) * v (128 * B + c.val) = A z t v (128 * B) := by
  unfold A
  rw [block_sum _ B hB]
  ring

/-- A query's scores, from the projections `P` by row and column: batch `b`, head `h`, query `t`. -/
def zz (P : ℕ → ℕ → ℝ) (b h t : ℕ) : ℕ → ℝ := fun s =>
  (∑ d : Fin 128, P (16384 * b + t) (5120 + 128 * h + d.val) * P (16384 * b + s) (5632 + 128 * h + d.val)) * scl
/-- A column of a head's values. -/
def vv (P : ℕ → ℕ → ℝ) (b h d : ℕ) : ℕ → ℝ := fun s => P (16384 * b + s) (6144 + 128 * h + d)
/-- The layer's stick-breaking attention at a row and a column of its result. -/
def out (P : ℕ → ℕ → ℝ) (r c : ℕ) : ℝ :=
  A (zz P (r / 16384) (c / 128) (r % 16384)) (r % 16384) (vv P (r / 16384) (c / 128) (c % 128)) 0

end Cert.KernelIdeal.Sticks
-- ==== Proof.Steps.lean ====
/-
  One block of keys on the reals: what the tiles of a trip, and of the first three blocks, hold when the arrays hold reals.
-/
module

public import proofs.«01_k».proof.Proof.Starts
public import proofs.«01_k».proof.Proof.Sticks
public import Idealize.ShloMosaic.PureOps.Ideal.Laws

@[expose] public section

set_option maxHeartbeats 1000000

noncomputable section

namespace Cert.KernelIdeal.Run

open Cert.KernelIdeal Cert.KernelIdeal.Gen Cert.KernelIdeal.Tiles Cert.KernelIdeal.Sticks
open Idealize.ShloMosaic Idealize.ShloMosaic.TcCoe Idealize.SL.Sem

/-- A head's queries of query block `n`, and its keys and values of block `B`, as reals. -/
def Qr (P : ℕ → ℕ → ℝ) (b h n : ℕ) (r d : Fin 128) : ℝ := P (16384 * b + (128 * n + r.val)) (5120 + 128 * h + d.val)
def Kr (P : ℕ → ℕ → ℝ) (b h B : ℕ) (r d : Fin 128) : ℝ := P (16384 * b + (128 * B + r.val)) (5632 + 128 * h + d.val)
def Vr (P : ℕ → ℕ → ℝ) (b h B : ℕ) (r d : Fin 128) : ℝ := P (16384 * b + (128 * B + r.val)) (6144 + 128 * h + d.val)
/-- The sums and the outputs of a query block from key block `B` on. -/
def Rn (P : ℕ → ℕ → ℝ) (b h n B : ℕ) (r : Fin 128) : ℝ := R (zz P b h (128 * n + r.val)) (128 * n + r.val) (128 * B)
def An (P : ℕ → ℕ → ℝ) (b h n B : ℕ) (r d : Fin 128) : ℝ := A (zz P b h (128 * n + r.val)) (128 * n + r.val) (vv P b h d.val) (128 * B)
/-- The softplus kept of block `B`. -/
def Tn (P : ℕ → ℕ → ℝ) (b h n B : ℕ) (r l : Fin 128) : ℝ :=
  if 128 * B + l.val < 128 * n + r.val then sp (zR (Qr P b h n) (Kr P b h B) r l) else 0
/-- The weights kept of block `B`. -/
def Wn (P : ℕ → ℕ → ℝ) (b h n B : ℕ) (r l : Fin 128) : ℝ :=
  if 128 * B + l.val < 128 * n + r.val then wR (zR (Qr P b h n) (Kr P b h B)) (Tn P b h n B) (Rn P b h n (B + 1)) r l else 0

variable (P : ℕ → ℕ → ℝ) (b h n B : ℕ)

theorem run_block (hB : B < 128) : runR (Rn P b h n (B + 1)) (Tn P b h n B) = Rn P b h n B := by
  funext r
  exact block_R (zz P b h (128 * n + r.val)) (128 * n + r.val) B (by omega)
theorem w_block (hB : B < 128) (r l : Fin 128) :
    Wn P b h n B r l = W (zz P b h (128 * n + r.val)) (128 * n + r.val) (128 * B + l.val) := by
  unfold Wn
  split
  · rename_i hc
    exact block_W (zz P b h (128 * n + r.val)) (128 * n + r.val) B (by omega) l hc
  · rename_i hc
    unfold W
    rw [if_neg hc]
theorem acc_block (hB : B < 128) (r d : Fin 128) :
    An P b h n (B + 1) r d + ∑ l, Wn P b h n B r l * Vr P b h B l d = An P b h n B r d := by
  simp only [w_block P b h n B hB]
  exact block_A (zz P b h (128 * n + r.val)) (128 * n + r.val) (vv P b h d.val) B (by omega)
/-- Every key of an earlier block is kept. -/
theorem kept_all (hB : B < n) (r l : Fin 128) : 128 * B + l.val < 128 * n + r.val := by
  have := l.isLt
  omega

theorem cast_real {x : FVec Ideal S128x128 .f32} {f : Fin 128 → Fin 128 → ℝ} (hx : R2 x f) :
    R2 (shapeCast S128x128 x shapeCasts_S128x128_S128x128) f := by
  rw [shapeCast_self]
  exact hx

section
variable {q k v : Fin 4 → Vec Ideal S128x128 .bf16} {C : Vec Ideal S256x256 .bf16} {run acc : Fin 4 → FVec Ideal S128x128 .f32}
  (hq : ∀ h, R2 (q h) (Qr P b h.val n)) (hk : ∀ h, R2 (k h) (Kr P b h.val B)) (hv : ∀ h, R2 (v h) (Vr P b h.val B))
  (hC : ∀ l c, C (ix2 l c) = ((cR l c : ℝ) : EReal)) (hr : ∀ h, R2 (run h) (fun r _ => Rn P b h.val n (B + 1) r))
  (ha : ∀ h, R2 (acc h) (An P b h.val n (B + 1)))
include hq hk hC

theorem tripS_real (hB : B < n) (h : Fin 4) : R2p (tripS q k C h) (sR (Tn P b h.val n B)) := by
  refine sum4_real hC _ h _ rfl _ (hlT_real ?_)
  have := spT_real (zT_real (hq h) (hk h))
  intro r c
  rw [this r c]
  unfold Tn
  rw [if_pos (kept_all n B hB r c)]

include hr
theorem tripRun_real (hB : B < n) (hn : n < 128) (h : Fin 4) : R2 (tripRun q k C run h) (fun r _ => Rn P b h.val n B r) := by
  have := cast_real (runT_real (hr h) (tripS_real P b n B hq hk hC hB h))
  rw [run_block P b h.val n B (by omega)] at this
  exact this

include hv ha
theorem tripAcc_real (hB : B < n) (hn : n < 128) (h : Fin 4) : R2 (tripAcc q k v C run acc h) (An P b h.val n B) := by
  have := cast_real (accT_real (ha h) (wT_real (zT_real (hq h) (hk h)) (tripS_real P b n B hq hk hC hB h) (hr h)) (hv h))
  intro r d
  refine (this r d).trans ?_
  rw [← acc_block P b h.val n B (by omega) r d]
  refine congrArg (fun x : ℝ => ((An P b h.val n (B + 1) r d + x : ℝ) : EReal)) (Finset.sum_congr rfl (fun l _ => ?_))
  unfold Wn
  rw [if_pos (kept_all n B hB r l)]
end

section
variable {T : St Ideal} {C : Vec Ideal S256x256 .bf16}

theorem jj_nn : ∀ g h j, jj (nn g h j) = j := by decide +kernel
theorem gg_nn : ∀ g h j, gg (nn g h j) = g := by decide +kernel
theorem hh_nn : ∀ g h j, hh (nn g h j) = h := by decide +kernel
theorem x_nn (g h j) : T.x (nn g h j) = hlT (T.kp j (spT (zJ j (T.z g h)))) := by
  unfold St.x
  rw [jj_nn, gg_nn, hh_nn]

variable (hq : ∀ g h, R2 (T.q g h) (Qr P g.val h.val n))
  (hk0 : ∀ g h, R2 (T.k0 g h) (Kr P g.val h.val B)) (hk1 : ∀ g h, R2 (T.k1 g h) (Kr P g.val h.val (B + 1))) (hk2 : ∀ g h, R2 (T.k2 g h) (Kr P g.val h.val (B + 2)))
  (hv0 : ∀ g h, R2 (T.v0 g h) (Vr P g.val h.val B)) (hv1 : ∀ g h, R2 (T.v1 g h) (Vr P g.val h.val (B + 1))) (hv2 : ∀ g h, R2 (T.v2 g h) (Vr P g.val h.val (B + 2)))
  (hkp : ∀ (j : Fin 3) (s : FVec Ideal S128x128 .f32) (σ : Fin 128 → Fin 128 → ℝ), R2 s σ →
    R2 (T.kp j s) (fun r l => if 128 * (B + j.val) + l.val < 128 * n + r.val then σ r l else 0))
  (hC : ∀ l c, C (ix2 l c) = ((cR l c : ℝ) : EReal)) (hB : n < B + 3) (hB2 : B + 2 < 128)

include hq hk0 hk1 hk2 in
theorem zJ_real (g h) (j : Fin 3) : R2 (zJ j (T.z g h)) (zR (Qr P g.val h.val n) (Kr P g.val h.val (B + j.val))) := by
  match j with
  | 0 => exact zW0_real (hq g h) (hk0 g h)
  | 1 => exact zW1_real (hq g h) (hk1 g h)
  | 2 => exact zW2_real (hq g h) (hk2 g h)

include hq hk0 hk1 hk2 hkp hC
theorem sl24_real (g h) (j : Fin 3) : R2p (sl24 (sum24 T.x C) g h j) (sR (Tn P g.val h.val n (B + j.val))) := by
  refine sum24_real hC T.x (nn g h j) _ rfl _ ?_
  rw [x_nn]
  exact hlT_real (hkp j _ _ (spT_real (zJ_real P n B hq hk0 hk1 hk2 g h j)))

include hB in
omit hq hk0 hk1 hk2 hkp hC in
theorem Rn_past (g h : ℕ) : Rn P g h n (B + 3) = fun _ => 0 := by
  funext r
  exact R_past _ _ _ (by have := r.isLt; omega)
include hB in
omit hq hk0 hk1 hk2 hkp hC in
theorem An_past (g h : ℕ) (r d : Fin 128) : An P g h n (B + 3) r d = 0 :=
  A_past _ _ _ _ (by have := r.isLt; omega)

omit hq hk0 hk1 hk2 hkp hC in
include hB in
theorem zero_run (g h : ℕ) : R2 (zeroT (F := Ideal)) (fun r _ => Rn P g h n (B + 3) r) := by
  rw [Rn_past P n B hB]
  exact zeroT_real

include hB hB2
theorem run2_real (g h) : R2 (run2 (sum24 T.x C) g h) (fun r _ => Rn P g.val h.val n (B + 2) r) := by
  have := runT_real (zero_run P n B hB g.val h.val) (sl24_real P n B hq hk0 hk1 hk2 hkp hC g h 2)
  rw [show (B + ((2 : Fin 3)).val) = B + 2 from rfl, run_block P g.val h.val n (B + 2) (by omega)] at this
  exact this
theorem run1_real (g h) : R2 (run1 (sum24 T.x C) g h) (fun r _ => Rn P g.val h.val n (B + 1) r) := by
  have := runT_real (run2_real P n B hq hk0 hk1 hk2 hkp hC hB hB2 g h) (sl24_real P n B hq hk0 hk1 hk2 hkp hC g h 1)
  rw [show (B + ((1 : Fin 3)).val) = B + 1 from rfl, run_block P g.val h.val n (B + 1) (by omega)] at this
  exact this
theorem startRun_real (g h) : R2 (startRun (sum24 T.x C) g h) (fun r _ => Rn P g.val h.val n B r) := by
  have := cast_real (runT_real (run1_real P n B hq hk0 hk1 hk2 hkp hC hB hB2 g h) (sl24_real P n B hq hk0 hk1 hk2 hkp hC g h 0))
  rw [show (B + ((0 : Fin 3)).val) = B from rfl, run_block P g.val h.val n B (by omega)] at this
  exact this

include hv0 hv1 hv2
theorem startAcc_real (g h) : R2 (T.acc (sum24 T.x C) g h) (An P g.val h.val n B) := by
  have z := zJ_real P n B hq hk0 hk1 hk2 g h
  have s := sl24_real P n B hq hk0 hk1 hk2 hkp hC g h
  have w0 := hkp 0 _ _ (wT_real (z 0) (s 0) (run1_real P n B hq hk0 hk1 hk2 hkp hC hB hB2 g h))
  have w1 := hkp 1 _ _ (wT_real (z 1) (s 1) (run2_real P n B hq hk0 hk1 hk2 hkp hC hB hB2 g h))
  have w2 := hkp 2 _ _ (wT_real (z 2) (s 2) (zero_run P n B hB g.val h.val))
  have := cast_real (accW_real w0 w1 w2 (hv0 g h) (hv1 g h) (hv2 g h))
  intro r d
  refine (this r d).trans ?_
  rw [← acc_block P g.val h.val n B (by omega) r d, ← acc_block P g.val h.val n (B + 1) (by omega) r d,
    ← acc_block P g.val h.val n (B + 2) (by omega) r d, show B + 1 + 1 = B + 2 from rfl, show B + 2 + 1 = B + 3 from rfl, An_past P n B hB, zero_add]
  rfl
end

/-- A column of values above −∞ has its greatest above −∞. -/
theorem hmax_pos {v : S128x1.Idx → EReal} (hv : ∀ y, ⊥ < v y) : (⊥ : EReal) < hmax (F := Ideal) v := by
  unfold hmax extractAt shapeCast
  dsimp only
  refine lt_of_lt_of_eq ?_ (multiReduction_maximumf_eq_fold (F := Ideal) _ _ reduces_S1x128x1_S1 (Or.inl rfl) rfl _).symm
  refine (Finset.lt_fold_max (β := EReal) _).2 (Or.inr ⟨ix3 0 0 0, ?_, ?_⟩)
  · refine Finset.mem_filter.2 ⟨Finset.mem_univ _, ?_⟩
    funext a
    match a with
    | ⟨0, _⟩ => exact Subsingleton.elim (α := Fin 1) _ _
  · exact hv _

end Cert.KernelIdeal.Run
-- ==== Proof.Blocks.lean ====
/-
  What each grid point's input blocks hold: entries of the projected array, and the matrix that sums.
-/
module

public import proofs.«01_k».proof.Proof.Frame
public import proofs.«01_k».proof.Proof.Steps
public import Idealize.ShloMosaic.Lib.Pointwise
public import Idealize.ShloMosaic.Lib.WordCmp

@[expose] public section

set_option maxRecDepth 16384
set_option maxHeartbeats 1600000

noncomputable section

namespace Cert.KernelIdeal.Run

open Cert.KernelIdeal Cert.KernelIdeal.Gen Cert.KernelIdeal.Tiles
open Idealize.ShloMosaic Idealize.ShloMosaic.TcCoe Idealize.SL.Sem

variable (m : (ℓ : Loc nD τ sig) → Buf (Elt Ideal) ℓ)

/-! ## The arrays the call reads, from the arguments -/

/-- The projected array, the two batches apart. -/
theorem V_v10 (c : Dev nD) : V m c main_v10 = shapeCast S2x16384x6912 (m ((c.tc : Thread nD τ).loc main_arg0)) shapeCasts_S32768x6912_S2x16384x6912 := by
  unfold V V₀
  after_results_simp
  try rfl
theorem batches_apart (x : (⟨S32768x6912, .bf16⟩ : BufTy).Contents (Elt Ideal)) (b : Fin 2) (s : Fin 16384) (k : Fin 6912) (R : Fin 32768) (hR : R.val = 16384 * b.val + s.val) :
    shapeCast S2x16384x6912 x shapeCasts_S32768x6912_S2x16384x6912 (ix3 b s k) = x (ix2 R k) := by
  refine shapeCast_apply x _ (ix3 b s k) (ix2 R k) ?_
  rw [Shape.rowMajor_val_three, Shape.rowMajor_val_two]
  show R.val * 6912 + k.val = (b.val * 16384 + s.val) * 6912 + k.val
  omega
theorem batches_joined (x : (⟨S2x16384x512, .bf16⟩ : BufTy).Contents (Elt Ideal)) (R : Fin 32768) (k : Fin 512) (b : Fin 2) (s : Fin 16384) (hR : R.val = 16384 * b.val + s.val) :
    shapeCast S32768x512 x shapeCasts_S2x16384x512_S32768x512 (ix2 R k) = x (ix3 b s k) := by
  refine shapeCast_apply x _ (ix2 R k) (ix3 b s k) ?_
  rw [Shape.rowMajor_val_three, Shape.rowMajor_val_two]
  show (b.val * 16384 + s.val) * 512 + k.val = R.val * 512 + k.val
  omega

/-- The matrix that sums: over one block of positions, later columns against earlier rows, and a block of ones. -/
def ladder : (⟨S128x128, .f32⟩ : BufTy).Contents (Elt Ideal) := uitofp (F := Ideal) .f32 (cmpi .sgt (iotaInDim S128x128 32 0) (iotaInDim S128x128 32 1))
def allOnes : (⟨S128x128, .f32⟩ : BufTy).Contents (Elt Ideal) := broadcastInDim S128x128 ![] bcast_S_S128x128 (constant (F := Ideal) S_ .f32 0x3F800000#32)
def halfSum : (⟨S128x256, .f32⟩ : BufTy).Contents (Elt Ideal) :=
  Host.negf (F := Ideal) (φ := .f32) (concatenate S128x256 1 [⟨S128x128, ladder⟩, ⟨S128x128, allOnes⟩] concatenates_S128x128_S128x128_S128x256_d1)
def sumMatrix : (⟨S256x256, .bf16⟩ : BufTy).Contents (Elt Ideal) :=
  truncf (F := Ideal) .bf16 (concatenate S256x256 0 [⟨S128x256, halfSum⟩, ⟨S128x256, halfSum⟩] concatenates_S128x256_S128x256_S256x256_d0) bitsLt_bf16_f32

theorem beside_congr {a a' b b' : (⟨S128x128, .f32⟩ : BufTy).Contents (Elt Ideal)} (ha : a = a') (hb : b = b') :
    (concatenate S128x256 1 [⟨S128x128, a⟩, ⟨S128x128, b⟩] concatenates_S128x128_S128x128_S128x256_d1 : (⟨S128x256, .f32⟩ : BufTy).Contents (Elt Ideal))
      = concatenate S128x256 1 [⟨S128x128, a'⟩, ⟨S128x128, b'⟩] concatenates_S128x128_S128x128_S128x256_d1 := by
  subst ha; subst hb; rfl
theorem below_congr {a a' b b' : (⟨S128x256, .f32⟩ : BufTy).Contents (Elt Ideal)} (ha : a = a') (hb : b = b') :
    (concatenate S256x256 0 [⟨S128x256, a⟩, ⟨S128x256, b⟩] concatenates_S128x256_S128x256_S256x256_d0 : (⟨S256x256, .f32⟩ : BufTy).Contents (Elt Ideal))
      = concatenate S256x256 0 [⟨S128x256, a'⟩, ⟨S128x256, b'⟩] concatenates_S128x256_S128x256_S256x256_d0 := by
  subst ha; subst hb; rfl

theorem V_v8 (c : Dev nD) : V m c main_v8 = sumMatrix := by
  unfold V V₀
  after_results_simp
  refine congrArg (truncf (F := Ideal) .bf16 · bitsLt_bf16_f32) (below_congr ?_ ?_) <;>
  · try dsimp only [Matrix.cons_val]
    after_results_simp
    refine congrArg (Host.negf (F := Ideal) (φ := .f32)) (beside_congr ?_ ?_) <;>
    · try dsimp only [Matrix.cons_val]
      after_results_simp
      rfl

theorem ladder_apply (r c : Fin 128) : ladder (ix2 r c) = (((if c.val < r.val then 1 else 0 : ℝ)) : EReal) := by
  have hr := r.isLt
  have hc := c.isLt
  have e : IntOp.cmpi .sgt (BitVec.ofNat 32 r.val) (BitVec.ofNat 32 c.val) = if c.val < r.val then 1#1 else 0#1 := by
    obtain ⟨h1, h2⟩ : IntOp.cmpi .slt (BitVec.ofNat 32 c.val) (BitVec.ofNat 32 r.val) = 1#1 ↔ c.val < r.val :=
      WordCmp.cmpi_slt_ofNat_eq_one_iff (a := c.val) (b := r.val) (by omega) (by omega)
    have hs : IntOp.cmpi .sgt (BitVec.ofNat 32 r.val) (BitVec.ofNat 32 c.val) = IntOp.cmpi .slt (BitVec.ofNat 32 c.val) (BitVec.ofNat 32 r.val) := rfl
    rw [hs]
    split
    · rename_i h; exact h2 h
    · rename_i h
      rcases (by decide : ∀ y : BitVec 1, y = 1#1 ∨ y = 0#1) (IntOp.cmpi .slt (BitVec.ofNat 32 c.val) (BitVec.ofNat 32 r.val)) with h' | h'
      · exact absurd (h1 h') h
      · exact h'
  show (((IntOp.cmpi .sgt (BitVec.ofNat 32 r.val) (BitVec.ofNat 32 c.val)).toNat : ℝ) : EReal) = _
  rw [e]
  split <;> simp
theorem allOnes_apply (r c : Fin 128) : allOnes (ix2 r c) = ((1 : ℝ) : EReal) := by
  show Ideal.ofBits FTy.f32 0x3F800000#32 = _
  exact one_bits
theorem halfSum_apply (r : Fin 128) (c : Fin 256) :
    halfSum (ix2 r c) = (((if c.val < 128 then (if c.val < r.val then -1 else 0) else -1 : ℝ)) : EReal) := by
  by_cases h : c.val < 128
  · have e : halfSum (ix2 r c) = -(ladder (ix2 r ⟨c.val, h⟩) : EReal) := by
      pointwise [halfSum]
      rw [dif_pos h]
    rw [e, ladder_apply, if_pos h]
    show -(((if c.val < r.val then 1 else 0 : ℝ)) : EReal) = _
    split <;> simp
  · have e : halfSum (ix2 r c) = -(allOnes (ix2 r ⟨c.val - 128, by omega⟩) : EReal) := by
      pointwise [halfSum]
      rw [dif_neg h]
    rw [e, allOnes_apply, if_neg h]
    simp
theorem sumMatrix_apply (l c : Fin 256) : sumMatrix (ix2 l c) = ((cR l c : ℝ) : EReal) := by
  have e : sumMatrix (ix2 l c) = halfSum (ix2 ⟨l.val % 128, Nat.mod_lt _ (by decide)⟩ c) := by
    by_cases h : l.val < 128
    · have : sumMatrix (ix2 l c) = halfSum (ix2 ⟨l.val, h⟩ c) := by
        pointwise [sumMatrix]
        rw [dif_pos h]
      rw [this]
      congr 2
      apply Fin.ext
      show l.val = l.val % 128
      omega
    · have : sumMatrix (ix2 l c) = halfSum (ix2 ⟨l.val - 128, by omega⟩ c) := by
        pointwise [sumMatrix]
        rw [dif_neg h]
      rw [this]
      congr 2
      apply Fin.ext
      show l.val - 128 = l.val % 128
      omega
  rw [e, halfSum_apply]
  rfl

/-! ## Where each point's blocks lie -/

theorem coord_facts : ∀ t : Fin grid0.N, ((grid0.coords t) 1).val = t.val ∧ t.val < 128 := by decide +kernel

theorem place6 : ∀ t : Fin grid0.N, cc0_transform_6 (grid0.coords t) (0 : Fin 3) = 0 ∧ cc0_transform_6 (grid0.coords t) (1 : Fin 3) = t.val
    ∧ cc0_transform_6 (grid0.coords t) (2 : Fin 3) = 10 := by decide +kernel
theorem block6 (c : Dev nD) (t : Fin (cfg0 (F := Ideal)).N) (g : Fin 2) (r : Fin 128) (x : Fin 512) (s : Fin 16384) (k : Fin 6912)
    (hs : s.val = 128 * t.val + r.val) (hk : k.val = 5120 + x.val) :
    xblk m c 6 t (ix3 g r x) = (V m c main_v10 : S2x16384x6912.Idx → EReal) (ix3 g s k) := by
  obtain ⟨p0, p1, p2⟩ := place6 t
  have hm : ((cfg0 (F := Ideal)).win 6).moved ((cfg0 (F := Ideal)).grid.coords t) (ix3 g r x) = true :=
    (((cfg0 (F := Ideal)).win 6).moved_iff _ _).mpr fun a => by
      unfold Pipeline.Window.xsize
      rw [clip0_6 (F := Ideal) t a]
      exact ((ix3 g r x : S2x128x512.Idx) a).isLt
  unfold xblk Pipeline.Window.fill
  rw [dif_pos hm]
  refine congrArg (V m c main_v10 : S2x16384x6912.Idx → EReal) ?_
  funext a
  apply Fin.ext
  match a with
  | ⟨0, _⟩ => show cc0_transform_6 (grid0.coords t) (0 : Fin 3) * 2 + 1 * g.val = g.val; omega
  | ⟨1, _⟩ => show cc0_transform_6 (grid0.coords t) (1 : Fin 3) * 128 + 1 * r.val = s.val; omega
  | ⟨2, _⟩ => show cc0_transform_6 (grid0.coords t) (2 : Fin 3) * 512 + 1 * x.val = k.val; omega

theorem place7 : ∀ t : Fin grid0.N, cc0_transform_7 (grid0.coords t) (0 : Fin 3) = 0 ∧ cc0_transform_7 (grid0.coords t) (1 : Fin 3) = (t.val - 2)
    ∧ cc0_transform_7 (grid0.coords t) (2 : Fin 3) = 11 := by decide +kernel
theorem block7 (c : Dev nD) (t : Fin (cfg0 (F := Ideal)).N) (g : Fin 2) (r : Fin 128) (x : Fin 512) (s : Fin 16384) (k : Fin 6912)
    (hs : s.val = 128 * (t.val - 2) + r.val) (hk : k.val = 5632 + x.val) :
    xblk m c 7 t (ix3 g r x) = (V m c main_v10 : S2x16384x6912.Idx → EReal) (ix3 g s k) := by
  obtain ⟨p0, p1, p2⟩ := place7 t
  have hm : ((cfg0 (F := Ideal)).win 7).moved ((cfg0 (F := Ideal)).grid.coords t) (ix3 g r x) = true :=
    (((cfg0 (F := Ideal)).win 7).moved_iff _ _).mpr fun a => by
      unfold Pipeline.Window.xsize
      rw [clip0_7 (F := Ideal) t a]
      exact ((ix3 g r x : S2x128x512.Idx) a).isLt
  unfold xblk Pipeline.Window.fill
  rw [dif_pos hm]
  refine congrArg (V m c main_v10 : S2x16384x6912.Idx → EReal) ?_
  funext a
  apply Fin.ext
  match a with
  | ⟨0, _⟩ => show cc0_transform_7 (grid0.coords t) (0 : Fin 3) * 2 + 1 * g.val = g.val; omega
  | ⟨1, _⟩ => show cc0_transform_7 (grid0.coords t) (1 : Fin 3) * 128 + 1 * r.val = s.val; omega
  | ⟨2, _⟩ => show cc0_transform_7 (grid0.coords t) (2 : Fin 3) * 512 + 1 * x.val = k.val; omega

theorem place8 : ∀ t : Fin grid0.N, cc0_transform_8 (grid0.coords t) (0 : Fin 3) = 0 ∧ cc0_transform_8 (grid0.coords t) (1 : Fin 3) = (t.val - 2 + 1)
    ∧ cc0_transform_8 (grid0.coords t) (2 : Fin 3) = 11 := by decide +kernel
theorem block8 (c : Dev nD) (t : Fin (cfg0 (F := Ideal)).N) (g : Fin 2) (r : Fin 128) (x : Fin 512) (s : Fin 16384) (k : Fin 6912)
    (hs : s.val = 128 * (t.val - 2 + 1) + r.val) (hk : k.val = 5632 + x.val) :
    xblk m c 8 t (ix3 g r x) = (V m c main_v10 : S2x16384x6912.Idx → EReal) (ix3 g s k) := by
  obtain ⟨p0, p1, p2⟩ := place8 t
  have hm : ((cfg0 (F := Ideal)).win 8).moved ((cfg0 (F := Ideal)).grid.coords t) (ix3 g r x) = true :=
    (((cfg0 (F := Ideal)).win 8).moved_iff _ _).mpr fun a => by
      unfold Pipeline.Window.xsize
      rw [clip0_8 (F := Ideal) t a]
      exact ((ix3 g r x : S2x128x512.Idx) a).isLt
  unfold xblk Pipeline.Window.fill
  rw [dif_pos hm]
  refine congrArg (V m c main_v10 : S2x16384x6912.Idx → EReal) ?_
  funext a
  apply Fin.ext
  match a with
  | ⟨0, _⟩ => show cc0_transform_8 (grid0.coords t) (0 : Fin 3) * 2 + 1 * g.val = g.val; omega
  | ⟨1, _⟩ => show cc0_transform_8 (grid0.coords t) (1 : Fin 3) * 128 + 1 * r.val = s.val; omega
  | ⟨2, _⟩ => show cc0_transform_8 (grid0.coords t) (2 : Fin 3) * 512 + 1 * x.val = k.val; omega

theorem place9 : ∀ t : Fin grid0.N, cc0_transform_9 (grid0.coords t) (0 : Fin 3) = 0 ∧ cc0_transform_9 (grid0.coords t) (1 : Fin 3) = (t.val - 2 + 2)
    ∧ cc0_transform_9 (grid0.coords t) (2 : Fin 3) = 11 := by decide +kernel
theorem block9 (c : Dev nD) (t : Fin (cfg0 (F := Ideal)).N) (g : Fin 2) (r : Fin 128) (x : Fin 512) (s : Fin 16384) (k : Fin 6912)
    (hs : s.val = 128 * (t.val - 2 + 2) + r.val) (hk : k.val = 5632 + x.val) :
    xblk m c 9 t (ix3 g r x) = (V m c main_v10 : S2x16384x6912.Idx → EReal) (ix3 g s k) := by
  obtain ⟨p0, p1, p2⟩ := place9 t
  have hm : ((cfg0 (F := Ideal)).win 9).moved ((cfg0 (F := Ideal)).grid.coords t) (ix3 g r x) = true :=
    (((cfg0 (F := Ideal)).win 9).moved_iff _ _).mpr fun a => by
      unfold Pipeline.Window.xsize
      rw [clip0_9 (F := Ideal) t a]
      exact ((ix3 g r x : S2x128x512.Idx) a).isLt
  unfold xblk Pipeline.Window.fill
  rw [dif_pos hm]
  refine congrArg (V m c main_v10 : S2x16384x6912.Idx → EReal) ?_
  funext a
  apply Fin.ext
  match a with
  | ⟨0, _⟩ => show cc0_transform_9 (grid0.coords t) (0 : Fin 3) * 2 + 1 * g.val = g.val; omega
  | ⟨1, _⟩ => show cc0_transform_9 (grid0.coords t) (1 : Fin 3) * 128 + 1 * r.val = s.val; omega
  | ⟨2, _⟩ => show cc0_transform_9 (grid0.coords t) (2 : Fin 3) * 512 + 1 * x.val = k.val; omega

theorem place10 : ∀ t : Fin grid0.N, cc0_transform_10 (grid0.coords t) (0 : Fin 3) = 0 ∧ cc0_transform_10 (grid0.coords t) (1 : Fin 3) = (t.val - 2)
    ∧ cc0_transform_10 (grid0.coords t) (2 : Fin 3) = 12 := by decide +kernel
theorem block10 (c : Dev nD) (t : Fin (cfg0 (F := Ideal)).N) (g : Fin 2) (r : Fin 128) (x : Fin 512) (s : Fin 16384) (k : Fin 6912)
    (hs : s.val = 128 * (t.val - 2) + r.val) (hk : k.val = 6144 + x.val) :
    xblk m c 10 t (ix3 g r x) = (V m c main_v10 : S2x16384x6912.Idx → EReal) (ix3 g s k) := by
  obtain ⟨p0, p1, p2⟩ := place10 t
  have hm : ((cfg0 (F := Ideal)).win 10).moved ((cfg0 (F := Ideal)).grid.coords t) (ix3 g r x) = true :=
    (((cfg0 (F := Ideal)).win 10).moved_iff _ _).mpr fun a => by
      unfold Pipeline.Window.xsize
      rw [clip0_10 (F := Ideal) t a]
      exact ((ix3 g r x : S2x128x512.Idx) a).isLt
  unfold xblk Pipeline.Window.fill
  rw [dif_pos hm]
  refine congrArg (V m c main_v10 : S2x16384x6912.Idx → EReal) ?_
  funext a
  apply Fin.ext
  match a with
  | ⟨0, _⟩ => show cc0_transform_10 (grid0.coords t) (0 : Fin 3) * 2 + 1 * g.val = g.val; omega
  | ⟨1, _⟩ => show cc0_transform_10 (grid0.coords t) (1 : Fin 3) * 128 + 1 * r.val = s.val; omega
  | ⟨2, _⟩ => show cc0_transform_10 (grid0.coords t) (2 : Fin 3) * 512 + 1 * x.val = k.val; omega

theorem place11 : ∀ t : Fin grid0.N, cc0_transform_11 (grid0.coords t) (0 : Fin 3) = 0 ∧ cc0_transform_11 (grid0.coords t) (1 : Fin 3) = (t.val - 2 + 1)
    ∧ cc0_transform_11 (grid0.coords t) (2 : Fin 3) = 12 := by decide +kernel
theorem block11 (c : Dev nD) (t : Fin (cfg0 (F := Ideal)).N) (g : Fin 2) (r : Fin 128) (x : Fin 512) (s : Fin 16384) (k : Fin 6912)
    (hs : s.val = 128 * (t.val - 2 + 1) + r.val) (hk : k.val = 6144 + x.val) :
    xblk m c 11 t (ix3 g r x) = (V m c main_v10 : S2x16384x6912.Idx → EReal) (ix3 g s k) := by
  obtain ⟨p0, p1, p2⟩ := place11 t
  have hm : ((cfg0 (F := Ideal)).win 11).moved ((cfg0 (F := Ideal)).grid.coords t) (ix3 g r x) = true :=
    (((cfg0 (F := Ideal)).win 11).moved_iff _ _).mpr fun a => by
      unfold Pipeline.Window.xsize
      rw [clip0_11 (F := Ideal) t a]
      exact ((ix3 g r x : S2x128x512.Idx) a).isLt
  unfold xblk Pipeline.Window.fill
  rw [dif_pos hm]
  refine congrArg (V m c main_v10 : S2x16384x6912.Idx → EReal) ?_
  funext a
  apply Fin.ext
  match a with
  | ⟨0, _⟩ => show cc0_transform_11 (grid0.coords t) (0 : Fin 3) * 2 + 1 * g.val = g.val; omega
  | ⟨1, _⟩ => show cc0_transform_11 (grid0.coords t) (1 : Fin 3) * 128 + 1 * r.val = s.val; omega
  | ⟨2, _⟩ => show cc0_transform_11 (grid0.coords t) (2 : Fin 3) * 512 + 1 * x.val = k.val; omega

theorem place12 : ∀ t : Fin grid0.N, cc0_transform_12 (grid0.coords t) (0 : Fin 3) = 0 ∧ cc0_transform_12 (grid0.coords t) (1 : Fin 3) = (t.val - 2 + 2)
    ∧ cc0_transform_12 (grid0.coords t) (2 : Fin 3) = 12 := by decide +kernel
theorem block12 (c : Dev nD) (t : Fin (cfg0 (F := Ideal)).N) (g : Fin 2) (r : Fin 128) (x : Fin 512) (s : Fin 16384) (k : Fin 6912)
    (hs : s.val = 128 * (t.val - 2 + 2) + r.val) (hk : k.val = 6144 + x.val) :
    xblk m c 12 t (ix3 g r x) = (V m c main_v10 : S2x16384x6912.Idx → EReal) (ix3 g s k) := by
  obtain ⟨p0, p1, p2⟩ := place12 t
  have hm : ((cfg0 (F := Ideal)).win 12).moved ((cfg0 (F := Ideal)).grid.coords t) (ix3 g r x) = true :=
    (((cfg0 (F := Ideal)).win 12).moved_iff _ _).mpr fun a => by
      unfold Pipeline.Window.xsize
      rw [clip0_12 (F := Ideal) t a]
      exact ((ix3 g r x : S2x128x512.Idx) a).isLt
  unfold xblk Pipeline.Window.fill
  rw [dif_pos hm]
  refine congrArg (V m c main_v10 : S2x16384x6912.Idx → EReal) ?_
  funext a
  apply Fin.ext
  match a with
  | ⟨0, _⟩ => show cc0_transform_12 (grid0.coords t) (0 : Fin 3) * 2 + 1 * g.val = g.val; omega
  | ⟨1, _⟩ => show cc0_transform_12 (grid0.coords t) (1 : Fin 3) * 128 + 1 * r.val = s.val; omega
  | ⟨2, _⟩ => show cc0_transform_12 (grid0.coords t) (2 : Fin 3) * 512 + 1 * x.val = k.val; omega

theorem place13 : ∀ t : Fin grid0.N, cc0_transform_13 (grid0.coords t) (0 : Fin 2) = 0 ∧ cc0_transform_13 (grid0.coords t) (1 : Fin 2) = 0 := by decide +kernel
theorem block13 (c : Dev nD) (t : Fin (cfg0 (F := Ideal)).N) (l k : Fin 256) :
    iblk m c 13 t (ix2 l k) = (V m c main_v8 : S256x256.Idx → EReal) (ix2 l k) := by
  obtain ⟨p0, p1⟩ := place13 t
  show (V m c main_v8 : S256x256.Idx → EReal) _ = _
  congr 1
  funext a
  apply Fin.ext
  match a with
  | ⟨0, _⟩ => show cc0_transform_13 (grid0.coords t) (0 : Fin 2) * 256 + 1 * l.val = l.val; omega
  | ⟨1, _⟩ => show cc0_transform_13 (grid0.coords t) (1 : Fin 2) * 256 + 1 * k.val = k.val; omega
theorem place15 : ∀ t : Fin grid0.N, cc0_transform_16 (grid0.coords t) (0 : Fin 3) = 0 ∧ cc0_transform_16 (grid0.coords t) (1 : Fin 3) = t.val
    ∧ cc0_transform_16 (grid0.coords t) (2 : Fin 3) = 0 := by decide +kernel

end Cert.KernelIdeal.Run
-- ==== Proof.Masks.lean ====
/-
  The masks of a query block's first three key blocks.
-/
module

public import proofs.«01_k».proof.Proof.Steps
public import Idealize.ShloMosaic.Lib.WordCmp
public import Idealize.ShloMosaic.Lib.Pointwise

@[expose] public section

set_option maxHeartbeats 1000000

noncomputable section

namespace Cert.KernelIdeal.Run

open Cert.KernelIdeal Cert.KernelIdeal.Gen Cert.KernelIdeal.Tiles Cert.KernelIdeal.Sticks
open Idealize.ShloMosaic Idealize.ShloMosaic.TcCoe Idealize.SL.Sem

/-- The mask of a block against the query's own keeps the columns before the row. -/
theorem maskD_iff (r l : Fin 128) : maskD (ix2 r l) = 1#1 ↔ l.val < r.val := by
  have := r.isLt
  have := l.isLt
  have e : maskD (ix2 r l) = IntOp.cmpi .slt (BitVec.ofNat 32 l.val) (BitVec.ofNat 32 r.val) := by
    pointwise [maskD, k0_pay3]
  rw [e]
  exact WordCmp.cmpi_slt_ofNat_eq_one_iff (a := l.val) (b := r.val) (by omega) (by omega)

theorem kpFar_real (n B : ℕ) (hn : n = B + 2) (j : Fin 3) (s : FVec Ideal S128x128 .f32) (σ : Fin 128 → Fin 128 → ℝ) (hs : R2 s σ) :
    R2 (kpFar j s) (fun r l => if 128 * (B + j.val) + l.val < 128 * n + r.val then σ r l else 0) := by
  subst hn
  match j with
  | 0 =>
    intro r l
    have := l.isLt
    refine (hs r l).trans ?_
    show ((σ r l : ℝ) : EReal) = ((if 128 * (B + 0) + l.val < 128 * (B + 2) + r.val then σ r l else 0 : ℝ) : EReal)
    rw [if_pos (show 128 * (B + 0) + l.val < 128 * (B + 2) + r.val by omega)]
  | 1 =>
    intro r l
    have := l.isLt
    refine (hs r l).trans ?_
    show ((σ r l : ℝ) : EReal) = ((if 128 * (B + 1) + l.val < 128 * (B + 2) + r.val then σ r l else 0 : ℝ) : EReal)
    rw [if_pos (show 128 * (B + 1) + l.val < 128 * (B + 2) + r.val by omega)]
  | 2 =>
    exact keepT_real (fun r l => 128 * (B + 2) + l.val < 128 * (B + 2) + r.val)
      (fun r l => (maskD_iff r l).trans (by omega)) hs

/-- The mask of block `w` near the array's start keeps the columns whose position is before the row's. -/
theorem maskN_iff (i : grid0.Coords) (hi : (i 1).val < 2) (w : Fin 3) (r l : Fin 128) :
    maskN i (BitVec.ofNat 32 w.val) (ix2 r l) = 1#1 ↔ 128 * w.val + l.val < 128 * (i 1).val + r.val := by
  have hr := r.isLt
  have hl := l.isLt
  have e1 : ∀ (n : Fin 2) (w : Fin 3), IntOp.muli (IntOp.addi (IntOp.maxsi (IntOp.subi (BitVec.ofNat 32 n.val) 2#32) 0#32) (BitVec.ofNat 32 w.val)) 128#32
      = BitVec.ofNat 32 (128 * w.val) := by decide +kernel
  have e2 : ∀ n : Fin 2, IntOp.muli (BitVec.ofNat 32 n.val) 128#32 = BitVec.ofNat 32 (128 * n.val) := by decide +kernel
  have e : maskN i (BitVec.ofNat 32 w.val) (ix2 r l) = IntOp.cmpi .slt
      (IntOp.addi (IntOp.muli (IntOp.addi (IntOp.maxsi (IntOp.subi (BitVec.ofNat 32 (i 1).val) 2#32) 0#32) (BitVec.ofNat 32 w.val)) 128#32) (BitVec.ofNat 32 l.val))
      (IntOp.addi (IntOp.muli (BitVec.ofNat 32 (i 1).val) 128#32) (BitVec.ofNat 32 r.val)) := by
    pointwise [maskN]
    rfl
  rw [e]
  clear e
  generalize (i 1).val = n at hi ⊢
  rw [e1 ⟨n, hi⟩ w, e2 ⟨n, hi⟩]
  show IntOp.cmpi .slt (BitVec.ofNat 32 (128 * w.val) + BitVec.ofNat 32 l.val) (BitVec.ofNat 32 (128 * n) + BitVec.ofNat 32 r.val) = 1#1 ↔ _
  rw [← BitVec.ofNat_add, ← BitVec.ofNat_add]
  have := w.isLt
  exact WordCmp.cmpi_slt_ofNat_eq_one_iff (a := 128 * w.val + l.val) (b := 128 * n + r.val) (by omega) (by omega)

theorem kpNear_real (i : grid0.Coords) (hi : (i 1).val < 2) (n : ℕ) (hn : (i 1).val = n) (j : Fin 3) (s : FVec Ideal S128x128 .f32) (σ : Fin 128 → Fin 128 → ℝ) (hs : R2 s σ) :
    R2 (kpNear i j s) (fun r l => if 128 * (0 + j.val) + l.val < 128 * n + r.val then σ r l else 0) := by
  subst hn
  match j with
  | 0 => exact keepT_real (fun r l => 128 * (0 + 0) + l.val < 128 * (i 1).val + r.val) (fun r l => (maskN_iff i hi 0 r l).trans (by simp)) hs
  | 1 => exact keepT_real (fun r l => 128 * (0 + 1) + l.val < 128 * (i 1).val + r.val) (fun r l => (maskN_iff i hi 1 r l).trans (by simp)) hs
  | 2 => exact keepT_real (fun r l => 128 * (0 + 2) + l.val < 128 * (i 1).val + r.val) (fun r l => (maskN_iff i hi 2 r l).trans (by simp)) hs

end Cert.KernelIdeal.Run
-- ==== Proof.Loads.lean ====
/-
  What the loads of the attention's body read: the block of keys and of values a trip copies are rows of the projected array,
  and a head of a plane of a block is 128 of its columns.
-/
module

public import proofs.«01_k».proof.Proof.Starts

@[expose] public section

set_option maxHeartbeats 1000000

noncomputable section

namespace Cert.KernelIdeal.Run

open Cert.KernelIdeal Cert.KernelIdeal.Gen Cert.KernelIdeal.Tiles
open Idealize.ShloMosaic Idealize.ShloMosaic.TcCoe Idealize.SL.Sem

theorem off1_first : ∀ k : Fin 128, k0_off1 i₀ (BitVec.ofNat 32 k.val) = ![128 * k.val, 5632] := by decide +kernel
theorem off2_first : ∀ k : Fin 128, k0_off2 i₀ (BitVec.ofNat 32 k.val) = ![128 * k.val, 6144] := by decide +kernel
theorem off3_first : ∀ k : Fin 128, k0_off3 i₀ (BitVec.ofNat 32 k.val) = ![16384 + 128 * k.val, 5632] := by decide +kernel
theorem off4_first : ∀ k : Fin 128, k0_off4 i₀ (BitVec.ofNat 32 k.val) = ![16384 + 128 * k.val, 6144] := by decide +kernel

section
variable (i : grid0.Coords) (k : ℕ) (hk : k < 128)
include hk
/-- Where the copies of a trip start. -/
theorem off1_eq : k0_off1 i (BitVec.ofNat 32 k) = ![128 * k, 5632] := by
  have h := off1_first ⟨k, hk⟩
  have e : (i 0).val = (i₀ 0).val := (coord_zero i).trans (coord_zero i₀).symm
  unfold k0_off1 at h ⊢
  rw [e]; exact h
theorem off2_eq : k0_off2 i (BitVec.ofNat 32 k) = ![128 * k, 6144] := by
  have h := off2_first ⟨k, hk⟩
  have e : (i 0).val = (i₀ 0).val := (coord_zero i).trans (coord_zero i₀).symm
  unfold k0_off2 at h ⊢
  rw [e]; exact h
theorem off3_eq : k0_off3 i (BitVec.ofNat 32 k) = ![16384 + 128 * k, 5632] := by
  have h := off3_first ⟨k, hk⟩
  have e : (i 0).val = (i₀ 0).val := (coord_zero i).trans (coord_zero i₀).symm
  unfold k0_off3 at h ⊢
  rw [e]; exact h
theorem off4_eq : k0_off4 i (BitVec.ofNat 32 k) = ![16384 + 128 * k, 6144] := by
  have h := off4_first ⟨k, hk⟩
  have e : (i 0).val = (i₀ 0).val := (coord_zero i).trans (coord_zero i₀).symm
  unfold k0_off4 at h ⊢
  rw [e]; exact h
end

section
variable {F : FTy → Type} [FloatOps F] [Named F] (c : Dev nD)

/-- A head of a block copied from the projected array at an offset. -/
theorem copied_apply (fp : Bf (F := F) c projM) (o : Fin 2 → ℕ) (ho : ∀ a, o a + S128x512.size a ≤ S32768x6912.size a) (R C : ℕ) (e : o = ![R, C]) (h : Fin 4) (r d : Fin 128)
    (hR : R + 128 ≤ 32768) (hC : C + 512 ≤ 6912) :
    View.readAt (Elt F) kM.view (Rect.unit (s := S128x512) ![0, 128 * h.val] S128x128.size (cols_le h)).toLoadRect
        (ReadAs.same.apply (View.read (Elt F) (projM.slice (Rect.unit (s := S32768x6912) o S128x512.size ho) (fun _ => rfl)).view fp)) (ix2 r d)
      = projM.view.read (Elt F) fp (ix2 ⟨R + r.val, by have := r.isLt; omega⟩ ⟨C + 128 * h.val + d.val, by have := h.isLt; have := d.isLt; omega⟩) := by
  show projM.view.read (Elt F) fp _ = _
  subst e
  congr 1
  funext a
  apply Fin.ext
  match a with
  | ⟨0, _⟩ => show R + 1 * (0 + 1 * r.val) = R + r.val; omega
  | ⟨1, _⟩ => show C + 1 * (128 * h.val + 1 * d.val) = C + 128 * h.val + d.val; omega

variable (i : grid0.Coords) (fp : Bf (F := F) c projM) (k : ℕ) (hk : k < 128) (h : Fin 4) (r d : Fin 128)

theorem ks1_apply (hc : k0_chk1 i (BitVec.ofNat 32 k)) : ks c (trip1.sl.dma0 c i (BitVec.ofNat 32 k) hc fp) h (ix2 r d)
    = projM.view.read (Elt F) fp (ix2 ⟨128 * k + r.val, by have := r.isLt; omega⟩ ⟨5632 + 128 * h.val + d.val, by have := h.isLt; have := d.isLt; omega⟩) :=
  copied_apply c fp _ _ _ _ (off1_eq i k hk) h r d (by omega) (by omega)
theorem vs1_apply (hc : k0_chk1 i (BitVec.ofNat 32 k)) : vs c (trip1.sl.dma0_1 c i (BitVec.ofNat 32 k) hc fp) h (ix2 r d)
    = projM.view.read (Elt F) fp (ix2 ⟨128 * k + r.val, by have := r.isLt; omega⟩ ⟨6144 + 128 * h.val + d.val, by have := h.isLt; have := d.isLt; omega⟩) :=
  copied_apply c fp _ _ _ _ (off2_eq i k hk) h r d (by omega) (by omega)
theorem ks2_apply (hc : k0_chk2 i (BitVec.ofNat 32 k)) : ks c (trip2.sl.dma0 c i (BitVec.ofNat 32 k) hc fp) h (ix2 r d)
    = projM.view.read (Elt F) fp (ix2 ⟨16384 + 128 * k + r.val, by have := r.isLt; omega⟩ ⟨5632 + 128 * h.val + d.val, by have := h.isLt; have := d.isLt; omega⟩) :=
  copied_apply c fp _ _ _ _ (off3_eq i k hk) h r d (by omega) (by omega)
theorem vs2_apply (hc : k0_chk2 i (BitVec.ofNat 32 k)) : vs c (trip2.sl.dma0_1 c i (BitVec.ofNat 32 k) hc fp) h (ix2 r d)
    = projM.view.read (Elt F) fp (ix2 ⟨16384 + 128 * k + r.val, by have := r.isLt; omega⟩ ⟨6144 + 128 * h.val + d.val, by have := h.isLt; have := d.isLt; omega⟩) :=
  copied_apply c fp _ _ _ _ (off4_eq i k hk) h r d (by omega) (by omega)

end

section
variable {F : FTy → Type} [FloatOps F] [Named F] (c : Dev nD)

/-- The first head, loaded as a slice of the plane. -/
theorem q0_apply (r d : Fin 128) (M8 : Memref sig .tc .vmem S2x128x512 .bf16) (f8 : Bf (F := F) c M8) {g : ℕ} (hg : g < 2) :
    q0 c M8 f8 hg (ix2 r d) = M8.view.read (Elt F) f8 (ix3 ⟨g, hg⟩ r ⟨128 * 0 + d.val, by omega⟩) := by
  have hx := Shape.reshapeEquiv_cons_one (d := (![128, 512] : Fin 2 → ℕ)) (by decide +kernel : S128x512.numel = S1x128x512.numel)
    ((Rect.unit (s := S128x512) ![0, 0] S128x128.size inb_S128x512_S128x128_0_0).toLoadRect.idx (ix2 r d))
  show M8.view.read (Elt F) f8 _ = _
  congr 1
  funext a
  apply Fin.ext
  have hx' := congrFun hx
  match a with
  | ⟨0, _⟩ => exact (by intro x hx; omega : ∀ x : ℕ, x = 0 → g + 1 * x = g) _ (congrArg Fin.val (hx' 0))
  | ⟨1, _⟩ => exact (by intro x hx; omega : ∀ x : ℕ, x = 0 + 1 * r.val → 0 + 1 * x = r.val) _ (congrArg Fin.val (hx' 1))
  | ⟨2, _⟩ => exact (by intro x hx; omega : ∀ x : ℕ, x = 0 + 1 * d.val → 0 + 1 * x = 128 * 0 + d.val) _ (congrArg Fin.val (hx' 2))

/-- The queries of a head. -/
theorem qs_apply (h : Fin 4) (r d : Fin 128) (M8 : Memref sig .tc .vmem S2x128x512 .bf16) (f8 : Bf (F := F) c M8) {g : ℕ} (hg : g < 2) :
    qs c M8 f8 hg h (ix2 r d) = M8.view.read (Elt F) f8 (ix3 ⟨g, hg⟩ r ⟨128 * h.val + d.val, by omega⟩) := by
  match h with
  | 0 => exact q0_apply c r d M8 f8 hg
  | 1 => exact headOf_apply M8.view f8 hg 1 r d
  | 2 => exact headOf_apply M8.view f8 hg 2 r d
  | 3 => exact headOf_apply M8.view f8 hg 3 r d

/-- The constant matrix. -/
theorem cs_apply (M15 : Memref sig .tc .vmem S256x256 .bf16) (f : Bf (F := F) c M15) (l m : Fin 256) :
    cs c M15 f (ix2 l m) = M15.view.read (Elt F) f (ix2 l m) := by
  show M15.view.read (Elt F) f _ = _
  congr 1
  funext a
  apply Fin.ext
  match a with
  | ⟨0, _⟩ => show 0 + 1 * l.val = l.val; omega
  | ⟨1, _⟩ => show 0 + 1 * m.val = m.val; omega

/-- The first column of a head of the running sums. -/
theorem colOf_apply (h : Fin 4) (f : Bf (F := F) c runM) {g : ℕ} (hg : g < 2) (y : S128x1.Idx) :
    ∃ r : Fin 128, colOf c f hg h y = runM.view.read (Elt F) f (ix3 ⟨g, hg⟩ r ⟨128 * h.val, by omega⟩) := by
  refine ⟨y 0, ?_⟩
  have hx := Shape.reshapeEquiv_cons_one (d := (![128, 1] : Fin 2 → ℕ)) (col_numel h).symm y
  have h1 : (y 1).val = 0 := by have := (y 1).isLt; change (y 1).val < 1 at this; omega
  show runM.view.read (Elt F) f _ = _
  congr 1
  funext a
  apply Fin.ext
  have hx' := congrFun hx
  match a with
  | ⟨0, _⟩ => exact (by intro x hx; omega : ∀ x : ℕ, x = 0 → (g + 0) + 1 * x = g) _ (congrArg Fin.val (hx' 0))
  | ⟨1, _⟩ => exact (by intro x hx; omega : ∀ x : ℕ, x = (y 0).val → (0 + 0) + 1 * x = (y 0).val) _ (congrArg Fin.val (hx' 1))
  | ⟨2, _⟩ => exact (by intro x hx; omega : ∀ x : ℕ, x = (y 1).val → (0 + 128 * h.val) + 1 * x = 128 * h.val) _ (congrArg Fin.val (hx' 2))

end

/-- What a plane of outputs makes of an entry. -/
theorem outP_apply (c : Dev nD) (f : Bf (F := Ideal) c accM) {g : ℕ} (hg : g < 2) (r : Fin 128) (x : Fin 512) :
    outP c f hg (ix3 0 r x) = accM.view.read (Elt Ideal) f (ix3 ⟨g, hg⟩ r x) := by
  show accM.view.read (Elt Ideal) f ((Rect.unit (s := S2x128x512) ![g, 0, 0] S1x128x512.size (plane_le hg)).toLoadRect.idx
    (Shape.reshapeEquiv shapeCasts_S1x128x512_S128x512 (Shape.reshapeEquiv shapeCasts_S128x512_S1x128x512 (ix3 0 r x)))) = _
  rw [Shape.reshapeEquiv_reshapeEquiv, Shape.reshapeEquiv_self]
  congr 1
  funext a
  apply Fin.ext
  match a with
  | ⟨0, _⟩ => show g + 1 * 0 = g; omega
  | ⟨1, _⟩ => show 0 + 1 * r.val = r.val; omega
  | ⟨2, _⟩ => show 0 + 1 * x.val = x.val; omega

/-- What the result block's buffer holds: the first plane from the first walk's outputs, the second from the second's. -/
theorem outW_zero (c : Dev nD) (M18 : Memref sig .tc .vmem S2x128x512 .bf16) (A1 A2 : Bf (F := Ideal) c accM) (r : Fin 128) (x : Fin 512) :
    M18.view.read (Elt Ideal) (outW c M18 A1 A2) (ix3 0 r x) = accM.view.read (Elt Ideal) A1 (ix3 0 r x) := by
  unfold outW
  refine (View.read_writes_cons_miss_of_axis M18.view _ _ _ (ix3 0 r x) (0 : Fin 3) 1 1 rfl rfl rfl (Or.inl (by show 0 < 1; omega))).trans ?_
  refine Eq.trans (View.read_writes_cons_hit_of_coords M18.view _ _ _ _ (ix3 (0 : Fin 1) r x) (ix3 (⟨0, by decide⟩ : Fin 2) r x) ?_) ?_
  rotate_left
  · exact outP_apply c A1 (by decide : 0 < 2) r x
  intro a
  match a with
  | ⟨0, _⟩ => rfl
  | ⟨1, _⟩ => show r.val = 0 + 1 * r.val; omega
  | ⟨2, _⟩ => show x.val = 0 + 1 * x.val; omega
theorem outW_one (c : Dev nD) (M18 : Memref sig .tc .vmem S2x128x512 .bf16) (A1 A2 : Bf (F := Ideal) c accM) (r : Fin 128) (x : Fin 512) :
    M18.view.read (Elt Ideal) (outW c M18 A1 A2) (ix3 1 r x) = accM.view.read (Elt Ideal) A2 (ix3 1 r x) := by
  unfold outW
  refine Eq.trans (View.read_writes_cons_hit_of_coords M18.view _ _ _ _ (ix3 (0 : Fin 1) r x) (ix3 (⟨1, by decide⟩ : Fin 2) r x) ?_) ?_
  rotate_left
  · exact outP_apply c A2 (by decide : 1 < 2) r x
  intro a
  match a with
  | ⟨0, _⟩ => rfl
  | ⟨1, _⟩ => show r.val = 0 + 1 * r.val; omega
  | ⟨2, _⟩ => show x.val = 0 + 1 * x.val; omega

end Cert.KernelIdeal.Run
-- ==== Proof.TripVals.lean ====
/-
  What the two trips store, as functions of tiles.
-/
module

public import proofs.«01_k».proof.Proof.Heads

@[expose] public section

set_option maxHeartbeats 4000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD)
variable (i : grid0.Coords) (M8 : Memref sig .tc .vmem S2x128x512 .bf16) (h8 : M8.IsWhole) (M15 : Memref sig .tc .vmem S256x256 .bf16) (h15 : M15.IsWhole) (kb : BitVec 32)
  (f8 : Bf (F := F) c M8) (f15 : Bf (F := F) c M15) (fp : Bf (F := F) c projM) (fa : Bf (F := F) c accM) (fr : Bf (F := F) c runM)

theorem trip1_run (hk : k0_chk1 i kb) : (trip1 c i M8 h8 M15 h15 kb hk f8 f15 fp fa fr).1.2.1
    = stored runM.view fr (by decide : 0 < 2) (tripRun (qs c M8 f8 (by decide : 0 < 2)) (ks c (trip1.sl.dma0 c i kb hk fp)) (cs c M15 f15) (headOf runM.view fr (by decide : 0 < 2))) := rfl
theorem trip1_acc (hk : k0_chk1 i kb) : (trip1 c i M8 h8 M15 h15 kb hk f8 f15 fp fa fr).1.1
    = stored accM.view fa (by decide : 0 < 2) (tripAcc (qs c M8 f8 (by decide : 0 < 2)) (ks c (trip1.sl.dma0 c i kb hk fp)) (vs c (trip1.sl.dma0_1 c i kb hk fp)) (cs c M15 f15)
      (headOf runM.view fr (by decide : 0 < 2)) (headOf accM.view fa (by decide : 0 < 2))) := rfl
theorem trip2_run (hk : k0_chk2 i kb) : (trip2 c i M8 h8 M15 h15 kb hk f8 f15 fp fa fr).1.2.1
    = stored runM.view fr (by decide : 1 < 2) (tripRun (qs c M8 f8 (by decide : 1 < 2)) (ks c (trip2.sl.dma0 c i kb hk fp)) (cs c M15 f15) (headOf runM.view fr (by decide : 1 < 2))) := rfl
theorem trip2_acc (hk : k0_chk2 i kb) : (trip2 c i M8 h8 M15 h15 kb hk f8 f15 fp fa fr).1.1
    = stored accM.view fa (by decide : 1 < 2) (tripAcc (qs c M8 f8 (by decide : 1 < 2)) (ks c (trip2.sl.dma0 c i kb hk fp)) (vs c (trip2.sl.dma0_1 c i kb hk fp)) (cs c M15 f15)
      (headOf runM.view fr (by decide : 1 < 2)) (headOf accM.view fa (by decide : 1 < 2))) := rfl

end Cert.KernelIdeal.Run
-- ==== Proof.TripBounds.lean ====
/-
  The bound a trip of either walk returns: at least the greatest running sum of the last head of the plane the trip stored.
-/
module

public import proofs.«01_k».proof.Proof.Starts
public import proofs.«01_k».proof.Proof.TripVals

@[expose] public section

set_option maxHeartbeats 4000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD)
variable (i : grid0.Coords) (M8 : Memref sig .tc .vmem S2x128x512 .bf16) (h8 : M8.IsWhole) (M15 : Memref sig .tc .vmem S256x256 .bf16) (h15 : M15.IsWhole) (kb : BitVec 32)
  (f8 : Bf (F := F) c M8) (f15 : Bf (F := F) c M15) (fp : Bf (F := F) c projM) (fa : Bf (F := F) c accM) (fr : Bf (F := F) c runM)

theorem trip1_bound (hk : k0_chk1 i kb) : ∃ b, (trip1 c i M8 h8 M15 h15 kb hk f8 f15 fp fa fr).1.2.2
    = Scalar.maximumf b (hmax (colOf c (stored runM.view runM.view.junk (by decide : 0 < 2)
        (tripRun (qs c M8 f8 (by decide : 0 < 2)) (ks c (trip1.sl.dma0 c i kb hk fp)) (cs c M15 f15) (headOf runM.view fr (by decide : 0 < 2)))) (by decide : 0 < 2) 3)) := ⟨_, rfl⟩
theorem trip2_bound (hk : k0_chk2 i kb) : ∃ b, (trip2 c i M8 h8 M15 h15 kb hk f8 f15 fp fa fr).1.2.2
    = Scalar.maximumf b (hmax (colOf c (stored runM.view runM.view.junk (by decide : 1 < 2)
        (tripRun (qs c M8 f8 (by decide : 1 < 2)) (ks c (trip2.sl.dma0 c i kb hk fp)) (cs c M15 f15) (headOf runM.view fr (by decide : 1 < 2)))) (by decide : 1 < 2) 3)) := ⟨_, rfl⟩

end Cert.KernelIdeal.Run
-- ==== Proof.Walks.lean ====
/-
  The two walks on the reals: the buffers of sums hold, after the trips made, each head's sums and outputs from the block reached
  on; the bound stays above −∞, so that no walk leaves before the first block.
-/
module

public import proofs.«01_k».proof.Proof.Loads
public import proofs.«01_k».proof.Proof.Steps
public import proofs.«01_k».proof.Proof.TripBounds
public import Idealize.ShloMosaic.Lib.WordCmp

@[expose] public section

set_option maxHeartbeats 1000000

noncomputable section

namespace Cert.KernelIdeal.Run

open Cert.KernelIdeal Cert.KernelIdeal.Gen Cert.KernelIdeal.Tiles Cert.KernelIdeal.Sticks
open Idealize.ShloMosaic Idealize.ShloMosaic.TcCoe Idealize.SL.Sem

/-- The walks go on: the block's number is not negative, and the threshold is −∞. -/
theorem cond_of_pos (k : ℕ) (hk : k < 128) (x : EReal) (hx : ⊥ < x) : cond (F := Ideal) (BitVec.ofNat 32 k) x := by
  have h0 : ∀ k : Fin 128, Scalar.cmpi .sge (BitVec.ofNat 32 k.val) 0#32 = 1#1 := by decide +kernel
  have h1 : ∀ y : BitVec 1, Scalar.andi 1#1 y = y := by decide
  unfold cond
  rw [h0 ⟨k, hk⟩, h1, IdealRules.named_const.ideal_named_scalar _ _ _ ⊥ rfl]
  show FloatOps.cmpf (F := Ideal) (φ := .f32) .ogt x (⊥ : EReal) = 1#1
  rw [Ideal.cmpf_def]
  simp [Ideal.cmp, hx]

variable (P : ℕ → ℕ → ℝ) (c : Dev nD)

/-- A plane of the buffers holds the sums and the outputs of the four heads from block `B` on. -/
def Inv (g : Fin 2) (n B : ℕ) (a : Bf (F := Ideal) c accM) (ρ : Bf (F := Ideal) c runM) : Prop :=
  ∀ (h : Fin 4) (r d : Fin 128) (x : Fin 512), x.val = 128 * h.val + d.val →
    accM.view.read (Elt Ideal) a (ix3 g r x) = ((An P g.val h.val n B r d : ℝ) : EReal)
    ∧ runM.view.read (Elt Ideal) ρ (ix3 g r x) = ((Rn P g.val h.val n B r : ℝ) : EReal)

theorem col_of (h : Fin 4) (d : Fin 128) : 128 * h.val + d.val < 512 := by omega

section
variable {P c}
theorem Inv.acc {g n B a ρ} (H : Inv P c g n B a ρ) (h : Fin 4) : R2 (headOf accM.view a g.isLt h) (An P g.val h.val n B) := by
  intro r d
  rw [headOf_apply]
  exact (H h r d ⟨_, col_of h d⟩ rfl).1
theorem Inv.run {g n B a ρ} (H : Inv P c g n B a ρ) (h : Fin 4) : R2 (headOf runM.view ρ g.isLt h) (fun r _ => Rn P g.val h.val n B r) := by
  intro r d
  rw [headOf_apply]
  exact (H h r d ⟨_, col_of h d⟩ rfl).2
/-- A buffer of sums whose plane holds reals has its columns above −∞. -/
theorem col_pos {g : ℕ} (hg : g < 2) (h : Fin 4) (f : Bf (F := Ideal) c runM)
    (H : ∀ r : Fin 128, ∃ x : ℝ, runM.view.read (Elt Ideal) f (ix3 ⟨g, hg⟩ r ⟨128 * h.val, by omega⟩) = (x : EReal)) (b : EReal) :
    (⊥ : EReal) < Scalar.maximumf (F := Ideal) (φ := .f32) b (hmax (F := Ideal) (colOf c f hg h)) := by
  refine lt_of_lt_of_le (hmax_pos (fun y => ?_)) (le_max_right b _)
  obtain ⟨r, e⟩ := colOf_apply c h f hg y
  obtain ⟨x, ex⟩ := H r
  rw [e, ex]
  exact EReal.bot_lt_coe x
end

variable (i : grid0.Coords) (M8 : Memref sig .tc .vmem S2x128x512 .bf16) (h8 : M8.IsWhole) (M15 : Memref sig .tc .vmem S256x256 .bf16) (h15 : M15.IsWhole)
  (f8 : Bf (F := Ideal) c M8) (f15 : Bf (F := Ideal) c M15) (fp : Bf (F := Ideal) c projM) (n : ℕ) (hn : n < 128)
  (hp : ∀ r x, projM.view.read (Elt Ideal) fp (ix2 r x) = ((P r.val x.val : ℝ) : EReal))
  (hq : ∀ (g : Fin 2) (h : Fin 4) (r d : Fin 128), M8.view.read (Elt Ideal) f8 (ix3 g r ⟨128 * h.val + d.val, col_of h d⟩) = ((Qr P g.val h.val n r d : ℝ) : EReal))
  (hC : ∀ l m, M15.view.read (Elt Ideal) f15 (ix2 l m) = ((cR l m : ℝ) : EReal))

include hp in
theorem ks1_real (k : ℕ) (hk : k < 128) (hc) (h : Fin 4) : R2 (ks c (trip1.sl.dma0 c i (BitVec.ofNat 32 k) hc fp) h) (Kr P 0 h.val k) := by
  intro r d
  rw [ks1_apply c i fp k hk h r d hc, hp]
  unfold Kr
  rw [show 16384 * 0 + (128 * k + r.val) = 128 * k + r.val by omega]
include hp in
theorem vs1_real (k : ℕ) (hk : k < 128) (hc) (h : Fin 4) : R2 (vs c (trip1.sl.dma0_1 c i (BitVec.ofNat 32 k) hc fp) h) (Vr P 0 h.val k) := by
  intro r d
  rw [vs1_apply c i fp k hk h r d hc, hp]
  unfold Vr
  rw [show 16384 * 0 + (128 * k + r.val) = 128 * k + r.val by omega]
include hp in
theorem ks2_real (k : ℕ) (hk : k < 128) (hc) (h : Fin 4) : R2 (ks c (trip2.sl.dma0 c i (BitVec.ofNat 32 k) hc fp) h) (Kr P 1 h.val k) := by
  intro r d
  rw [ks2_apply c i fp k hk h r d hc, hp]
  unfold Kr
  rw [show 16384 * 1 + (128 * k + r.val) = 16384 + 128 * k + r.val by omega]
include hp in
theorem vs2_real (k : ℕ) (hk : k < 128) (hc) (h : Fin 4) : R2 (vs c (trip2.sl.dma0_1 c i (BitVec.ofNat 32 k) hc fp) h) (Vr P 1 h.val k) := by
  intro r d
  rw [vs2_apply c i fp k hk h r d hc, hp]
  unfold Vr
  rw [show 16384 * 1 + (128 * k + r.val) = 16384 + 128 * k + r.val by omega]
include hq in
theorem qs_real (g : Fin 2) (h : Fin 4) : R2 (qs c M8 f8 g.isLt h) (Qr P g.val h.val n) := by
  intro r d
  rw [qs_apply c h r d M8 f8 g.isLt]
  exact hq g h r d
include hC in
theorem cs_real (l m : Fin 256) : cs c M15 f15 (ix2 l m) = ((cR l m : ℝ) : EReal) := by
  rw [cs_apply, hC]

/-- A column of a head's: which head, and which of its columns. -/
theorem store_inv {g : Fin 2} {B : ℕ} {A ρ : Fin 4 → FVec Ideal S128x128 .f32} (a : Bf (F := Ideal) c accM) (r : Bf (F := Ideal) c runM)
    (hA : ∀ h, R2 (A h) (An P g.val h.val n B)) (hρ : ∀ h, R2 (ρ h) (fun r _ => Rn P g.val h.val n B r)) :
    Inv P c g n B (stored accM.view a g.isLt A) (stored runM.view r g.isLt ρ) := by
  intro h r' d x hx
  exact ⟨(stored_hit accM.view a g.isLt A h r' d x hx).trans (hA h r' d), (stored_hit runM.view r g.isLt ρ h r' d x hx).trans (hρ h r' d)⟩

/-- The other plane is not touched. -/
theorem keep_inv {g g' : Fin 2} (hne : g' ≠ g) {B : ℕ} {A ρ : Fin 4 → FVec Ideal S128x128 .f32} {a : Bf (F := Ideal) c accM} {r : Bf (F := Ideal) c runM}
    (H : Inv P c g' n B a r) : Inv P c g' n B (stored accM.view a g.isLt A) (stored runM.view r g.isLt ρ) := by
  intro h r' d x hx
  have hv : ((ix3 g' r' x : S2x128x512.Idx) 0).val ≠ g.val := fun e => hne (Fin.ext e)
  rw [stored_miss accM.view a g.isLt A _ hv, stored_miss runM.view r g.isLt ρ _ hv]
  exact H h r' d x hx

include hn hp hq hC

/-- A trip of the first walk. -/
theorem step1_inv (k : ℕ) (hk : k < n) (S : Carried (F := Ideal) c) (H : Inv P c 0 n (k + 1) S.1 S.2.1) (B : ℕ) (H' : Inv P c 1 n B S.1 S.2.1) :
    Inv P c 0 n k (step1 c i M8 h8 M15 h15 f8 f15 fp k (by omega) S).1 (step1 c i M8 h8 M15 h15 f8 f15 fp k (by omega) S).2.1
    ∧ Inv P c 1 n B (step1 c i M8 h8 M15 h15 f8 f15 fp k (by omega) S).1 (step1 c i M8 h8 M15 h15 f8 f15 fp k (by omega) S).2.1
    ∧ ⊥ < (step1 c i M8 h8 M15 h15 f8 f15 fp k (by omega) S).2.2 := by
  unfold step1
  obtain ⟨b, hb⟩ := trip1_bound c i M8 h8 M15 h15 (BitVec.ofNat 32 k) f8 f15 fp S.1 S.2.1 (chk1_of i k (by omega))
  rw [trip1_acc, trip1_run, hb]
  have hk1 := ks1_real P c i fp hp k (by omega) (chk1_of i k (by omega))
  have hv1 := vs1_real P c i fp hp k (by omega) (chk1_of i k (by omega))
  have hq1 := qs_real P c M8 f8 n hq 0
  have hρ := fun h => tripRun_real P 0 n k hq1 hk1 (cs_real c M15 f15 hC) H.run hk hn h
  have hA := fun h => tripAcc_real P 0 n k hq1 hk1 hv1 (cs_real c M15 f15 hC) H.run H.acc hk hn h
  refine ⟨store_inv P c n (g := 0) _ _ hA hρ, keep_inv P c n (g := 0) (by decide) H', col_pos _ _ _ (fun r => ?_) b⟩
  exact ⟨Rn P 0 (3 : Fin 4).val n k r, (stored_hit runM.view _ (by decide : 0 < 2) _ 3 r 0 _ rfl).trans (hρ 3 r 0)⟩
/-- A trip of the second walk. -/
theorem step2_inv (k : ℕ) (hk : k < n) (S : Carried (F := Ideal) c) (H : Inv P c 1 n (k + 1) S.1 S.2.1) :
    Inv P c 1 n k (step2 c i M8 h8 M15 h15 f8 f15 fp k (by omega) S).1 (step2 c i M8 h8 M15 h15 f8 f15 fp k (by omega) S).2.1
    ∧ ⊥ < (step2 c i M8 h8 M15 h15 f8 f15 fp k (by omega) S).2.2 := by
  unfold step2
  obtain ⟨b, hb⟩ := trip2_bound c i M8 h8 M15 h15 (BitVec.ofNat 32 k) f8 f15 fp S.1 S.2.1 (chk2_of i k (by omega))
  rw [trip2_acc, trip2_run, hb]
  have hk1 := ks2_real P c i fp hp k (by omega) (chk2_of i k (by omega))
  have hv1 := vs2_real P c i fp hp k (by omega) (chk2_of i k (by omega))
  have hq1 := qs_real P c M8 f8 n hq 1
  have hρ := fun h => tripRun_real P 1 n k hq1 hk1 (cs_real c M15 f15 hC) H.run hk hn h
  have hA := fun h => tripAcc_real P 1 n k hq1 hk1 hv1 (cs_real c M15 f15 hC) H.run H.acc hk hn h
  refine ⟨store_inv P c n (g := 1) _ _ hA hρ, col_pos _ _ _ (fun r => ?_) b⟩
  exact ⟨Rn P 1 (3 : Fin 4).val n k r, (stored_hit runM.view _ (by decide : 1 < 2) _ 3 r 0 _ rfl).trans (hρ 3 r 0)⟩

/-- The first walk from block `k` on: to the first block. -/
theorem walk1_inv (B : ℕ) : ∀ (k : ℕ) (hk : k ≤ n) (S : Carried (F := Ideal) c), Inv P c 0 n k S.1 S.2.1 → Inv P c 1 n B S.1 S.2.1 → ⊥ < S.2.2 →
    Inv P c 0 n 0 (walk1 c i M8 h8 M15 h15 f8 f15 fp k (by omega) S).1 (walk1 c i M8 h8 M15 h15 f8 f15 fp k (by omega) S).2.1
    ∧ Inv P c 1 n B (walk1 c i M8 h8 M15 h15 f8 f15 fp k (by omega) S).1 (walk1 c i M8 h8 M15 h15 f8 f15 fp k (by omega) S).2.1
  | 0, hk, S, H, H', hb => by unfold walk1; exact ⟨H, H'⟩
  | k + 1, hk, S, H, H', hb => by
    unfold walk1
    rw [if_pos (cond_of_pos k (by omega) _ hb)]
    obtain ⟨h1, h2, h3⟩ := step1_inv P c i M8 h8 M15 h15 f8 f15 fp n hn hp hq hC k (by omega) S H B H'
    exact walk1_inv B k (by omega) _ h1 h2 h3
/-- And the second. -/
theorem walk2_inv : ∀ (k : ℕ) (hk : k ≤ n) (S : Carried (F := Ideal) c), Inv P c 1 n k S.1 S.2.1 → ⊥ < S.2.2 →
    Inv P c 1 n 0 (walk2 c i M8 h8 M15 h15 f8 f15 fp k (by omega) S).1 (walk2 c i M8 h8 M15 h15 f8 f15 fp k (by omega) S).2.1
  | 0, hk, S, H, hb => by unfold walk2; exact H
  | k + 1, hk, S, H, hb => by
    unfold walk2
    rw [if_pos (cond_of_pos k (by omega) _ hb)]
    obtain ⟨h1, h3⟩ := step2_inv P c i M8 h8 M15 h15 f8 f15 fp n hn hp hq hC k (by omega) S H
    exact walk2_inv k (by omega) _ h1 h3

end Cert.KernelIdeal.Run
-- ==== Proof.Outcome.lean ====
/-
  From the first stores of a query block to its result: what the buffers hold at first, and the result block after both walks.
-/
module

public import proofs.«01_k».proof.Proof.Walks

@[expose] public section

set_option maxHeartbeats 1000000

noncomputable section

namespace Cert.KernelIdeal.Run

open Cert.KernelIdeal Cert.KernelIdeal.Gen Cert.KernelIdeal.Tiles Cert.KernelIdeal.Sticks
open Idealize.ShloMosaic Idealize.ShloMosaic.TcCoe Idealize.SL.Sem

section
variable (P : ℕ → ℕ → ℝ) (c : Dev nD) (n B : ℕ)
variable {T : St Ideal} {C : Vec Ideal S256x256 .bf16}
  (hr : ∀ g h, R2 (startRun (sum24 T.x C) g h) (fun r _ => Rn P g.val h.val n B r))
  (ha : ∀ g h, R2 (T.acc (sum24 T.x C) g h) (An P g.val h.val n B))
include hr ha

/-- After the first stores both planes hold the sums and the outputs from block `B` on. -/
theorem start_inv0 : Inv P c 0 n B (startA c T (sum24 T.x C)) (startR c (sum24 T.x C)) := by
  unfold startA startR
  exact keep_inv P c n (g := 1) (g' := 0) (by decide) (store_inv P c n (g := 0) _ _ (ha 0) (hr 0))
theorem start_inv1 : Inv P c 1 n B (startA c T (sum24 T.x C)) (startR c (sum24 T.x C)) := by
  unfold startA startR
  exact store_inv P c n (g := 1) _ _ (ha 1) (hr 1)
end

/-- A plane that holds sums has columns above −∞. -/
theorem Inv.pos {P : ℕ → ℕ → ℝ} {c : Dev nD} {g : Fin 2} {n B a ρ} (H : Inv P c g n B a ρ) (h : Fin 4) (b : EReal) :
    (⊥ : EReal) < Scalar.maximumf (F := Ideal) (φ := .f32) b (hmax (F := Ideal) (colOf c ρ g.isLt h)) :=
  col_pos g.isLt h ρ (fun r => ⟨Rn P g.val h.val n B r, (H h r 0 ⟨128 * h.val, by omega⟩ rfl).2⟩) b

section
variable (P : ℕ → ℕ → ℝ) (c : Dev nD)
variable (i : grid0.Coords) (M8 : Memref sig .tc .vmem S2x128x512 .bf16) (h8 : M8.IsWhole) (M15 : Memref sig .tc .vmem S256x256 .bf16) (h15 : M15.IsWhole)
  (f8 : Bf (F := Ideal) c M8) (f15 : Bf (F := Ideal) c M15) (fp : Bf (F := Ideal) c projM) (n : ℕ) (hn : n < 128)
  (hp : ∀ r x, projM.view.read (Elt Ideal) fp (ix2 r x) = ((P r.val x.val : ℝ) : EReal))
  (hq : ∀ (g : Fin 2) (h : Fin 4) (r d : Fin 128), M8.view.read (Elt Ideal) f8 (ix3 g r ⟨128 * h.val + d.val, col_of h d⟩) = ((Qr P g.val h.val n r d : ℝ) : EReal))
  (hC : ∀ l m, M15.view.read (Elt Ideal) f15 (ix2 l m) = ((cR l m : ℝ) : EReal))
  (M18 : Memref sig .tc .vmem S2x128x512 .bf16)
include hp hq hC hn

/-- After both walks the result block holds the outputs over all keys. -/
theorem walks_out (B : ℕ) (hB : B ≤ n) (a : Bf (F := Ideal) c accM) (ρ : Bf (F := Ideal) c runM)
    (H0 : Inv P c 0 n B a ρ) (H1 : Inv P c 1 n B a ρ) (b1 b2 : EReal) (w1 w2 : Carried (F := Ideal) c) (hw)
    (e1 : w1 = walk1 c i M8 h8 M15 h15 f8 f15 fp B hw (a, ρ, Scalar.maximumf (F := Ideal) (φ := .f32) b1 (hmax (F := Ideal) (colOf c ρ (by decide : 0 < 2) 3))))
    (e2 : w2 = walk2 c i M8 h8 M15 h15 f8 f15 fp B hw (w1.1, w1.2.1, Scalar.maximumf (F := Ideal) (φ := .f32) b2 (hmax (F := Ideal) (colOf c w1.2.1 (by decide : 1 < 2) 3))))
    (g : Fin 2) (h : Fin 4) (r d : Fin 128) :
    M18.view.read (Elt Ideal) (outW c M18 w1.1 w2.1) (ix3 g r ⟨128 * h.val + d.val, col_of h d⟩) = ((An P g.val h.val n 0 r d : ℝ) : EReal) := by
  have k1 := walk1_inv P c i M8 h8 M15 h15 f8 f15 fp n hn hp hq hC B B hB
    (a, ρ, Scalar.maximumf (F := Ideal) (φ := .f32) b1 (hmax (F := Ideal) (colOf c ρ (by decide : 0 < 2) 3))) H0 H1 (H0.pos 3 b1)
  rw [← e1] at k1
  have k2 := walk2_inv P c i M8 h8 M15 h15 f8 f15 fp n hn hp hq hC B hB
    (w1.1, w1.2.1, Scalar.maximumf (F := Ideal) (φ := .f32) b2 (hmax (F := Ideal) (colOf c w1.2.1 (by decide : 1 < 2) 3))) k1.2 (k1.2.pos 3 b2)
  rw [← e2] at k2
  match g with
  | 0 => exact (outW_zero c M18 w1.1 w2.1 r _).trans (k1.1 h r d _ rfl).1
  | 1 => exact (outW_one c M18 w1.1 w2.1 r _).trans (k2 h r d _ rfl).1

/-- The same, of a buffer that is made of what two walks leave. -/
theorem walks_out_of (B : ℕ) (hB : B ≤ n) (a : Bf (F := Ideal) c accM) (ρ : Bf (F := Ideal) c runM)
    (H0 : Inv P c 0 n B a ρ) (H1 : Inv P c 1 n B a ρ) (hw) (W : Bf (F := Ideal) c M18)
    (H : ∃ b1 : EReal, ∀ w1 : Carried (F := Ideal) c,
      w1 = walk1 c i M8 h8 M15 h15 f8 f15 fp B hw (a, ρ, Scalar.maximumf (F := Ideal) (φ := .f32) b1 (hmax (F := Ideal) (colOf c ρ (by decide : 0 < 2) 3))) → ∃ b2 : EReal, ∀ w2 : Carried (F := Ideal) c,
      w2 = walk2 c i M8 h8 M15 h15 f8 f15 fp B hw (w1.1, w1.2.1, Scalar.maximumf (F := Ideal) (φ := .f32) b2 (hmax (F := Ideal) (colOf c w1.2.1 (by decide : 1 < 2) 3))) →
      W = outW c M18 w1.1 w2.1)
    (g : Fin 2) (h : Fin 4) (r d : Fin 128) :
    M18.view.read (Elt Ideal) W (ix3 g r ⟨128 * h.val + d.val, col_of h d⟩) = ((An P g.val h.val n 0 r d : ℝ) : EReal) := by
  obtain ⟨b1, H⟩ := H
  obtain ⟨b2, H⟩ := H _ rfl
  rw [H _ rfl]
  exact walks_out P c i M8 h8 M15 h15 f8 f15 fp n hn hp hq hC M18 B hB a ρ H0 H1 b1 b2 _ _ hw rfl rfl g h r d
end

end Cert.KernelIdeal.Run
-- ==== Proof.Inputs.lean ====
/-
  What the body finds in its input buffers at a grid point, when the projected array holds reals.
-/
module

public import proofs.«01_k».proof.Proof.Blocks
public import proofs.«01_k».proof.Proof.Masks
public import proofs.«01_k».proof.Proof.Outcome

@[expose] public section

set_option maxRecDepth 16384
set_option maxHeartbeats 1600000

noncomputable section

namespace Cert.KernelIdeal.Run

open Cert.KernelIdeal Cert.KernelIdeal.Gen Cert.KernelIdeal.Tiles Cert.KernelIdeal.Sticks
open Idealize.ShloMosaic Idealize.ShloMosaic.TcCoe Idealize.SL.Sem

variable (m : (ℓ : Loc nD τ sig) → Buf (Elt Ideal) ℓ) (P : ℕ → ℕ → ℝ) (c : Dev nD)

/-- The projected array holds the reals `P`. -/
def Holds : Prop := ∀ (r : Fin 32768) (x : Fin 6912),
  (m ((c.tc : Thread nD τ).loc main_arg0) : S32768x6912.Idx → EReal) (ix2 r x) = ((P r.val x.val : ℝ) : EReal)

section
variable {m P c} (hx : Holds m P c)
include hx

theorem entry (g : Fin 2) (s : Fin 16384) (k : Fin 6912) (R K : ℕ) (hR : R = 16384 * g.val + s.val) (hK : K = k.val) :
    (V m c main_v10 : S2x16384x6912.Idx → EReal) (ix3 g s k) = ((P R K : ℝ) : EReal) := by
  have := g.isLt
  have := s.isLt
  subst hK
  rw [V_v10]
  exact (batches_apart _ g s k ⟨R, by omega⟩ hR).trans (hx ⟨R, by omega⟩ k)
theorem whole_entry (r : Fin 32768) (x : Fin 6912) : projM.view.read (Elt Ideal) (V m c main_arg0) (ix2 r x) = ((P r.val x.val : ℝ) : EReal) := by
  rw [V_arg0]
  exact hx r x
end

theorem heads_real (M : Memref sig .tc .vmem S2x128x512 .bf16) (hM : M.IsWhole) (X : S2x128x512.Idx → Elt Ideal .bf16) (g : Fin 2) (h : Fin 4) (φ : Fin 128 → Fin 128 → ℝ)
    (hX : ∀ r d : Fin 128, (X (ix3 g r ⟨128 * h.val + d.val, col_of h d⟩) : EReal) = ((φ r d : ℝ) : EReal)) :
    R2 (heads2 (F := Ideal) c M (hM.unread X) g h) φ := by
  intro r d
  unfold heads2
  rw [headOf_apply, hM.read_unread]
  exact hX r d

variable (t : Fin (cfg0 (F := Ideal)).N) (n : ℕ) (hn : t.val = n)

theorem sums_read (l k : Fin 256) : (ms13 t).view.read (Elt Ideal) (in13 m c t) (ix2 l k) = ((cR l k : ℝ) : EReal) := by
  rw [(hs13 t).read_unread, block13, V_v8, sumMatrix_apply]

variable {m P c} (hx : Holds m P c)
include hx hn

theorem query_entry (g : Fin 2) (h : Fin 4) (r d : Fin 128) :
    (xblk m c 6 t (ix3 g r ⟨128 * h.val + d.val, col_of h d⟩) : EReal) = ((Qr P g.val h.val n r d : ℝ) : EReal) := by
  subst hn
  have ht := (coord_facts t).2
  have := r.isLt; have := h.isLt; have := d.isLt
  exact (block6 m c t g r ⟨128 * h.val + d.val, col_of h d⟩ ⟨128 * t.val + r.val, by omega⟩ ⟨5120 + (128 * h.val + d.val), by omega⟩ rfl rfl).trans
    (entry hx g _ _ _ _ rfl (Nat.add_assoc _ _ _))
theorem query_read (g : Fin 2) (h : Fin 4) (r d : Fin 128) :
    (ms6 t).view.read (Elt Ideal) (in6 m c t) (ix3 g r ⟨128 * h.val + d.val, col_of h d⟩) = ((Qr P g.val h.val n r d : ℝ) : EReal) := by
  rw [(hs6 t).read_unread]
  exact query_entry t n hn hx g h r d
theorem in6_real (g : Fin 2) (h : Fin 4) : R2 (heads2 (F := Ideal) c (ms6 t) (in6 m c t) g h) (Qr P g.val h.val n) :=
  heads_real c (ms6 t) (hs6 t) (xblk m c 6 t) g h _ (query_entry t n hn hx g h)
theorem in7_real (g : Fin 2) (h : Fin 4) : R2 (heads2 (F := Ideal) c (ms7 t) (in7 m c t) g h) (Kr P g.val h.val (n - 2)) :=
  heads_real c (ms7 t) (hs7 t) (xblk m c 7 t) g h _ (fun r d => by
    subst hn
    have ht := (coord_facts t).2
    have := r.isLt; have := h.isLt; have := d.isLt
    exact (block7 m c t g r ⟨128 * h.val + d.val, col_of h d⟩ ⟨128 * (t.val - 2) + r.val, by omega⟩ ⟨5632 + (128 * h.val + d.val), by omega⟩ rfl rfl).trans
      (entry hx g _ _ _ _ rfl (Nat.add_assoc _ _ _)))
theorem in8_real (g : Fin 2) (h : Fin 4) : R2 (heads2 (F := Ideal) c (ms8 t) (in8 m c t) g h) (Kr P g.val h.val (n - 2 + 1)) :=
  heads_real c (ms8 t) (hs8 t) (xblk m c 8 t) g h _ (fun r d => by
    subst hn
    have ht := (coord_facts t).2
    have := r.isLt; have := h.isLt; have := d.isLt
    exact (block8 m c t g r ⟨128 * h.val + d.val, col_of h d⟩ ⟨128 * (t.val - 2 + 1) + r.val, by omega⟩ ⟨5632 + (128 * h.val + d.val), by omega⟩ rfl rfl).trans
      (entry hx g _ _ _ _ rfl (Nat.add_assoc _ _ _)))
theorem in9_real (g : Fin 2) (h : Fin 4) : R2 (heads2 (F := Ideal) c (ms9 t) (in9 m c t) g h) (Kr P g.val h.val (n - 2 + 2)) :=
  heads_real c (ms9 t) (hs9 t) (xblk m c 9 t) g h _ (fun r d => by
    subst hn
    have ht := (coord_facts t).2
    have := r.isLt; have := h.isLt; have := d.isLt
    exact (block9 m c t g r ⟨128 * h.val + d.val, col_of h d⟩ ⟨128 * (t.val - 2 + 2) + r.val, by omega⟩ ⟨5632 + (128 * h.val + d.val), by omega⟩ rfl rfl).trans
      (entry hx g _ _ _ _ rfl (Nat.add_assoc _ _ _)))
theorem in10_real (g : Fin 2) (h : Fin 4) : R2 (heads2 (F := Ideal) c (ms10 t) (in10 m c t) g h) (Vr P g.val h.val (n - 2)) :=
  heads_real c (ms10 t) (hs10 t) (xblk m c 10 t) g h _ (fun r d => by
    subst hn
    have ht := (coord_facts t).2
    have := r.isLt; have := h.isLt; have := d.isLt
    exact (block10 m c t g r ⟨128 * h.val + d.val, col_of h d⟩ ⟨128 * (t.val - 2) + r.val, by omega⟩ ⟨6144 + (128 * h.val + d.val), by omega⟩ rfl rfl).trans
      (entry hx g _ _ _ _ rfl (Nat.add_assoc _ _ _)))
theorem in11_real (g : Fin 2) (h : Fin 4) : R2 (heads2 (F := Ideal) c (ms11 t) (in11 m c t) g h) (Vr P g.val h.val (n - 2 + 1)) :=
  heads_real c (ms11 t) (hs11 t) (xblk m c 11 t) g h _ (fun r d => by
    subst hn
    have ht := (coord_facts t).2
    have := r.isLt; have := h.isLt; have := d.isLt
    exact (block11 m c t g r ⟨128 * h.val + d.val, col_of h d⟩ ⟨128 * (t.val - 2 + 1) + r.val, by omega⟩ ⟨6144 + (128 * h.val + d.val), by omega⟩ rfl rfl).trans
      (entry hx g _ _ _ _ rfl (Nat.add_assoc _ _ _)))
theorem in12_real (g : Fin 2) (h : Fin 4) : R2 (heads2 (F := Ideal) c (ms12 t) (in12 m c t) g h) (Vr P g.val h.val (n - 2 + 2)) :=
  heads_real c (ms12 t) (hs12 t) (xblk m c 12 t) g h _ (fun r d => by
    subst hn
    have ht := (coord_facts t).2
    have := r.isLt; have := h.isLt; have := d.isLt
    exact (block12 m c t g r ⟨128 * h.val + d.val, col_of h d⟩ ⟨128 * (t.val - 2 + 2) + r.val, by omega⟩ ⟨6144 + (128 * h.val + d.val), by omega⟩ rfl rfl).trans
      (entry hx g _ _ _ _ rfl (Nat.add_assoc _ _ _)))

end Cert.KernelIdeal.Run
-- ==== Proof.FarSums.lean ====
/-
  The body at a query block from the third on: the result block as a function of tiles.
-/
module

public import proofs.«01_k».proof.Proof.Starts

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

/-- The tiles the body starts from. -/
def farSt : St F where
  q := heads2 c M8 f8
  k0 := heads2 c M9 f9
  k1 := heads2 c M10 f10
  k2 := heads2 c M11 f11
  v0 := heads2 c M12 f12
  v1 := heads2 c M13 f13
  v2 := heads2 c M14 f14
  kp := kpFar

theorem far_x0 : (far.sl.v1383 c M8 M9 M10 M11 f8 f9 f10 f11)
    = (farSt c M8 M9 M10 M11 M12 M13 M14 f8 f9 f10 f11 f12 f13 f14).x 0 := rfl
theorem far_x1 : (far.sl.r_45 c M8 M9 M10 M11 f8 f9 f10 f11)
    = (farSt c M8 M9 M10 M11 M12 M13 M14 f8 f9 f10 f11 f12 f13 f14).x 1 := rfl
theorem far_x2 : (far.sl.r_47 c M8 M9 M10 M11 f8 f9 f10 f11)
    = (farSt c M8 M9 M10 M11 M12 M13 M14 f8 f9 f10 f11 f12 f13 f14).x 2 := rfl
theorem far_x3 : (far.sl.v1456 c M8 M9 M10 M11 f8 f9 f10 f11)
    = (farSt c M8 M9 M10 M11 M12 M13 M14 f8 f9 f10 f11 f12 f13 f14).x 3 := rfl
theorem far_x4 : (far.sl.v1473 c M8 M9 M10 M11 f8 f9 f10 f11)
    = (farSt c M8 M9 M10 M11 M12 M13 M14 f8 f9 f10 f11 f12 f13 f14).x 4 := rfl
theorem far_x5 : (far.sl.v1492 c M8 M9 M10 M11 f8 f9 f10 f11)
    = (farSt c M8 M9 M10 M11 M12 M13 M14 f8 f9 f10 f11 f12 f13 f14).x 5 := rfl
theorem far_x6 : (far.sl.r_51 c M8 M9 M10 M11 f8 f9 f10 f11)
    = (farSt c M8 M9 M10 M11 M12 M13 M14 f8 f9 f10 f11 f12 f13 f14).x 6 := rfl
theorem far_x7 : (far.sl.r_53 c M8 M9 M10 M11 f8 f9 f10 f11)
    = (farSt c M8 M9 M10 M11 M12 M13 M14 f8 f9 f10 f11 f12 f13 f14).x 7 := rfl
theorem far_x8 : (far.sl.v1565 c M8 M9 M10 M11 f8 f9 f10 f11)
    = (farSt c M8 M9 M10 M11 M12 M13 M14 f8 f9 f10 f11 f12 f13 f14).x 8 := rfl
theorem far_x9 : (far.sl.r_57 c M8 M9 M10 M11 f8 f9 f10 f11)
    = (farSt c M8 M9 M10 M11 M12 M13 M14 f8 f9 f10 f11 f12 f13 f14).x 9 := rfl
theorem far_x10 : (far.sl.r_59 c M8 M9 M10 M11 f8 f9 f10 f11)
    = (farSt c M8 M9 M10 M11 M12 M13 M14 f8 f9 f10 f11 f12 f13 f14).x 10 := rfl
theorem far_x11 : (far.sl.r_61 c M8 M9 M10 M11 f8 f9 f10 f11)
    = (farSt c M8 M9 M10 M11 M12 M13 M14 f8 f9 f10 f11 f12 f13 f14).x 11 := rfl
theorem far_x12 : (far.sl.v1675 c M8 M9 M10 M11 f8 f9 f10 f11)
    = (farSt c M8 M9 M10 M11 M12 M13 M14 f8 f9 f10 f11 f12 f13 f14).x 12 := rfl
theorem far_x13 : (far.sl.r_64 c M8 M9 M10 M11 f8 f9 f10 f11)
    = (farSt c M8 M9 M10 M11 M12 M13 M14 f8 f9 f10 f11 f12 f13 f14).x 13 := rfl
theorem far_x14 : (far.sl.r_66 c M8 M9 M10 M11 f8 f9 f10 f11)
    = (farSt c M8 M9 M10 M11 M12 M13 M14 f8 f9 f10 f11 f12 f13 f14).x 14 := rfl
theorem far_x15 : (far.sl.v1748 c M8 M9 M10 M11 f8 f9 f10 f11)
    = (farSt c M8 M9 M10 M11 M12 M13 M14 f8 f9 f10 f11 f12 f13 f14).x 15 := rfl
theorem far_x16 : (far.sl.v1765 c M8 M9 M10 M11 f8 f9 f10 f11)
    = (farSt c M8 M9 M10 M11 M12 M13 M14 f8 f9 f10 f11 f12 f13 f14).x 16 := rfl
theorem far_x17 : (far.sl.v1784 c M8 M9 M10 M11 f8 f9 f10 f11)
    = (farSt c M8 M9 M10 M11 M12 M13 M14 f8 f9 f10 f11 f12 f13 f14).x 17 := rfl
theorem far_x18 : (far.sl.r_69 c M8 M9 M10 M11 f8 f9 f10 f11)
    = (farSt c M8 M9 M10 M11 M12 M13 M14 f8 f9 f10 f11 f12 f13 f14).x 18 := rfl
theorem far_x19 : (far.sl.r_71 c M8 M9 M10 M11 f8 f9 f10 f11)
    = (farSt c M8 M9 M10 M11 M12 M13 M14 f8 f9 f10 f11 f12 f13 f14).x 19 := rfl
theorem far_x20 : (far.sl.r_73 c M8 M9 M10 M11 f8 f9 f10 f11)
    = (farSt c M8 M9 M10 M11 M12 M13 M14 f8 f9 f10 f11 f12 f13 f14).x 20 := rfl
theorem far_x21 : (far.sl.v1894 c M8 M9 M10 M11 f8 f9 f10 f11)
    = (farSt c M8 M9 M10 M11 M12 M13 M14 f8 f9 f10 f11 f12 f13 f14).x 21 := rfl
theorem far_z : (far.sl.v1877 c M8 M9 M10 M11 f8 f9 f10 f11)
    = (farSt c M8 M9 M10 M11 M12 M13 M14 f8 f9 f10 f11 f12 f13 f14).z 1 3 := rfl
theorem far_s : (far.sl.v1905 c M8 M9 M10 M11 f8 f9 f10 f11)
    = spT (zJ 1 ((farSt c M8 M9 M10 M11 M12 M13 M14 f8 f9 f10 f11 f12 f13 f14).z 1 3)) := rfl

/-- The product, from the stack's entries. -/
theorem far_stack (m : IVec S128x128 1) (x : Fin 24 → FVec F S128x256 .bf16) (z : FVec F S128x384 .f32) (s : FVec F S128x128 .f32) (C : Vec F S256x256 .bf16)
    (h22 : x 22 = hlT s) (h23 : x 23 = hlT (keepT m (spT (zJ 2 z)))) :
    k0_pay120 m (x 0) (x 1) (x 2) (x 3) (x 4) (x 5) (x 6) (x 7) (x 8) (x 9) (x 10) (x 11) (x 12) (x 13) (x 14) (x 15) (x 16) (x 17) (x 18) (x 19) (x 20) z (x 21) s C
      = sum24 x C := by
  unfold sum24 stack24
  rw [h22, h23]
  rfl

/-- The product the sums are taken from. -/
def farX : FVec F S3072x256 .f32 := k0_pay120 maskD (far.sl.v1383 c M8 M9 M10 M11 f8 f9 f10 f11) (far.sl.r_45 c M8 M9 M10 M11 f8 f9 f10 f11) (far.sl.r_47 c M8 M9 M10 M11 f8 f9 f10 f11) (far.sl.v1456 c M8 M9 M10 M11 f8 f9 f10 f11) (far.sl.v1473 c M8 M9 M10 M11 f8 f9 f10 f11) (far.sl.v1492 c M8 M9 M10 M11 f8 f9 f10 f11) (far.sl.r_51 c M8 M9 M10 M11 f8 f9 f10 f11) (far.sl.r_53 c M8 M9 M10 M11 f8 f9 f10 f11) (far.sl.v1565 c M8 M9 M10 M11 f8 f9 f10 f11) (far.sl.r_57 c M8 M9 M10 M11 f8 f9 f10 f11) (far.sl.r_59 c M8 M9 M10 M11 f8 f9 f10 f11) (far.sl.r_61 c M8 M9 M10 M11 f8 f9 f10 f11) (far.sl.v1675 c M8 M9 M10 M11 f8 f9 f10 f11) (far.sl.r_64 c M8 M9 M10 M11 f8 f9 f10 f11) (far.sl.r_66 c M8 M9 M10 M11 f8 f9 f10 f11) (far.sl.v1748 c M8 M9 M10 M11 f8 f9 f10 f11) (far.sl.v1765 c M8 M9 M10 M11 f8 f9 f10 f11) (far.sl.v1784 c M8 M9 M10 M11 f8 f9 f10 f11) (far.sl.r_69 c M8 M9 M10 M11 f8 f9 f10 f11) (far.sl.r_71 c M8 M9 M10 M11 f8 f9 f10 f11) (far.sl.r_73 c M8 M9 M10 M11 f8 f9 f10 f11) (far.sl.v1877 c M8 M9 M10 M11 f8 f9 f10 f11) (far.sl.v1894 c M8 M9 M10 M11 f8 f9 f10 f11) (far.sl.v1905 c M8 M9 M10 M11 f8 f9 f10 f11) (cs c M15 f15)
theorem far_sums : farX c M8 M9 M10 M11 M15 f8 f9 f10 f11 f15 = sum24 (farSt c M8 M9 M10 M11 M12 M13 M14 f8 f9 f10 f11 f12 f13 f14).x (cs c M15 f15) := by
  unfold farX
  rw [far_x0 c M8 M9 M10 M11 M12 M13 M14 f8 f9 f10 f11 f12 f13 f14, far_x1 c M8 M9 M10 M11 M12 M13 M14 f8 f9 f10 f11 f12 f13 f14, far_x2 c M8 M9 M10 M11 M12 M13 M14 f8 f9 f10 f11 f12 f13 f14, far_x3 c M8 M9 M10 M11 M12 M13 M14 f8 f9 f10 f11 f12 f13 f14, far_x4 c M8 M9 M10 M11 M12 M13 M14 f8 f9 f10 f11 f12 f13 f14, far_x5 c M8 M9 M10 M11 M12 M13 M14 f8 f9 f10 f11 f12 f13 f14, far_x6 c M8 M9 M10 M11 M12 M13 M14 f8 f9 f10 f11 f12 f13 f14, far_x7 c M8 M9 M10 M11 M12 M13 M14 f8 f9 f10 f11 f12 f13 f14, far_x8 c M8 M9 M10 M11 M12 M13 M14 f8 f9 f10 f11 f12 f13 f14, far_x9 c M8 M9 M10 M11 M12 M13 M14 f8 f9 f10 f11 f12 f13 f14, far_x10 c M8 M9 M10 M11 M12 M13 M14 f8 f9 f10 f11 f12 f13 f14, far_x11 c M8 M9 M10 M11 M12 M13 M14 f8 f9 f10 f11 f12 f13 f14, far_x12 c M8 M9 M10 M11 M12 M13 M14 f8 f9 f10 f11 f12 f13 f14, far_x13 c M8 M9 M10 M11 M12 M13 M14 f8 f9 f10 f11 f12 f13 f14, far_x14 c M8 M9 M10 M11 M12 M13 M14 f8 f9 f10 f11 f12 f13 f14, far_x15 c M8 M9 M10 M11 M12 M13 M14 f8 f9 f10 f11 f12 f13 f14, far_x16 c M8 M9 M10 M11 M12 M13 M14 f8 f9 f10 f11 f12 f13 f14, far_x17 c M8 M9 M10 M11 M12 M13 M14 f8 f9 f10 f11 f12 f13 f14, far_x18 c M8 M9 M10 M11 M12 M13 M14 f8 f9 f10 f11 f12 f13 f14, far_x19 c M8 M9 M10 M11 M12 M13 M14 f8 f9 f10 f11 f12 f13 f14, far_x20 c M8 M9 M10 M11 M12 M13 M14 f8 f9 f10 f11 f12 f13 f14, far_x21 c M8 M9 M10 M11 M12 M13 M14 f8 f9 f10 f11 f12 f13 f14, far_z c M8 M9 M10 M11 M12 M13 M14 f8 f9 f10 f11 f12 f13 f14, far_s c M8 M9 M10 M11 M12 M13 M14 f8 f9 f10 f11 f12 f13 f14]
  exact far_stack maskD (farSt c M8 M9 M10 M11 M12 M13 M14 f8 f9 f10 f11 f12 f13 f14).x _ _ _ rfl rfl

end Cert.KernelIdeal.Run
-- ==== Proof.FarRaw.lean ====
/-
  The result block's buffer at a later grid point: what the two walks over the earlier blocks leave, put together.
-/
module

public import proofs.«01_k».proof.Proof.FarSums

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

/-- From the buffers as the first stores leave them. -/
theorem far_raw (hi : 2 ≤ (i 1).val) (w1 w2 : Carried (F := F) c)
    (e1 : w1 = walk1 c i M8 h8 M15 h15 f8 f15 fp ((i 1).val - 2) (walk_le i) ((accM.view.writes (Elt F) accM.view.junk (far.sl.Ha_8 c M8 M9 M10 M11 M12 M13 M14 M15 f8 f9 f10 f11 f12 f13 f14 f15)), (runM.view.writes (Elt F) runM.view.junk (far.sl.Hr_8 c M8 M9 M10 M11 M15 f8 f9 f10 f11 f15)),
       Scalar.maximumf (Scalar.maximumf (Scalar.maximumf (hmax (colOf c (runM.view.writes (Elt F) runM.view.junk (far.sl.Hr_8 c M8 M9 M10 M11 M15 f8 f9 f10 f11 f15)) (by decide : 0 < 2) 0)) (hmax (colOf c (runM.view.writes (Elt F) runM.view.junk (far.sl.Hr_8 c M8 M9 M10 M11 M15 f8 f9 f10 f11 f15)) (by decide : 0 < 2) 1))) (hmax (colOf c (runM.view.writes (Elt F) runM.view.junk (far.sl.Hr_8 c M8 M9 M10 M11 M15 f8 f9 f10 f11 f15)) (by decide : 0 < 2) 2)))
         (hmax (colOf c (runM.view.writes (Elt F) runM.view.junk (far.sl.Hr_8 c M8 M9 M10 M11 M15 f8 f9 f10 f11 f15)) (by decide : 0 < 2) 3))))
    (e2 : w2 = walk2 c i M8 h8 M15 h15 f8 f15 fp ((i 1).val - 2) (walk_le i) (w1.1, w1.2.1,
       Scalar.maximumf (Scalar.maximumf (Scalar.maximumf (hmax (colOf c w1.2.1 (by decide : 1 < 2) 0)) (hmax (colOf c w1.2.1 (by decide : 1 < 2) 1))) (hmax (colOf c w1.2.1 (by decide : 1 < 2) 2)))
         (hmax (colOf c w1.2.1 (by decide : 1 < 2) 3)))) :
    (far c i hi M2 h2 M3 h3 M4 h4 M5 h5 M6 h6 M7 h7 M8 h8 M9 h9 M10 h10 M11 h11 M12 h12 M13 h13 M14 h14 M15 h15 M17 h17 M18 h18 f2 f3 f4 f5 f6 f7 f8 f9 f10 f11 f12 f13 f14 f15 fp).1.2 = outW c M18 w1.1 w2.1 := by
  subst e1
  subst e2
  rfl

end Cert.KernelIdeal.Run
-- ==== Proof.FarVal.lean ====
/-
  The body at a query block from the third on: the result block as a function of tiles.
-/
module

public import proofs.«01_k».proof.Proof.FarSums

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

theorem far_a : accM.view.writes (Elt F) accM.view.junk (far.sl.Ha_8 c M8 M9 M10 M11 M12 M13 M14 M15 f8 f9 f10 f11 f12 f13 f14 f15)
    = startA c (farSt c M8 M9 M10 M11 M12 M13 M14 f8 f9 f10 f11 f12 f13 f14) (farX c M8 M9 M10 M11 M15 f8 f9 f10 f11 f15) := rfl
theorem far_r : runM.view.writes (Elt F) runM.view.junk (far.sl.Hr_8 c M8 M9 M10 M11 M15 f8 f9 f10 f11 f15)
    = startR c (farX c M8 M9 M10 M11 M15 f8 f9 f10 f11 f15) := rfl

end Cert.KernelIdeal.Run
-- ==== Proof.FarOut.lean ====
/-
  The body at a query block from the third on: the result block as a function of tiles.
-/
module

public import proofs.«01_k».proof.Proof.FarRaw
public import proofs.«01_k».proof.Proof.FarVal

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

/-- The result block's buffer, by the two walks from the first stores. -/
theorem far_out (hi : 2 ≤ (i 1).val) : ∃ b1 : F .f32, ∀ w1 : Carried (F := F) c,
    w1 = walk1 c i M8 h8 M15 h15 f8 f15 fp ((i 1).val - 2) (walk_le i) ((startA c (farSt c M8 M9 M10 M11 M12 M13 M14 f8 f9 f10 f11 f12 f13 f14) (sum24 (farSt c M8 M9 M10 M11 M12 M13 M14 f8 f9 f10 f11 f12 f13 f14).x (cs c M15 f15))), (startR c (sum24 (farSt c M8 M9 M10 M11 M12 M13 M14 f8 f9 f10 f11 f12 f13 f14).x (cs c M15 f15))), Scalar.maximumf b1 (hmax (colOf c (startR c (sum24 (farSt c M8 M9 M10 M11 M12 M13 M14 f8 f9 f10 f11 f12 f13 f14).x (cs c M15 f15))) (by decide : 0 < 2) 3))) →
    ∃ b2 : F .f32, ∀ w2 : Carried (F := F) c,
    w2 = walk2 c i M8 h8 M15 h15 f8 f15 fp ((i 1).val - 2) (walk_le i) (w1.1, w1.2.1, Scalar.maximumf b2 (hmax (colOf c w1.2.1 (by decide : 1 < 2) 3))) →
    (far c i hi M2 h2 M3 h3 M4 h4 M5 h5 M6 h6 M7 h7 M8 h8 M9 h9 M10 h10 M11 h11 M12 h12 M13 h13 M14 h14 M15 h15 M17 h17 M18 h18 f2 f3 f4 f5 f6 f7 f8 f9 f10 f11 f12 f13 f14 f15 fp).1.2 = outW c M18 w1.1 w2.1 := by
  refine ⟨Scalar.maximumf (Scalar.maximumf (hmax (colOf c (startR c (sum24 (farSt c M8 M9 M10 M11 M12 M13 M14 f8 f9 f10 f11 f12 f13 f14).x (cs c M15 f15))) (by decide : 0 < 2) 0)) (hmax (colOf c (startR c (sum24 (farSt c M8 M9 M10 M11 M12 M13 M14 f8 f9 f10 f11 f12 f13 f14).x (cs c M15 f15))) (by decide : 0 < 2) 1))) (hmax (colOf c (startR c (sum24 (farSt c M8 M9 M10 M11 M12 M13 M14 f8 f9 f10 f11 f12 f13 f14).x (cs c M15 f15))) (by decide : 0 < 2) 2)), fun w1 e1 =>
    ⟨Scalar.maximumf (Scalar.maximumf (hmax (colOf c w1.2.1 (by decide : 1 < 2) 0)) (hmax (colOf c w1.2.1 (by decide : 1 < 2) 1))) (hmax (colOf c w1.2.1 (by decide : 1 < 2) 2)), fun w2 e2 => ?_⟩⟩
  rw [← far_sums, ← far_a, ← far_r] at e1
  exact far_raw (hi := hi) (e1 := e1) (e2 := e2) ..

end Cert.KernelIdeal.Run
-- ==== Proof.NearSums.lean ====
/-
  The body at a query block before the third: the result block as a function of tiles.
-/
module

public import proofs.«01_k».proof.Proof.Starts

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

/-- The tiles the body starts from. -/
def nearSt : St F where
  q := heads2 c M8 f8
  k0 := heads2 c M9 f9
  k1 := heads2 c M10 f10
  k2 := heads2 c M11 f11
  v0 := heads2 c M12 f12
  v1 := heads2 c M13 f13
  v2 := heads2 c M14 f14
  kp := (kpNear i)

theorem near_x0 : (near.sl.v1408 c i M8 M9 M10 M11 f8 f9 f10 f11)
    = (nearSt c i M8 M9 M10 M11 M12 M13 M14 f8 f9 f10 f11 f12 f13 f14).x 0 := rfl
theorem near_x1 : (near.sl.v1427 c i M8 M9 M10 M11 f8 f9 f10 f11)
    = (nearSt c i M8 M9 M10 M11 M12 M13 M14 f8 f9 f10 f11 f12 f13 f14).x 1 := rfl
theorem near_x2 : (near.sl.v1446 c i M8 M9 M10 M11 f8 f9 f10 f11)
    = (nearSt c i M8 M9 M10 M11 M12 M13 M14 f8 f9 f10 f11 f12 f13 f14).x 2 := rfl
theorem near_x3 : (near.sl.r_45 c i M8 M9 M10 M11 f8 f9 f10 f11)
    = (nearSt c i M8 M9 M10 M11 M12 M13 M14 f8 f9 f10 f11 f12 f13 f14).x 3 := rfl
theorem near_x4 : (near.sl.r_47 c i M8 M9 M10 M11 f8 f9 f10 f11)
    = (nearSt c i M8 M9 M10 M11 M12 M13 M14 f8 f9 f10 f11 f12 f13 f14).x 4 := rfl
theorem near_x5 : (near.sl.v1523 c i M8 M9 M10 M11 f8 f9 f10 f11)
    = (nearSt c i M8 M9 M10 M11 M12 M13 M14 f8 f9 f10 f11 f12 f13 f14).x 5 := rfl
theorem near_x6 : (near.sl.r_50 c i M8 M9 M10 M11 f8 f9 f10 f11)
    = (nearSt c i M8 M9 M10 M11 M12 M13 M14 f8 f9 f10 f11 f12 f13 f14).x 6 := rfl
theorem near_x7 : (near.sl.r_52 c i M8 M9 M10 M11 f8 f9 f10 f11)
    = (nearSt c i M8 M9 M10 M11 M12 M13 M14 f8 f9 f10 f11 f12 f13 f14).x 7 := rfl
theorem near_x8 : (near.sl.r_54 c i M8 M9 M10 M11 f8 f9 f10 f11)
    = (nearSt c i M8 M9 M10 M11 M12 M13 M14 f8 f9 f10 f11 f12 f13 f14).x 8 := rfl
theorem near_x9 : (near.sl.v1639 c i M8 M9 M10 M11 f8 f9 f10 f11)
    = (nearSt c i M8 M9 M10 M11 M12 M13 M14 f8 f9 f10 f11 f12 f13 f14).x 9 := rfl
theorem near_x10 : (near.sl.r_56 c i M8 M9 M10 M11 f8 f9 f10 f11)
    = (nearSt c i M8 M9 M10 M11 M12 M13 M14 f8 f9 f10 f11 f12 f13 f14).x 10 := rfl
theorem near_x11 : (near.sl.r_58 c i M8 M9 M10 M11 f8 f9 f10 f11)
    = (nearSt c i M8 M9 M10 M11 M12 M13 M14 f8 f9 f10 f11 f12 f13 f14).x 11 := rfl
theorem near_x12 : (near.sl.v1716 c i M8 M9 M10 M11 f8 f9 f10 f11)
    = (nearSt c i M8 M9 M10 M11 M12 M13 M14 f8 f9 f10 f11 f12 f13 f14).x 12 := rfl
theorem near_x13 : (near.sl.r_61 c i M8 M9 M10 M11 f8 f9 f10 f11)
    = (nearSt c i M8 M9 M10 M11 M12 M13 M14 f8 f9 f10 f11 f12 f13 f14).x 13 := rfl
theorem near_x14 : (near.sl.r_63 c i M8 M9 M10 M11 f8 f9 f10 f11)
    = (nearSt c i M8 M9 M10 M11 M12 M13 M14 f8 f9 f10 f11 f12 f13 f14).x 14 := rfl
theorem near_x15 : (near.sl.v1793 c i M8 M9 M10 M11 f8 f9 f10 f11)
    = (nearSt c i M8 M9 M10 M11 M12 M13 M14 f8 f9 f10 f11 f12 f13 f14).x 15 := rfl
theorem near_x16 : (near.sl.v1812 c i M8 M9 M10 M11 f8 f9 f10 f11)
    = (nearSt c i M8 M9 M10 M11 M12 M13 M14 f8 f9 f10 f11 f12 f13 f14).x 16 := rfl
theorem near_x17 : (near.sl.v1831 c i M8 M9 M10 M11 f8 f9 f10 f11)
    = (nearSt c i M8 M9 M10 M11 M12 M13 M14 f8 f9 f10 f11 f12 f13 f14).x 17 := rfl
theorem near_x18 : (near.sl.r_67 c i M8 M9 M10 M11 f8 f9 f10 f11)
    = (nearSt c i M8 M9 M10 M11 M12 M13 M14 f8 f9 f10 f11 f12 f13 f14).x 18 := rfl
theorem near_x19 : (near.sl.r_69 c i M8 M9 M10 M11 f8 f9 f10 f11)
    = (nearSt c i M8 M9 M10 M11 M12 M13 M14 f8 f9 f10 f11 f12 f13 f14).x 19 := rfl
theorem near_x20 : (near.sl.v1908 c i M8 M9 M10 M11 f8 f9 f10 f11)
    = (nearSt c i M8 M9 M10 M11 M12 M13 M14 f8 f9 f10 f11 f12 f13 f14).x 20 := rfl
theorem near_z : (near.sl.v1928 c M8 M9 M10 M11 f8 f9 f10 f11)
    = (nearSt c i M8 M9 M10 M11 M12 M13 M14 f8 f9 f10 f11 f12 f13 f14).z 1 3 := rfl
theorem near_s : (near.sl.v1942 c i M8 M9 M10 M11 f8 f9 f10 f11)
    = keepT (maskN i 0#32) (spT (zJ 0 ((nearSt c i M8 M9 M10 M11 M12 M13 M14 f8 f9 f10 f11 f12 f13 f14).z 1 3))) := rfl
theorem near_t : (near.sl.v1943 c i M8 M9 M10 M11 f8 f9 f10 f11)
    = truncf .bf16 (keepT (maskN i 0#32) (spT (zJ 0 ((nearSt c i M8 M9 M10 M11 M12 M13 M14 f8 f9 f10 f11 f12 f13 f14).z 1 3)))) bitsLt_bf16_f32 := rfl
theorem near_u : (near.sl.v1944 c i M8 M9 M10 M11 f8 f9 f10 f11)
    = extf .f32 (truncf .bf16 (keepT (maskN i 0#32) (spT (zJ 0 ((nearSt c i M8 M9 M10 M11 M12 M13 M14 f8 f9 f10 f11 f12 f13 f14).z 1 3)))) bitsLt_bf16_f32) bitsLt_bf16_f32 := rfl

/-- The product, from the stack's entries. -/
theorem near_stack (m n : IVec S128x128 1) (x : Fin 24 → FVec F S128x256 .bf16) (z : FVec F S128x384 .f32) (s : FVec F S128x128 .f32) (C : Vec F S256x256 .bf16)
    (h21 : x 21 = hlT s) (h22 : x 22 = hlT (keepT m (spT (zJ 1 z)))) (h23 : x 23 = hlT (keepT n (spT (zJ 2 z)))) :
    k0_pay332 m n (x 0) (x 1) (x 2) (x 3) (x 4) (x 5) (x 6) (x 7) (x 8) (x 9) (x 10) (x 11) (x 12) (x 13) (x 14) (x 15) (x 16) (x 17) (x 18) (x 19) (x 20) z s
      (truncf .bf16 s bitsLt_bf16_f32) (extf .f32 (truncf .bf16 s bitsLt_bf16_f32) bitsLt_bf16_f32) C
      = sum24 x C := by
  unfold sum24 stack24
  rw [h21, h22, h23]
  rfl

/-- The product the sums are taken from. -/
def nearX : FVec F S3072x256 .f32 := k0_pay332 (maskN i 1#32) (maskN i 2#32) (near.sl.v1408 c i M8 M9 M10 M11 f8 f9 f10 f11) (near.sl.v1427 c i M8 M9 M10 M11 f8 f9 f10 f11) (near.sl.v1446 c i M8 M9 M10 M11 f8 f9 f10 f11) (near.sl.r_45 c i M8 M9 M10 M11 f8 f9 f10 f11) (near.sl.r_47 c i M8 M9 M10 M11 f8 f9 f10 f11) (near.sl.v1523 c i M8 M9 M10 M11 f8 f9 f10 f11) (near.sl.r_50 c i M8 M9 M10 M11 f8 f9 f10 f11) (near.sl.r_52 c i M8 M9 M10 M11 f8 f9 f10 f11) (near.sl.r_54 c i M8 M9 M10 M11 f8 f9 f10 f11) (near.sl.v1639 c i M8 M9 M10 M11 f8 f9 f10 f11) (near.sl.r_56 c i M8 M9 M10 M11 f8 f9 f10 f11) (near.sl.r_58 c i M8 M9 M10 M11 f8 f9 f10 f11) (near.sl.v1716 c i M8 M9 M10 M11 f8 f9 f10 f11) (near.sl.r_61 c i M8 M9 M10 M11 f8 f9 f10 f11) (near.sl.r_63 c i M8 M9 M10 M11 f8 f9 f10 f11) (near.sl.v1793 c i M8 M9 M10 M11 f8 f9 f10 f11) (near.sl.v1812 c i M8 M9 M10 M11 f8 f9 f10 f11) (near.sl.v1831 c i M8 M9 M10 M11 f8 f9 f10 f11) (near.sl.r_67 c i M8 M9 M10 M11 f8 f9 f10 f11) (near.sl.r_69 c i M8 M9 M10 M11 f8 f9 f10 f11) (near.sl.v1908 c i M8 M9 M10 M11 f8 f9 f10 f11) (near.sl.v1928 c M8 M9 M10 M11 f8 f9 f10 f11) (near.sl.v1942 c i M8 M9 M10 M11 f8 f9 f10 f11) (near.sl.v1943 c i M8 M9 M10 M11 f8 f9 f10 f11) (near.sl.v1944 c i M8 M9 M10 M11 f8 f9 f10 f11) (cs c M15 f15)
theorem near_sums : nearX c i M8 M9 M10 M11 M15 f8 f9 f10 f11 f15 = sum24 (nearSt c i M8 M9 M10 M11 M12 M13 M14 f8 f9 f10 f11 f12 f13 f14).x (cs c M15 f15) := by
  unfold nearX
  rw [near_x0 c i M8 M9 M10 M11 M12 M13 M14 f8 f9 f10 f11 f12 f13 f14, near_x1 c i M8 M9 M10 M11 M12 M13 M14 f8 f9 f10 f11 f12 f13 f14, near_x2 c i M8 M9 M10 M11 M12 M13 M14 f8 f9 f10 f11 f12 f13 f14, near_x3 c i M8 M9 M10 M11 M12 M13 M14 f8 f9 f10 f11 f12 f13 f14, near_x4 c i M8 M9 M10 M11 M12 M13 M14 f8 f9 f10 f11 f12 f13 f14, near_x5 c i M8 M9 M10 M11 M12 M13 M14 f8 f9 f10 f11 f12 f13 f14, near_x6 c i M8 M9 M10 M11 M12 M13 M14 f8 f9 f10 f11 f12 f13 f14, near_x7 c i M8 M9 M10 M11 M12 M13 M14 f8 f9 f10 f11 f12 f13 f14, near_x8 c i M8 M9 M10 M11 M12 M13 M14 f8 f9 f10 f11 f12 f13 f14, near_x9 c i M8 M9 M10 M11 M12 M13 M14 f8 f9 f10 f11 f12 f13 f14, near_x10 c i M8 M9 M10 M11 M12 M13 M14 f8 f9 f10 f11 f12 f13 f14, near_x11 c i M8 M9 M10 M11 M12 M13 M14 f8 f9 f10 f11 f12 f13 f14, near_x12 c i M8 M9 M10 M11 M12 M13 M14 f8 f9 f10 f11 f12 f13 f14, near_x13 c i M8 M9 M10 M11 M12 M13 M14 f8 f9 f10 f11 f12 f13 f14, near_x14 c i M8 M9 M10 M11 M12 M13 M14 f8 f9 f10 f11 f12 f13 f14, near_x15 c i M8 M9 M10 M11 M12 M13 M14 f8 f9 f10 f11 f12 f13 f14, near_x16 c i M8 M9 M10 M11 M12 M13 M14 f8 f9 f10 f11 f12 f13 f14, near_x17 c i M8 M9 M10 M11 M12 M13 M14 f8 f9 f10 f11 f12 f13 f14, near_x18 c i M8 M9 M10 M11 M12 M13 M14 f8 f9 f10 f11 f12 f13 f14, near_x19 c i M8 M9 M10 M11 M12 M13 M14 f8 f9 f10 f11 f12 f13 f14, near_x20 c i M8 M9 M10 M11 M12 M13 M14 f8 f9 f10 f11 f12 f13 f14, near_z c i M8 M9 M10 M11 M12 M13 M14 f8 f9 f10 f11 f12 f13 f14, near_s c i M8 M9 M10 M11 M12 M13 M14 f8 f9 f10 f11 f12 f13 f14, near_t c i M8 M9 M10 M11 M12 M13 M14 f8 f9 f10 f11 f12 f13 f14, near_u c i M8 M9 M10 M11 M12 M13 M14 f8 f9 f10 f11 f12 f13 f14]
  exact near_stack (maskN i 1#32) (maskN i 2#32) (nearSt c i M8 M9 M10 M11 M12 M13 M14 f8 f9 f10 f11 f12 f13 f14).x _ _ _ rfl rfl rfl

end Cert.KernelIdeal.Run
-- ==== Proof.NearRaw.lean ====
/-
  The result block's buffer at a first grid point: what the two walks over the earlier blocks leave, put together.
-/
module

public import proofs.«01_k».proof.Proof.NearSums

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

/-- From the buffers as the first stores leave them. -/
theorem near_raw (hi : (i 1).val < 2) (w1 w2 : Carried (F := F) c)
    (e1 : w1 = walk1 c i M8 h8 M15 h15 f8 f15 fp ((i 1).val - 2) (walk_le i) ((accM.view.writes (Elt F) accM.view.junk (near.sl.Ha_8 c i M8 M9 M10 M11 M12 M13 M14 M15 f8 f9 f10 f11 f12 f13 f14 f15)), (runM.view.writes (Elt F) runM.view.junk (near.sl.Hr_8 c i M8 M9 M10 M11 M15 f8 f9 f10 f11 f15)),
       Scalar.maximumf (Scalar.maximumf (Scalar.maximumf (hmax (colOf c (runM.view.writes (Elt F) runM.view.junk (near.sl.Hr_8 c i M8 M9 M10 M11 M15 f8 f9 f10 f11 f15)) (by decide : 0 < 2) 0)) (hmax (colOf c (runM.view.writes (Elt F) runM.view.junk (near.sl.Hr_8 c i M8 M9 M10 M11 M15 f8 f9 f10 f11 f15)) (by decide : 0 < 2) 1))) (hmax (colOf c (runM.view.writes (Elt F) runM.view.junk (near.sl.Hr_8 c i M8 M9 M10 M11 M15 f8 f9 f10 f11 f15)) (by decide : 0 < 2) 2)))
         (hmax (colOf c (runM.view.writes (Elt F) runM.view.junk (near.sl.Hr_8 c i M8 M9 M10 M11 M15 f8 f9 f10 f11 f15)) (by decide : 0 < 2) 3))))
    (e2 : w2 = walk2 c i M8 h8 M15 h15 f8 f15 fp ((i 1).val - 2) (walk_le i) (w1.1, w1.2.1,
       Scalar.maximumf (Scalar.maximumf (Scalar.maximumf (hmax (colOf c w1.2.1 (by decide : 1 < 2) 0)) (hmax (colOf c w1.2.1 (by decide : 1 < 2) 1))) (hmax (colOf c w1.2.1 (by decide : 1 < 2) 2)))
         (hmax (colOf c w1.2.1 (by decide : 1 < 2) 3)))) :
    (near c i hi M2 h2 M3 h3 M4 h4 M5 h5 M6 h6 M7 h7 M8 h8 M9 h9 M10 h10 M11 h11 M12 h12 M13 h13 M14 h14 M15 h15 M17 h17 M18 h18 f2 f3 f4 f5 f6 f7 f8 f9 f10 f11 f12 f13 f14 f15 fp).1.2 = outW c M18 w1.1 w2.1 := by
  subst e1
  subst e2
  rfl

end Cert.KernelIdeal.Run
-- ==== Proof.NearVal.lean ====
/-
  The body at a query block before the third: the result block as a function of tiles.
-/
module

public import proofs.«01_k».proof.Proof.NearSums

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

theorem near_a : accM.view.writes (Elt F) accM.view.junk (near.sl.Ha_8 c i M8 M9 M10 M11 M12 M13 M14 M15 f8 f9 f10 f11 f12 f13 f14 f15)
    = startA c (nearSt c i M8 M9 M10 M11 M12 M13 M14 f8 f9 f10 f11 f12 f13 f14) (nearX c i M8 M9 M10 M11 M15 f8 f9 f10 f11 f15) := rfl
theorem near_r : runM.view.writes (Elt F) runM.view.junk (near.sl.Hr_8 c i M8 M9 M10 M11 M15 f8 f9 f10 f11 f15)
    = startR c (nearX c i M8 M9 M10 M11 M15 f8 f9 f10 f11 f15) := rfl

end Cert.KernelIdeal.Run
-- ==== Proof.NearOut.lean ====
/-
  The body at a query block before the third: the result block as a function of tiles.
-/
module

public import proofs.«01_k».proof.Proof.NearRaw
public import proofs.«01_k».proof.Proof.NearVal

@[expose] public section

set_option maxHeartbeats 16000000
set_option maxRecDepth 65536

noncomputable section

namespace Cert.KernelIdeal.Run

open Cert.KernelIdeal Cert.KernelIdeal.Gen Cert.KernelIdeal.Tiles
open Idealize.ShloMosaic Idealize.ShloMosaic.TcCoe Idealize.SL.Sem

variable {F : FTy → Type} [FloatOps F] [Named F] (c : Dev nD) (i : grid0.Coords)
    (M2 : Memref sig .tc .smem S16 .f32) (h2 : M2.IsWhole)
    (M3 : Memref sig .tc .vmem S2x128x1024 .bf16) (h3 : M3.IsWhole)
    (M4 : Memref sig .tc .vmem S2x128x128 .bf16) (h4 : M4.IsWhole)
    (M5 : Memref sig .tc .vmem S2x128x128 .bf16) (h5 : M5.IsWhole)
    (M6 : Memref sig .tc .vmem S2x128x128 .bf16) (h6 : M6.IsWhole)
    (M7 : Memref sig .tc .vmem S2x128x128 .bf16) (h7 : M7.IsWhole)
    (M8 : Memref sig .tc .vmem S2x128x512 .bf16) (h8 : M8.IsWhole)
    (M9 : Memref sig .tc .vmem S2x128x512 .bf16) (h9 : M9.IsWhole)
    (M10 : Memref sig .tc .vmem S2x128x512 .bf16) (h10 : M10.IsWhole)
    (M11 : Memref sig .tc .vmem S2x128x512 .bf16) (h11 : M11.IsWhole)
    (M12 : Memref sig .tc .vmem S2x128x512 .bf16) (h12 : M12.IsWhole)
    (M13 : Memref sig .tc .vmem S2x128x512 .bf16) (h13 : M13.IsWhole)
    (M14 : Memref sig .tc .vmem S2x128x512 .bf16) (h14 : M14.IsWhole)
    (M15 : Memref sig .tc .vmem S256x256 .bf16) (h15 : M15.IsWhole)
    (M17 : Memref sig .tc .vmem S2x128x1024 .bf16) (h17 : M17.IsWhole)
    (M18 : Memref sig .tc .vmem S2x128x512 .bf16) (h18 : M18.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (fp : Bf (F := F) c projM)

/-- The result block's buffer, by the two walks from the first stores. -/
theorem near_out (hi : (i 1).val < 2) : ∃ b1 : F .f32, ∀ w1 : Carried (F := F) c,
    w1 = walk1 c i M8 h8 M15 h15 f8 f15 fp ((i 1).val - 2) (walk_le i) ((startA c (nearSt c i M8 M9 M10 M11 M12 M13 M14 f8 f9 f10 f11 f12 f13 f14) (sum24 (nearSt c i M8 M9 M10 M11 M12 M13 M14 f8 f9 f10 f11 f12 f13 f14).x (cs c M15 f15))), (startR c (sum24 (nearSt c i M8 M9 M10 M11 M12 M13 M14 f8 f9 f10 f11 f12 f13 f14).x (cs c M15 f15))), Scalar.maximumf b1 (hmax (colOf c (startR c (sum24 (nearSt c i M8 M9 M10 M11 M12 M13 M14 f8 f9 f10 f11 f12 f13 f14).x (cs c M15 f15))) (by decide : 0 < 2) 3))) →
    ∃ b2 : F .f32, ∀ w2 : Carried (F := F) c,
    w2 = walk2 c i M8 h8 M15 h15 f8 f15 fp ((i 1).val - 2) (walk_le i) (w1.1, w1.2.1, Scalar.maximumf b2 (hmax (colOf c w1.2.1 (by decide : 1 < 2) 3))) →
    (near c i hi M2 h2 M3 h3 M4 h4 M5 h5 M6 h6 M7 h7 M8 h8 M9 h9 M10 h10 M11 h11 M12 h12 M13 h13 M14 h14 M15 h15 M17 h17 M18 h18 f2 f3 f4 f5 f6 f7 f8 f9 f10 f11 f12 f13 f14 f15 fp).1.2 = outW c M18 w1.1 w2.1 := by
  refine ⟨Scalar.maximumf (Scalar.maximumf (hmax (colOf c (startR c (sum24 (nearSt c i M8 M9 M10 M11 M12 M13 M14 f8 f9 f10 f11 f12 f13 f14).x (cs c M15 f15))) (by decide : 0 < 2) 0)) (hmax (colOf c (startR c (sum24 (nearSt c i M8 M9 M10 M11 M12 M13 M14 f8 f9 f10 f11 f12 f13 f14).x (cs c M15 f15))) (by decide : 0 < 2) 1))) (hmax (colOf c (startR c (sum24 (nearSt c i M8 M9 M10 M11 M12 M13 M14 f8 f9 f10 f11 f12 f13 f14).x (cs c M15 f15))) (by decide : 0 < 2) 2)), fun w1 e1 =>
    ⟨Scalar.maximumf (Scalar.maximumf (hmax (colOf c w1.2.1 (by decide : 1 < 2) 0)) (hmax (colOf c w1.2.1 (by decide : 1 < 2) 1))) (hmax (colOf c w1.2.1 (by decide : 1 < 2) 2)), fun w2 e2 => ?_⟩⟩
  rw [← near_sums, ← near_a, ← near_r] at e1
  exact near_raw (hi := hi) (e1 := e1) (e2 := e2) ..

end Cert.KernelIdeal.Run
-- ==== Proof.Points.lean ====
/-
  The result block after the body at a grid point, when the projected array holds reals.
-/
module

public import proofs.«01_k».proof.Proof.Inputs
public import proofs.«01_k».proof.Proof.FarOut
public import proofs.«01_k».proof.Proof.NearOut

@[expose] public section

set_option maxRecDepth 16384
set_option maxHeartbeats 1600000

noncomputable section

namespace Cert.KernelIdeal.Run

open Cert.KernelIdeal Cert.KernelIdeal.Gen Cert.KernelIdeal.Tiles Cert.KernelIdeal.Sticks
open Idealize.ShloMosaic Idealize.ShloMosaic.TcCoe Idealize.SL.Sem

variable {m : (ℓ : Loc nD τ sig) → Buf (Elt Ideal) ℓ} {P : ℕ → ℕ → ℝ} {c : Dev nD} (t : Fin (cfg0 (F := Ideal)).N) (hx : Holds m P c)
include hx

theorem far_begin (n : ℕ) (hn : t.val = n) (hc : ((grid0.coords t) 1).val = n) (hi : 2 ≤ n) :
    (∀ g h, R2 (startRun (sum24 (farSt c (ms6 t) (ms7 t) (ms8 t) (ms9 t) (ms10 t) (ms11 t) (ms12 t) (in6 m c t) (in7 m c t) (in8 m c t) (in9 m c t) (in10 m c t) (in11 m c t) (in12 m c t)).x (cs c (ms13 t) (in13 m c t))) g h) (fun r _ => Rn P g.val h.val n (n - 2) r))
    ∧ (∀ g h, R2 (St.acc (farSt c (ms6 t) (ms7 t) (ms8 t) (ms9 t) (ms10 t) (ms11 t) (ms12 t) (in6 m c t) (in7 m c t) (in8 m c t) (in9 m c t) (in10 m c t) (in11 m c t) (in12 m c t)) (sum24 (farSt c (ms6 t) (ms7 t) (ms8 t) (ms9 t) (ms10 t) (ms11 t) (ms12 t) (in6 m c t) (in7 m c t) (in8 m c t) (in9 m c t) (in10 m c t) (in11 m c t) (in12 m c t)).x (cs c (ms13 t) (in13 m c t))) g h) (An P g.val h.val n (n - 2))) := by
  have hlt : n < 128 := hn ▸ (coord_facts t).2
  have hkp : ∀ (j : Fin 3) (s : FVec Ideal S128x128 .f32) (σ : Fin 128 → Fin 128 → ℝ), R2 s σ →
      R2 ((farSt c (ms6 t) (ms7 t) (ms8 t) (ms9 t) (ms10 t) (ms11 t) (ms12 t) (in6 m c t) (in7 m c t) (in8 m c t) (in9 m c t) (in10 m c t) (in11 m c t) (in12 m c t)).kp j s) (fun r l => if 128 * (n - 2 + j.val) + l.val < 128 * n + r.val then σ r l else 0) :=
    fun j s σ hs => kpFar_real n (n - 2) (by omega) j s σ hs
  have hq : ∀ g h, R2 ((farSt c (ms6 t) (ms7 t) (ms8 t) (ms9 t) (ms10 t) (ms11 t) (ms12 t) (in6 m c t) (in7 m c t) (in8 m c t) (in9 m c t) (in10 m c t) (in11 m c t) (in12 m c t)).q g h) (Qr P g.val h.val n) := in6_real t n hn hx
  have hk0 : ∀ g h, R2 ((farSt c (ms6 t) (ms7 t) (ms8 t) (ms9 t) (ms10 t) (ms11 t) (ms12 t) (in6 m c t) (in7 m c t) (in8 m c t) (in9 m c t) (in10 m c t) (in11 m c t) (in12 m c t)).k0 g h) (Kr P g.val h.val (n - 2)) := in7_real t n hn hx
  have hk1 : ∀ g h, R2 ((farSt c (ms6 t) (ms7 t) (ms8 t) (ms9 t) (ms10 t) (ms11 t) (ms12 t) (in6 m c t) (in7 m c t) (in8 m c t) (in9 m c t) (in10 m c t) (in11 m c t) (in12 m c t)).k1 g h) (Kr P g.val h.val (n - 2 + 1)) := in8_real t n hn hx
  have hk2 : ∀ g h, R2 ((farSt c (ms6 t) (ms7 t) (ms8 t) (ms9 t) (ms10 t) (ms11 t) (ms12 t) (in6 m c t) (in7 m c t) (in8 m c t) (in9 m c t) (in10 m c t) (in11 m c t) (in12 m c t)).k2 g h) (Kr P g.val h.val (n - 2 + 2)) := in9_real t n hn hx
  have hv0 : ∀ g h, R2 ((farSt c (ms6 t) (ms7 t) (ms8 t) (ms9 t) (ms10 t) (ms11 t) (ms12 t) (in6 m c t) (in7 m c t) (in8 m c t) (in9 m c t) (in10 m c t) (in11 m c t) (in12 m c t)).v0 g h) (Vr P g.val h.val (n - 2)) := in10_real t n hn hx
  have hv1 : ∀ g h, R2 ((farSt c (ms6 t) (ms7 t) (ms8 t) (ms9 t) (ms10 t) (ms11 t) (ms12 t) (in6 m c t) (in7 m c t) (in8 m c t) (in9 m c t) (in10 m c t) (in11 m c t) (in12 m c t)).v1 g h) (Vr P g.val h.val (n - 2 + 1)) := in11_real t n hn hx
  have hv2 : ∀ g h, R2 ((farSt c (ms6 t) (ms7 t) (ms8 t) (ms9 t) (ms10 t) (ms11 t) (ms12 t) (in6 m c t) (in7 m c t) (in8 m c t) (in9 m c t) (in10 m c t) (in11 m c t) (in12 m c t)).v2 g h) (Vr P g.val h.val (n - 2 + 2)) := in12_real t n hn hx
  have hC := cs_real c (ms13 t) (in13 m c t) (sums_read m c t)
  exact ⟨fun g h => startRun_real P n (n - 2) hq hk0 hk1 hk2 hkp hC (by omega) (by omega) g h,
    fun g h => startAcc_real P n (n - 2) hq hk0 hk1 hk2 hv0 hv1 hv2 hkp hC (by omega) (by omega) g h⟩

theorem far_point (hi : 2 ≤ ((grid0.coords t) 1).val) (g : Fin 2) (h : Fin 4) (r d : Fin 128) :
    (ms15 t).view.read (Elt Ideal) (outs m c t).2 (ix3 g r ⟨128 * h.val + d.val, col_of h d⟩) = ((An P g.val h.val t.val 0 r d : ℝ) : EReal) := by
  have hlt : ((grid0.coords t) 1).val < 128 := (coord_facts t).1 ▸ (coord_facts t).2
  obtain ⟨hr, ha⟩ := far_begin t hx ((grid0.coords t) 1).val (coord_facts t).1.symm rfl hi
  have e := far_out (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0) hi
  rw [show (outs m c t).2 = _ from congrArg Prod.snd (dif_pos hi : outs m c t = _)]
  refine Eq.trans (walks_out_of P c (grid0.coords t) (ms6 t) (hs6 t) (ms13 t) (hs13 t) (in6 m c t) (in13 m c t) (V m c main_arg0) ((grid0.coords t) 1).val hlt
    (whole_entry hx) (query_read t _ (coord_facts t).1.symm hx) (sums_read m c t) (ms15 t) (((grid0.coords t) 1).val - 2) (Nat.sub_le _ _)
    _ _ (start_inv0 P c _ _ hr ha) (start_inv1 P c _ _ hr ha) _ _ e g h r d) ?_
  rw [(coord_facts t).1]

theorem near_begin (n : ℕ) (hn : t.val = n) (hc : ((grid0.coords t) 1).val = n) (hi : n < 2) :
    (∀ g h, R2 (startRun (sum24 (nearSt c (grid0.coords t) (ms6 t) (ms7 t) (ms8 t) (ms9 t) (ms10 t) (ms11 t) (ms12 t) (in6 m c t) (in7 m c t) (in8 m c t) (in9 m c t) (in10 m c t) (in11 m c t) (in12 m c t)).x (cs c (ms13 t) (in13 m c t))) g h) (fun r _ => Rn P g.val h.val n (n - 2) r))
    ∧ (∀ g h, R2 (St.acc (nearSt c (grid0.coords t) (ms6 t) (ms7 t) (ms8 t) (ms9 t) (ms10 t) (ms11 t) (ms12 t) (in6 m c t) (in7 m c t) (in8 m c t) (in9 m c t) (in10 m c t) (in11 m c t) (in12 m c t)) (sum24 (nearSt c (grid0.coords t) (ms6 t) (ms7 t) (ms8 t) (ms9 t) (ms10 t) (ms11 t) (ms12 t) (in6 m c t) (in7 m c t) (in8 m c t) (in9 m c t) (in10 m c t) (in11 m c t) (in12 m c t)).x (cs c (ms13 t) (in13 m c t))) g h) (An P g.val h.val n (n - 2))) := by
  have hlt : n < 128 := hn ▸ (coord_facts t).2
  have hkp : ∀ (j : Fin 3) (s : FVec Ideal S128x128 .f32) (σ : Fin 128 → Fin 128 → ℝ), R2 s σ →
      R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).kp j s) (fun r l => if 128 * (n - 2 + j.val) + l.val < 128 * n + r.val then σ r l else 0) :=
    fun j s σ hs => by
      have e : n - 2 = 0 := by omega
      rw [e]
      exact kpNear_real (grid0.coords t) (by rw [hc]; exact hi) n hc j s σ hs
  have hq : ∀ g h, R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).q g h) (Qr P g.val h.val n) := in6_real t n hn hx
  have hk0 : ∀ g h, R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).k0 g h) (Kr P g.val h.val (n - 2)) := in7_real t n hn hx
  have hk1 : ∀ g h, R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).k1 g h) (Kr P g.val h.val (n - 2 + 1)) := in8_real t n hn hx
  have hk2 : ∀ g h, R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).k2 g h) (Kr P g.val h.val (n - 2 + 2)) := in9_real t n hn hx
  have hv0 : ∀ g h, R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).v0 g h) (Vr P g.val h.val (n - 2)) := in10_real t n hn hx
  have hv1 : ∀ g h, R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).v1 g h) (Vr P g.val h.val (n - 2 + 1)) := in11_real t n hn hx
  have hv2 : ∀ g h, R2 ((nearSt c (grid0.coords t) (ms6 t) (ms7 t) (ms8 t) (ms9 t) (ms10 t) (ms11 t) (ms12 t) (in6 m c t) (in7 m c t) (in8 m c t) (in9 m c t) (in10 m c t) (in11 m c t) (in12 m c t)).v2 g h) (Vr P g.val h.val (n - 2 + 2)) := in12_real t n hn hx
  have hC := cs_real c (ms13 t) (in13 m c t) (sums_read m c t)
  exact ⟨fun g h => startRun_real P n (n - 2) hq hk0 hk1 hk2 hkp hC (by omega) (by omega) g h,
    fun g h => startAcc_real P n (n - 2) hq hk0 hk1 hk2 hv0 hv1 hv2 hkp hC (by omega) (by omega) g h⟩

theorem near_point (hi : ((grid0.coords t) 1).val < 2) (g : Fin 2) (h : Fin 4) (r d : Fin 128) :
    (ms15 t).view.read (Elt Ideal) (outs m c t).2 (ix3 g r ⟨128 * h.val + d.val, col_of h d⟩) = ((An P g.val h.val t.val 0 r d : ℝ) : EReal) := by
  have hlt : ((grid0.coords t) 1).val < 128 := (coord_facts t).1 ▸ (coord_facts t).2
  obtain ⟨hr, ha⟩ := near_begin t hx ((grid0.coords t) 1).val (coord_facts t).1.symm rfl hi
  have e := near_out (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (in0 m c t) (in1 m c t) (in2 m c t) (in3 m c t) (in4 m c t) (in5 m c t) (in6 m c t) (in7 m c t) (in8 m c t) (in9 m c t) (in10 m c t) (in11 m c t) (in12 m c t) (in13 m c t) (V m c main_arg0) hi
  rw [show (outs m c t).2 = _ from congrArg Prod.snd (dif_neg (by omega) : outs m c t = _)]
  refine Eq.trans (walks_out_of P c (grid0.coords t) (ms6 t) (hs6 t) (ms13 t) (hs13 t) (in6 m c t) (in13 m c t) (V m c main_arg0) ((grid0.coords t) 1).val hlt
    (whole_entry hx) (query_read t _ (coord_facts t).1.symm hx) (sums_read m c t) (ms15 t) (((grid0.coords t) 1).val - 2) (Nat.sub_le _ _)
    _ _ (start_inv0 P c _ _ hr ha) (start_inv1 P c _ _ hr ha) _ _ e g h r d) ?_
  rw [(coord_facts t).1]

/-- AT EVERY POINT the result block holds the outputs over all keys. -/
theorem point_out (g : Fin 2) (h : Fin 4) (r d : Fin 128) :
    (ms15 t).view.read (Elt Ideal) (outs m c t).2 (ix3 g r ⟨128 * h.val + d.val, col_of h d⟩) = ((An P g.val h.val t.val 0 r d : ℝ) : EReal) := by
  by_cases hi : 2 ≤ ((grid0.coords t) 1).val
  · exact far_point t hx hi g h r d
  · exact near_point t hx (by omega) g h r d

end Cert.KernelIdeal.Run
-- ==== Proof.Result.lean ====
/-
  The array of the stick-breaking heads' outputs after the launch, and the result that joins its first two axes.
-/
module

public import proofs.«01_k».proof.Proof.Points
public import proofs.«01_k».proof.Proof.Frame
public import Idealize.ShloMosaic.Lib.Pipeline.ValueKit.Geometry

@[expose] public section

set_option maxRecDepth 16384
set_option maxHeartbeats 1600000

noncomputable section

namespace Cert.KernelIdeal.Run

open Cert.KernelIdeal Cert.KernelIdeal.Gen Cert.KernelIdeal.Tiles Cert.KernelIdeal.Sticks
open Idealize.ShloMosaic Idealize.ShloMosaic.TcCoe Idealize.ShloMosaic.Tactic Idealize.SL.Sem

variable {m : (ℓ : Loc nD τ sig) → Buf (Elt Ideal) ℓ} {P : ℕ → ℕ → ℝ} {c : Dev nD} (hx : Holds m P c)

/-- The outputs at a batch, a position and a column. -/
def outAt (P : ℕ → ℕ → ℝ) : S2x16384x512.Idx → EReal := fun i => ((out P (16384 * (i 0).val + (i 1).val) (i 2).val : ℝ) : EReal)

theorem out_of_block (P : ℕ → ℕ → ℝ) (g : Fin 2) (h : Fin 4) (t : ℕ) (ht : t < 128) (r d : Fin 128) :
    An P g.val h.val t 0 r d = out P (16384 * g.val + (128 * t + r.val)) (128 * h.val + d.val) := by
  have := r.isLt; have := d.isLt; have := g.isLt; have := h.isLt
  unfold An out
  rw [show (16384 * g.val + (128 * t + r.val)) / 16384 = g.val by omega, show (128 * h.val + d.val) / 128 = h.val by omega,
    show (16384 * g.val + (128 * t + r.val)) % 16384 = 128 * t + r.val by omega, show (128 * h.val + d.val) % 128 = d.val by omega, Nat.mul_zero]

theorem covers15 : win0_15.Covers := by decide +kernel

include hx in
/-- THE ARRAY AT THE END. -/
theorem array15 : (dats m 0 c).arrAt 15 (cfg0 (F := Ideal)).N = outAt P := by
  refine (dats m 0 c).arrAt_eq_of_cover 15 _ (fun t hf => ?_) (fun i => Pipeline.Window.Covers.cover _ covers15 (Memref.isWhole_whole _) i)
  show ((cfg0 (F := Ideal)).win 15).cut (grid0.coords t) ((dats m 0 c).after 15 t) = _
  rw [after0_15]
  funext y
  have ht := (coord_facts t).2
  obtain ⟨g, r, x, rfl⟩ : ∃ (g : Fin 2) (r : Fin 128) (x : Fin 512), y = ix3 g r x := ⟨y 0, y 1, y 2, eq_ix3 y⟩
  have := r.isLt; have hxx := x.isLt; have := g.isLt
  obtain ⟨h, d, rfl⟩ : ∃ (h : Fin 4) (d : Fin 128), x = ⟨128 * h.val + d.val, col_of h d⟩ :=
    ⟨⟨x.val / 128, by omega⟩, ⟨x.val % 128, by omega⟩, Fin.ext (by show x.val = 128 * (x.val / 128) + x.val % 128; omega)⟩
  refine (point_out t hx g h r d).trans ?_
  rw [out_of_block P g h t.val ht r d]
  obtain ⟨p0, p1, p2⟩ := place15 t
  show _ = outAt P _
  unfold outAt
  refine congrArg₂ (fun a b => ((out P a b : ℝ) : EReal)) ?_ ?_
  · show 16384 * g.val + (128 * t.val + r.val) = 16384 * (cc0_transform_16 (grid0.coords t) (0 : Fin 3) * 2 + 1 * g.val) + (cc0_transform_16 (grid0.coords t) (1 : Fin 3) * 128 + 1 * r.val)
    rw [p0, p1]; omega
  · show 128 * h.val + d.val = cc0_transform_16 (grid0.coords t) (2 : Fin 3) * 512 + 1 * (128 * h.val + d.val)
    rw [p2]; omega

include hx in
/-- THE RESULT AT THE END. -/
theorem tail_v12 : Pipeline.afterTail₀ cfgs (dats m) 0 (V₀ m) [hostOps1] c main_v12 = fun i : S32768x512.Idx => ((out P (i 0).val (i 1).val : ℝ) : EReal) := by
  have e : Pipeline.afterTail₀ cfgs (dats m) 0 (V₀ m) [hostOps1] c main_v12
      = shapeCast S32768x512 ((dats m 0 c).arrAt 15 (cfg0 (F := Ideal)).N) shapeCasts_S2x16384x512_S32768x512 := by
    unfold Pipeline.afterTail₀
    rw [show ([hostOps1 (F := Ideal)]).flatten = hostOps1 from rfl]
    after_results_simp
    exact congrArg (fun x => shapeCast S32768x512 x shapeCasts_S2x16384x512_S32768x512)
      ((dats m 0 c).withArrays_arrAt sharedIn0 (V₀ m c) (fun w => A_eq m c w) 15)
  rw [e, array15 hx]
  funext i
  obtain ⟨R, k, rfl⟩ : ∃ (R : Fin 32768) (k : Fin 512), i = ix2 R k := ⟨i 0, i 1, eq_ix2 i⟩
  have := R.isLt
  refine (batches_joined (outAt P) R k ⟨R.val / 16384, by omega⟩ ⟨R.val % 16384, by omega⟩ (by show R.val = 16384 * (R.val / 16384) + R.val % 16384; omega)).trans ?_
  show ((out P (16384 * (R.val / 16384) + R.val % 16384) k.val : ℝ) : EReal) = ((out P R.val k.val : ℝ) : EReal)
  rw [show 16384 * (R.val / 16384) + R.val % 16384 = R.val by omega]

/-- The launch: the first result joined, the arguments unchanged. -/
theorem run_result (m : (ℓ : Loc nD τ sig) → Buf (Elt Ideal) ℓ) (ρ : Dev nD → PrngReg) (P : Dev nD → ℕ → ℕ → ℝ) (hx : ∀ c, Holds m (P c) c) :
    θ_run (defs (F := Ideal)) (onTc (τ := τ) (main (F := Ideal))) ⟨m, fun _ => 0, ρ⟩ (fun r => ∀ c : Dev nD,
      r.2.mem ((c.tc : Thread nD τ).loc main_v12) = (fun i : S32768x512.Idx => ((out (P c) (i 0).val (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨((h.1 c).2 main_v12 (Pipeline.mem_restRefs_of main_v12 (by decide) (by decide : ∀ w, (spec0 w).arr.view.ref ≠ main_v12))).trans (tail_v12 (hx c)),
     ((h.1 c).2 main_arg0 (Pipeline.mem_restRefs_of main_arg0 (by decide) (by decide : ∀ w, (spec0 w).arr.view.ref ≠ main_arg0))).trans (tail_arg0 m c),
     ((h.1 c).2 main_arg1 (Pipeline.mem_restRefs_of main_arg1 (by decide) (by decide : ∀ w, (spec0 w).arr.view.ref ≠ main_arg1))).trans (tail_arg1 m c)⟩) (run_main m ρ)

end Cert.KernelIdeal.Run
-- ==== Proof.Finite.lean ====
/-
  The precondition read: every entry of the projected array is a real.
-/
module

public import proofs.«01_k».proof.Defs
public import proofs.«01_k».proof.Proof.Gen.Pre_finite
public import Idealize.ShloMosaic.Lib.Pointwise
public import Idealize.ShloMosaic.Lib.ReduceAll

@[expose] public section

noncomputable section

namespace Cert.Finite

open Idealize.ShloMosaic Idealize.ShloMosaic.TcCoe Idealize.SL.Sem

theorem inf_bits : Ideal.ofBits .f32 0x7F800000#32 = (⊤ : EReal) := by
  simp [Ideal.ofBits, Ideal.ieee]

/-- A value whose magnitude is below the top is a real. -/
theorem real_of_abs_lt (x : EReal) (h : max x (-x) < ⊤) : ((x.toReal : ℝ) : EReal) = x := by
  refine EReal.coe_toReal ?_ ?_
  · rintro rfl; simp at h
  · rintro rfl; simp at h

theorem real_of_pre (x0 : FVec Ideal Cert.Pre_finite.S32768x6912 .bf16) (x1 : FVec Ideal Cert.Pre_finite.S1x16 .f32)
    (h : @Cert.Pre_finite.fn Cert.Pre_finite.Gen.facts Ideal _ x0 x1 = fun _ => 1#1) (r : Fin 32768) (k : Fin 6912) :
    ((EReal.toReal (x0 (ix2 r k)) : ℝ) : EReal) = x0 (ix2 r k) := by
  have e := congrFun h ix0
  unfold Cert.Pre_finite.fn at e
  haveI : Subsingleton Cert.Pre_finite.S_.Idx := ⟨fun a b => funext fun j => j.elim0⟩
  have hi := Host.reduce_andi_all _ _ _ _ ix0 e (ix2 r k)
  refine real_of_abs_lt _ ?_
  have h2 : FloatOps.cmpf (F := Ideal) (φ := .f32) .olt (FloatOps.absf (F := Ideal) (φ := .f32) (x0 (ix2 r k))) (Ideal.ofBits .f32 0x7F800000#32) = 1#1 := hi
  rw [inf_bits, Ideal.cmpf_def, Ideal.absf_def] at h2
  by_contra hc
  simp [Ideal.cmp, hc] at h2

end Cert.Finite
-- ==== Proof.SbReference.lean ====
/-
  What the reference of the stick-breaking attention computes, of real projections: `Sticks.out`.
-/
module

public import proofs.«01_k».proof.Proof.Gen.ReferenceIdeal.Read
public import proofs.«01_k».proof.Proof.Sticks
public import Idealize.ShloMosaic.Lib.Pointwise
public import Idealize.ShloMosaic.Lib.WordCmp

@[expose] public section

set_option maxRecDepth 65536
set_option maxHeartbeats 1600000

noncomputable section

namespace Cert.ReferenceIdeal.Read

open Cert.ReferenceIdeal Idealize.ShloMosaic Cert.KernelIdeal.Tiles Cert.KernelIdeal.Sticks
open scoped Idealize.ShloMosaic.ValueIdx

variable (x0 : (⟨S32768x6912, .bf16⟩ : BufTy).Contents (Elt Ideal)) (P : ℕ → ℕ → ℝ)

/-- The projections are real. -/
def Real0 : Prop := ∀ (r : Fin 32768) (c : Fin 6912), (x0 (ix2 r c) : EReal) = ((P r.val c.val : ℝ) : EReal)

variable {x0 P}

theorem real_at (hx : Real0 x0 P) (i : S32768x6912.Idx) (r c : ℕ) (hr : (i 0).val = r) (hc : (i 1).val = c) :
    (x0 i : EReal) = ((P r c : ℝ) : EReal) := by
  subst hr hc
  rw [← hx ⟨(i 0).val, (i 0).isLt⟩ ⟨(i 1).val, (i 1).isLt⟩]
  congr 1
  funext a
  match a with
  | ⟨0, _⟩ => rfl
  | ⟨1, _⟩ => rfl

theorem q_at (hx : Real0 x0 P) (b : Fin 2) (h : Fin 4) (t : Fin 16384) (d : Fin 128) :
    (val_main_v8 (F := Ideal) x0 (ix4 b h t d) : EReal) = ((P (16384 * b.val + t.val) (5120 + 128 * h.val + d.val) : ℝ) : EReal) := by
  have := b.isLt; have := h.isLt; have := t.isLt; have := d.isLt
  rw [val_main_v8_apply, val_main_v3_apply, val_main_v2_apply, val_main_v1_apply, val_main_v0_apply]
  refine real_at hx _ _ _ ?_ ?_
  · show ((((((b.val * 16384 + t.val) * 4 + h.val) * 128 + d.val) / 8388608) * 16384 + (((b.val * 16384 + t.val) * 4 + h.val) * 128 + d.val) / 512 % 16384) * 6912 + (5120 + (((b.val * 16384 + t.val) * 4 + h.val) * 128 + d.val) % 512)) / 6912 = _
    omega
  · show ((((((b.val * 16384 + t.val) * 4 + h.val) * 128 + d.val) / 8388608) * 16384 + (((b.val * 16384 + t.val) * 4 + h.val) * 128 + d.val) / 512 % 16384) * 6912 + (5120 + (((b.val * 16384 + t.val) * 4 + h.val) * 128 + d.val) % 512)) % 6912 = _
    omega

theorem k_at (hx : Real0 x0 P) (b : Fin 2) (h : Fin 4) (t : Fin 16384) (d : Fin 128) :
    (val_main_v9 (F := Ideal) x0 (ix4 b h t d) : EReal) = ((P (16384 * b.val + t.val) (5632 + 128 * h.val + d.val) : ℝ) : EReal) := by
  have := b.isLt; have := h.isLt; have := t.isLt; have := d.isLt
  rw [val_main_v9_apply, val_main_v5_apply, val_main_v4_apply, val_main_v1_apply, val_main_v0_apply]
  refine real_at hx _ _ _ ?_ ?_
  · show ((((((b.val * 16384 + t.val) * 4 + h.val) * 128 + d.val) / 8388608) * 16384 + (((b.val * 16384 + t.val) * 4 + h.val) * 128 + d.val) / 512 % 16384) * 6912 + (5632 + (((b.val * 16384 + t.val) * 4 + h.val) * 128 + d.val) % 512)) / 6912 = _
    omega
  · show ((((((b.val * 16384 + t.val) * 4 + h.val) * 128 + d.val) / 8388608) * 16384 + (((b.val * 16384 + t.val) * 4 + h.val) * 128 + d.val) / 512 % 16384) * 6912 + (5632 + (((b.val * 16384 + t.val) * 4 + h.val) * 128 + d.val) % 512)) % 6912 = _
    omega

theorem v_at (hx : Real0 x0 P) (b : Fin 2) (h : Fin 4) (t : Fin 16384) (d : Fin 128) :
    (val_main_v10 (F := Ideal) x0 (ix4 b h t d) : EReal) = ((P (16384 * b.val + t.val) (6144 + 128 * h.val + d.val) : ℝ) : EReal) := by
  have := b.isLt; have := h.isLt; have := t.isLt; have := d.isLt
  rw [val_main_v10_apply, val_main_v7_apply, val_main_v6_apply, val_main_v1_apply, val_main_v0_apply]
  refine real_at hx _ _ _ ?_ ?_
  · show ((((((b.val * 16384 + t.val) * 4 + h.val) * 128 + d.val) / 8388608) * 16384 + (((b.val * 16384 + t.val) * 4 + h.val) * 128 + d.val) / 512 % 16384) * 6912 + (6144 + (((b.val * 16384 + t.val) * 4 + h.val) * 128 + d.val) % 512)) / 6912 = _
    omega
  · show ((((((b.val * 16384 + t.val) * 4 + h.val) * 128 + d.val) / 8388608) * 16384 + (((b.val * 16384 + t.val) * 4 + h.val) * 128 + d.val) / 512 % 16384) * 6912 + (6144 + (((b.val * 16384 + t.val) * 4 + h.val) * 128 + d.val) % 512)) % 6912 = _
    omega

theorem z_at (hx : Real0 x0 P) (b : Fin 2) (h : Fin 4) (t s : Fin 16384) :
    (val_main_v13 (F := Ideal) x0 (ix4 b h t s) : EReal) = ((zz P b.val h.val t.val s.val : ℝ) : EReal) := by
  rw [val_main_v13_apply, val_main_v12_apply, val_main_v11_apply, val_main_cst_apply]
  have e : (∑ k : Fin 128, (val_main_v8 (F := Ideal) x0) (lidx_main_v11 (ix4 b h t s) k) * (val_main_v9 (F := Ideal) x0) (ridx_main_v11 (ix4 b h t s) k) : EReal)
      = ((∑ d : Fin 128, P (16384 * b.val + t.val) (5120 + 128 * h.val + d.val) * P (16384 * b.val + s.val) (5632 + 128 * h.val + d.val) : ℝ) : EReal) := by
    rw [sum_coe]
    refine Finset.sum_congr rfl fun k _ => ?_
    have el : lidx_main_v11 (ix4 b h t s) k = ix4 b h t k := by funext a; fin_cases a <;> rfl
    have er : ridx_main_v11 (ix4 b h t s) k = ix4 b h s k := by funext a; fin_cases a <;> rfl
    rw [el, er, q_at hx, k_at hx, EReal.coe_mul]
  rw [e]
  unfold zz
  rw [EReal.coe_mul]
  congr 1
  exact scl_bits

theorem mask_at (t s : Fin 16384) : val_main_v20 (F := Ideal) (ix2 t s) = 1#1 ↔ s.val < t.val := by
  have := t.isLt; have := s.isLt
  rw [val_main_v20_apply, val_main_v18_apply, val_main_v15_apply, val_main_v14_apply, val_main_v19_apply, val_main_v17_apply, val_main_v16_apply]
  exact WordCmp.cmpi_slt_ofNat_eq_one_iff (a := s.val) (b := t.val) (by omega) (by omega)

theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The windows' indices are their positions on the last axis. -/
def winEquiv : (⟨4, ![1, 1, 1, 16384]⟩ : Shape).Idx ≃ Fin 16384 where
  toFun w := ⟨(w 3).val, (w 3).isLt⟩
  invFun n := ix4 (0 : Fin 1) (0 : Fin 1) (0 : Fin 1) n
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv n := rfl

theorem suffix_sum (x : S2x4x16384x16384.Idx → EReal) (init : S_.Idx → EReal) (hinit : ∀ i, init i = 0) (y : ℕ → ℝ) (b : Fin 2) (h : Fin 4) (t s : Fin 16384)
    (hw : S2x4x16384x16384.ReduceWindows (![1, 1, 1, 16384] : Fin 4 → ℕ) ![1, 1, 1, 1] ![0, 0, 0, 0] ![0, 0, 0, 16383] S2x4x16384x16384) (hu : 0 < S_.numel)
    (hy : ∀ j : Fin 16384, x (ix4 b h t j) = ((y j.val : ℝ) : EReal)) :
    (Host.reduceWindowAdd (F := Ideal) (φ := .f32) ![1, 1, 1, 16384] ![1, 1, 1, 1] ![0, 0, 0, 0] ![0, 0, 0, 16383] x init hw hu (ix4 b h t s) : EReal)
      = ((∑ j ∈ Finset.Ico s.val 16384, y j : ℝ) : EReal) := by
  have hs := s.isLt
  unfold Host.reduceWindowAdd
  rw [Ideal.hostReduceWindowAdd_def]
  unfold Ideal.hostReduceWindowAdd Host.reduceWindow
  dsimp only
  rw [foldl_sum, ← Fin.sum_univ_def, hinit, zero_add]
  refine (Finset.sum_congr rfl fun n _ => (?_ : _ = (fun w : Fin 16384 => (((if s.val + w.val < 16384 then y (s.val + w.val) else 0 : ℝ)) : EReal)) (winEquiv ((⟨4, ![1, 1, 1, 16384]⟩ : Shape).rowMajor.symm n)))).trans ?_
  · show _ = (((if s.val + ((⟨4, ![1, 1, 1, 16384]⟩ : Shape).rowMajor.symm n 3).val < 16384 then y (s.val + ((⟨4, ![1, 1, 1, 16384]⟩ : Shape).rowMajor.symm n 3).val) else 0 : ℝ)) : EReal)
    have h0 : ((⟨4, ![1, 1, 1, 16384]⟩ : Shape).rowMajor.symm n 0).val < 1 := ((⟨4, ![1, 1, 1, 16384]⟩ : Shape).rowMajor.symm n 0).isLt
    have h1 : ((⟨4, ![1, 1, 1, 16384]⟩ : Shape).rowMajor.symm n 1).val < 1 := ((⟨4, ![1, 1, 1, 16384]⟩ : Shape).rowMajor.symm n 1).isLt
    have h2 : ((⟨4, ![1, 1, 1, 16384]⟩ : Shape).rowMajor.symm n 2).val < 1 := ((⟨4, ![1, 1, 1, 16384]⟩ : Shape).rowMajor.symm n 2).isLt
    have hb := b.isLt; have hh := h.isLt; have ht := t.isLt
    split_ifs with hin hc hc
    · rw [← hy ⟨s.val + ((⟨4, ![1, 1, 1, 16384]⟩ : Shape).rowMajor.symm n 3).val, hc⟩]
      congr 1
      funext a
      apply Fin.ext
      match a with
      | ⟨0, _⟩ => show b.val * 1 + ((⟨4, ![1, 1, 1, 16384]⟩ : Shape).rowMajor.symm n 0).val - 0 = b.val; omega
      | ⟨1, _⟩ => show h.val * 1 + ((⟨4, ![1, 1, 1, 16384]⟩ : Shape).rowMajor.symm n 1).val - 0 = h.val; omega
      | ⟨2, _⟩ => show t.val * 1 + ((⟨4, ![1, 1, 1, 16384]⟩ : Shape).rowMajor.symm n 2).val - 0 = t.val; omega
      | ⟨3, _⟩ => show s.val * 1 + ((⟨4, ![1, 1, 1, 16384]⟩ : Shape).rowMajor.symm n 3).val - 0 = s.val + ((⟨4, ![1, 1, 1, 16384]⟩ : Shape).rowMajor.symm n 3).val; omega
    · have := (hin 3).2
      change s.val * 1 + ((⟨4, ![1, 1, 1, 16384]⟩ : Shape).rowMajor.symm n 3).val - 0 < 16384 at this
      omega
    · refine absurd (fun a => ?_) hin
      match a with
      | ⟨0, _⟩ => show 0 ≤ b.val * 1 + ((⟨4, ![1, 1, 1, 16384]⟩ : Shape).rowMajor.symm n 0).val ∧ b.val * 1 + ((⟨4, ![1, 1, 1, 16384]⟩ : Shape).rowMajor.symm n 0).val - 0 < 2; omega
      | ⟨1, _⟩ => show 0 ≤ h.val * 1 + ((⟨4, ![1, 1, 1, 16384]⟩ : Shape).rowMajor.symm n 1).val ∧ h.val * 1 + ((⟨4, ![1, 1, 1, 16384]⟩ : Shape).rowMajor.symm n 1).val - 0 < 4; omega
      | ⟨2, _⟩ => show 0 ≤ t.val * 1 + ((⟨4, ![1, 1, 1, 16384]⟩ : Shape).rowMajor.symm n 2).val ∧ t.val * 1 + ((⟨4, ![1, 1, 1, 16384]⟩ : Shape).rowMajor.symm n 2).val - 0 < 16384; omega
      | ⟨3, _⟩ => show 0 ≤ s.val * 1 + ((⟨4, ![1, 1, 1, 16384]⟩ : Shape).rowMajor.symm n 3).val ∧ s.val * 1 + ((⟨4, ![1, 1, 1, 16384]⟩ : Shape).rowMajor.symm n 3).val - 0 < 16384; omega
    · rfl
  refine (Equiv.sum_comp ((⟨4, ![1, 1, 1, 16384]⟩ : Shape).rowMajor.symm.trans winEquiv) (fun w : Fin 16384 => (((if s.val + w.val < 16384 then y (s.val + w.val) else 0 : ℝ)) : EReal))).trans ?_
  rw [← sum_coe]
  congr 1
  rw [← Finset.sum_range (fun n => if s.val + n < 16384 then y (s.val + n) else 0), ← Finset.sum_filter, Finset.sum_Ico_eq_sum_range]
  refine Finset.sum_congr (Finset.ext fun n => ?_) fun _ _ => rfl
  rw [Finset.mem_filter, Finset.mem_range, Finset.mem_range]
  omega

/-- The logarithm of the sigmoid. -/
theorem logsig_at (hx : Real0 x0 P) (b : Fin 2) (h : Fin 4) (t s : Fin 16384) :
    (val_main_v21 (F := Ideal) x0 (ix4 b h t s) : EReal) = ((zz P b.val h.val t.val s.val - sp (zz P b.val h.val t.val s.val) : ℝ) : EReal) := by
  rw [val_main_v21_apply, val_main_call0_v1_apply, val_main_call0_call0_v11_apply, val_main_call0_call0_v10_apply, val_main_call0_call0_v9_apply,
    val_main_call0_call0_v8_apply, val_main_call0_call0_v7_apply, val_main_call0_call0_v1_apply, val_main_call0_call0_v4_apply, val_main_call0_call0_v3_apply,
    val_main_call0_call0_v0_apply, val_main_call0_call0_v2_apply, val_main_call0_v0_apply, val_main_call0_call0_cst_apply, z_at hx]
  generalize zz P b.val h.val t.val s.val = z
  have hz : (FloatOps.ofBits (F := Ideal) .f32 0x00000000#32 : EReal) = 0 := by
    show Ideal.ofBits .f32 0x00000000#32 = 0
    simp [Ideal.ofBits, Ideal.ieee]
  have hsub : (FloatOps.subf (F := Ideal) (φ := .f32) (FloatOps.hostNegf (F := Ideal) (φ := .f32) (z : EReal)) (FloatOps.ofBits (F := Ideal) .f32 0x00000000#32) : EReal) = ((-z : ℝ) : EReal) := by
    rw [hz]
    show -(z : EReal) - 0 = _
    rw [← EReal.coe_neg, ← EReal.coe_zero, ← EReal.coe_sub, sub_zero]
  have hc : FloatOps.cmpf (F := Ideal) (φ := .f32) .une ((-z : ℝ) : EReal) ((-z : ℝ) : EReal) = 0#1 := by
    simp [Ideal.cmpf_def, Ideal.cmp]
  rw [hsub, hc, hz]
  have hl : (FloatOps.hostUnary (F := Ideal) (φ := .f32) .log1p (FloatOps.hostUnary (F := Ideal) (φ := .f32) .exp (FloatOps.hostNegf (F := Ideal) (φ := .f32) (FloatOps.hostAbsf (F := Ideal) (φ := .f32) ((-z : ℝ) : EReal)))) : EReal) = ((Real.log (1 + Real.exp (-|z|)) : ℝ) : EReal) := by
    show Ideal.log (1 + Ideal.exp (-(max ((-z : ℝ) : EReal) (-((-z : ℝ) : EReal))))) = _
    have hp : ¬ (1 + Real.exp (-|z|) ≤ 0) := by have := Real.exp_pos (-|z|); linarith
    rw [← EReal.coe_neg, ← EReal.coe_strictMono.monotone.map_max, show max (-z) (- -z) = |z| by rw [neg_neg, max_comm]; rfl, ← EReal.coe_neg, Ideal.exp_coe,
      ← EReal.coe_one, ← EReal.coe_add, Ideal.log_coe, if_neg hp]
  rw [hl]
  show -(max (-(z : EReal)) 0 + ((Real.log (1 + Real.exp (-|z|)) : ℝ) : EReal)) = _
  rw [← EReal.coe_neg, ← EReal.coe_zero, ← EReal.coe_strictMono.monotone.map_max, ← EReal.coe_add, ← EReal.coe_neg]
  congr 1
  unfold sp
  have : max z 0 - max (-z) 0 = z := by
    rcases le_total z 0 with hz | hz
    · rw [max_eq_right hz, max_eq_left (by linarith)]; ring
    · rw [max_eq_left hz, max_eq_right (by linarith)]; ring
  linarith

theorem maskb_at (b : Fin 2) (h : Fin 4) (t s : Fin 16384) : val_main_call1_v1 (F := Ideal) (ix4 b h t s) = 1#1 ↔ s.val < t.val := by
  rw [val_main_call1_v1_apply, ← mask_at t s, show idx_main_call1_v1 (ix4 b h t s) = ix2 t s by funext a; fin_cases a <;> rfl]
theorem maskb'_at (b : Fin 2) (h : Fin 4) (t s : Fin 16384) : val_main_call3_v1 (F := Ideal) (ix4 b h t s) = 1#1 ↔ s.val < t.val := by
  rw [val_main_call3_v1_apply, ← mask_at t s, show idx_main_call3_v1 (ix4 b h t s) = ix2 t s by funext a; fin_cases a <;> rfl]

theorem zero_bits : (FloatOps.ofBits (F := Ideal) .f32 0x00000000#32 : EReal) = 0 := by
  show Ideal.ofBits .f32 0x00000000#32 = 0
  simp [Ideal.ofBits, Ideal.ieee]

theorem kept_at (hx : Real0 x0 P) (b : Fin 2) (h : Fin 4) (t s : Fin 16384) :
    (val_main_v23 (F := Ideal) x0 (ix4 b h t s) : EReal) = ((-kept (zz P b.val h.val t.val) t.val s.val : ℝ) : EReal) := by
  rw [val_main_v23_apply, val_main_v22_apply, logsig_at hx, z_at hx, val_main_call1_v2_apply, val_main_call1_v0_apply, val_main_cst_0_apply, zero_bits]
  unfold kept Scalar.select
  by_cases hc : s.val < t.val
  · rw [if_pos (show _ = (1 : BitVec 1) from (maskb_at b h t s).2 hc), if_pos hc]
    show ((_ : ℝ) : EReal) - ((_ : ℝ) : EReal) = _
    rw [← EReal.coe_sub]
    congr 1
    ring
  · rw [if_neg (show ¬ _ = (1 : BitVec 1) from fun e => hc ((maskb_at b h t s).1 e)), if_neg hc, neg_zero, EReal.coe_zero]

theorem weight_at (hx : Real0 x0 P) (b : Fin 2) (h : Fin 4) (t s : Fin 16384) :
    (val_main_v28 (F := Ideal) x0 (ix4 b h t s) : EReal) = ((W (zz P b.val h.val t.val) t.val s.val : ℝ) : EReal) := by
  have hs := s.isLt
  rw [val_main_v28_apply, val_main_v27_apply, val_main_v26_apply, val_main_v25_apply, logsig_at hx, kept_at hx, val_main_call3_v2_apply, val_main_call3_v0_apply, val_main_cst_1_apply, zero_bits]
  have e : (val_main_v24 (F := Ideal) x0 (ix4 b h t s) : EReal) = ((∑ j ∈ Finset.Ico s.val 16384, -kept (zz P b.val h.val t.val) t.val j : ℝ) : EReal) := by
    unfold val_main_v24
    have e0 := suffix_sum (val_main_v23 (F := Ideal) x0) (val_main_call2_v0 (F := Ideal)) (fun i => by rw [val_main_call2_v0_apply, val_main_call2_cst_apply, zero_bits]) (fun j => -kept (zz P b.val h.val t.val) t.val j) b h t s Gen.reduceWindows_S2x4x16384x16384_S2x4x16384x16384_w1s1p0_0_w1s1p0_0_w1s1p0_0_w16384s1p0_16383 Gen.h_S_ (fun j => kept_at hx b h t j)
    exact e0
  rw [e]
  unfold W Scalar.select
  by_cases hc : s.val < t.val
  · rw [if_pos (show _ = (1 : BitVec 1) from (maskb'_at b h t s).2 hc), if_pos hc]
    show Ideal.exp (((_ : ℝ) : EReal) + (((_ : ℝ) : EReal) - ((_ : ℝ) : EReal))) = _
    rw [← EReal.coe_sub, ← EReal.coe_add, Ideal.exp_coe]
    refine congrArg (fun x : ℝ => ((Real.exp x : ℝ) : EReal)) ?_
    unfold R
    rw [Finset.sum_neg_distrib, Finset.sum_eq_sum_Ico_succ_bot hs]
    ring
  · rw [if_neg (show ¬ _ = (1 : BitVec 1) from fun e => hc ((maskb'_at b h t s).1 e)), if_neg hc, EReal.coe_zero]

/-- The reference at a row and a column. -/
theorem result_at (hx : Real0 x0 P) (r : Fin 32768) (c : Fin 512) :
    (val_main_v33 (F := Ideal) x0 (ix2 r c) : EReal) = ((out P r.val c.val : ℝ) : EReal) := by
  have hr := r.isLt
  have hc := c.isLt
  rw [val_main_v33_apply, val_main_v32_apply, val_main_v31_apply, val_main_v30_apply]
  have ei : idx_main_v30 (idx_main_v31 (idx_main_v33 (ix2 r c))) = ix4 (⟨r.val / 16384, by omega⟩ : Fin 2) (⟨c.val / 128, by omega⟩ : Fin 4) (⟨r.val % 16384, by omega⟩ : Fin 16384) (⟨c.val % 128, by omega⟩ : Fin 128) := by
    funext a
    apply Fin.ext
    match a with
    | ⟨0, _⟩ => show (((r.val * 512 + c.val) / 8388608 * 16384 + (r.val * 512 + c.val) / 512 % 16384) * 512 + (r.val * 512 + c.val) % 512) / 8388608 = r.val / 16384; omega
    | ⟨1, _⟩ => show (((r.val * 512 + c.val) / 8388608 * 16384 + (r.val * 512 + c.val) / 512 % 16384) * 512 + (r.val * 512 + c.val) % 512) / 128 % 4 = c.val / 128; omega
    | ⟨2, _⟩ => show (((r.val * 512 + c.val) / 8388608 * 16384 + (r.val * 512 + c.val) / 512 % 16384) * 512 + (r.val * 512 + c.val) % 512) / 512 % 16384 = r.val % 16384; omega
    | ⟨3, _⟩ => show (((r.val * 512 + c.val) / 8388608 * 16384 + (r.val * 512 + c.val) / 512 % 16384) * 512 + (r.val * 512 + c.val) % 512) % 128 = c.val % 128; omega
  rw [ei]
  show (val_main_v29 (F := Ideal) x0 _ : EReal) = _
  rw [val_main_v29_apply]
  unfold out A
  rw [← Finset.range_eq_Ico, Finset.sum_range, sum_coe]
  refine Finset.sum_congr rfl fun s _ => ?_
  have el : ∀ (b : Fin 2) (h : Fin 4) (t : Fin 16384) (d : Fin 128), lidx_main_v29 (ix4 b h t d) s = ix4 b h t s := by intro b h t d; funext a; fin_cases a <;> rfl
  have er : ∀ (b : Fin 2) (h : Fin 4) (t : Fin 16384) (d : Fin 128), ridx_main_v29 (ix4 b h t d) s = ix4 b h s d := by intro b h t d; funext a; fin_cases a <;> rfl
  rw [el, er, weight_at hx, v_at hx, EReal.coe_mul]
  rfl

end Cert.ReferenceIdeal.Read
-- ==== Proof.AttentionClaims.lean ====
/-
  The stick-breaking heads: the kernel's result is the reference's when the projected array is finite.
-/
module

public import proofs.«01_k».proof.Proof.Result
public import proofs.«01_k».proof.Proof.Finite
public import proofs.«01_k».proof.Proof.SbReference
public import proofs.«01_k».proof.Proof.Gen.ReferenceIdeal.Run
public import proofs.«01_k».proof.Proof.Gen.ReferenceIdeal.Read
public import proofs.«01_k».proof.Defs

@[expose] public section

set_option maxRecDepth 16384

noncomputable section

namespace Cert.AttentionClaims

open Idealize.ShloMosaic Idealize.ShloMosaic.TcCoe Idealize.SL.Sem

/-- The reals a projected array holds, by row and column. -/
def realsOf (x : (⟨2, ![32768, 6912]⟩ : Shape).Idx → EReal) (r k : ℕ) : ℝ :=
  if h : r < 32768 ∧ k < 6912 then (x (ix2 ⟨r, h.1⟩ ⟨k, h.2⟩)).toReal else 0

theorem realsOf_eq (x : (⟨2, ![32768, 6912]⟩ : Shape).Idx → EReal) (hx : ∀ (r : Fin 32768) (k : Fin 6912), (((x (ix2 r k)).toReal : ℝ) : EReal) = x (ix2 r k))
    (r : Fin 32768) (k : Fin 6912) : x (ix2 r k) = ((realsOf x r.val k.val : ℝ) : EReal) := by
  unfold realsOf
  rw [dif_pos ⟨r.isLt, k.isLt⟩]
  exact (hx r k).symm

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  have hx : ∀ c : Dev Cert.KernelIdeal.nD, Cert.KernelIdeal.Run.Holds m
      (realsOf (m ((c.tc : Thread Cert.KernelIdeal.nD Cert.KernelIdeal.τ).loc Cert.KernelIdeal.main_arg0))) c := fun c =>
    realsOf_eq _ (Cert.Finite.real_of_pre _ _ (hp c))
  refine ⟨fun c => Cert.ReferenceIdeal.Read.val_main_v33 (F := Ideal) (m ((c.tc : Thread Cert.KernelIdeal.nD Cert.KernelIdeal.τ).loc Cert.KernelIdeal.main_arg0)), ?_, ?_⟩
  · refine (θ_run _ _ _).mono (fun r h c => ⟨(h c).1.trans ?_, (h c).2⟩) (Cert.KernelIdeal.Run.run_result m g _ hx)
    funext i
    obtain ⟨R, k, rfl⟩ : ∃ (R : Fin 32768) (k : Fin 512), i = ix2 R k := ⟨i 0, i 1, eq_ix2 i⟩
    exact (Cert.ReferenceIdeal.Read.result_at (hx c) R k).symm
  · refine (θ_run _ _ _).mono (fun r h c => ?_) (Cert.ReferenceIdeal.Value.run m' g')
    refine ⟨(h c).1.trans ((Cert.ReferenceIdeal.Read.val_main_v33_eq m' c).trans ?_), (h c).2⟩
    rw [(hm c).1]

end Cert.AttentionClaims
-- ==== Proof.InProjBlock.lean ====
module

public import proofs.«01_k».proof.Proof.Gen.InProjIdeal.Value
public import Idealize.ShloMosaic.Lib.Pointwise

@[expose] public section

set_option maxRecDepth 16384

noncomputable section

namespace Cert.InProjIdeal.Value

open Cert.InProjIdeal Cert.InProjIdeal.Gen Idealize.ShloMosaic Idealize.ShloMosaic.TcCoe Idealize.SL.Sem

theorem hz : (![0, 0] : Fin 2 → Nat) = fun _ => 0 := funext fun a => by fin_cases a <;> rfl

/-- One half. -/
abbrev half : EReal := Ideal.ofBits .f32 0x3F000000#32

/-- What the kernel stores of a product `v` in column `q` of the projection: through the gate in the first 4096 columns. -/
def gated (q : ℕ) (v : EReal) : EReal := if q < 4096 then half + half * Ideal.tanh (half * v) else v

/-- One block of the projection: rows of `h` times columns of `w`, gated by the column's place in the whole row. -/
def blockOf (q0 : ℕ) (h : Vec Ideal S1024x2048 .bf16) (w : Vec Ideal S2048x768 .bf16) : Vec Ideal S1024x768 .bf16 :=
  fun y => gated (768 * q0 + (y 1).val) (∑ k : Fin 2048, (h (ix2 (y 0) k) : EReal) * w (ix2 k (y 1)))

/-- A row of the normalised input: divided by the root of its mean square, times the weights. -/
theorem pay3_apply (x : Vec Ideal S1024x2048 .f32) (n : Vec Ideal S1x2048 .f32) (r : Fin 1024) (k : Fin 2048) :
    k0_pay3 (F := Ideal) x n (ix2 r k) = (x (ix2 r k) : EReal) *
        Ideal.rsqrt
          (Ideal.div (∑ k', (x (ix2 r k') : EReal) * x (ix2 r k')) (Ideal.ofBits FTy.f32 1157627904#32) +
            Ideal.ofBits FTy.f32 897988541#32) *
      n (ix2 0 k) := by
  pointwise [k0_pay3]

/-- The comparison of a column's number with 4096 reads the number itself: nothing overflows. -/
theorem slt_col (q0 : Fin 9) (o : ℕ) (ho : o ≤ 512) (l : Fin 256) :
    IntOp.cmpi .slt (IntOp.addi (Scalar.addi (Scalar.muli (BitVec.ofNat 32 q0.val) 768#32) (BitVec.ofNat 32 o)) (BitVec.ofNat 32 l.val)) 4096#32
      = BitVec.ofBool (decide (768 * q0.val + (o + l.val) < 4096)) := by
  have h : (IntOp.addi (Scalar.addi (Scalar.muli (BitVec.ofNat 32 q0.val) 768#32) (BitVec.ofNat 32 o)) (BitVec.ofNat 32 l.val)) = BitVec.ofNat 32 (768 * q0.val + (o + l.val)) := by
    show BitVec.ofNat 32 q0.val * 768#32 + BitVec.ofNat 32 o + BitVec.ofNat 32 l.val = _
    apply BitVec.eq_of_toNat_eq
    have := q0.isLt; have := l.isLt
    simp only [BitVec.toNat_add, BitVec.toNat_mul, BitVec.toNat_ofNat]
    omega
  rw [h]
  show BitVec.ofBool (BitVec.slt _ _) = _
  congr 1
  rw [BitVec.slt_eq_decide]
  have := q0.isLt; have := l.isLt
  have e : (BitVec.ofNat 32 (768 * q0.val + (o + l.val))).toNat = 768 * q0.val + (o + l.val) := by
    rw [BitVec.toNat_ofNat, Nat.mod_eq_of_lt (by omega)]
  rw [BitVec.toInt_eq_toNat_of_lt (by rw [e]; omega), BitVec.toInt_eq_toNat_of_lt (by decide), e]
  simp only [BitVec.toNat_ofNat]
  norm_cast

theorem gate_select (q0 : Fin 9) (o : ℕ) (ho : o ≤ 512) (l : Fin 256) (v : EReal) :
    Scalar.select (IntOp.cmpi .slt (IntOp.addi (Scalar.addi (Scalar.muli (BitVec.ofNat 32 q0.val) 768#32) (BitVec.ofNat 32 o)) (BitVec.ofNat 32 l.val)) 4096#32)
      (half + half * Ideal.tanh (half * v)) v = gated (768 * q0.val + (o + l.val)) v := by
  rw [slt_col q0 o ho l]
  unfold gated
  by_cases hq : 768 * q0.val + (o + l.val) < 4096
  · rw [if_pos hq, decide_eq_true hq]; rfl
  · rw [if_neg hq, decide_eq_false hq]; rfl

/-- Column `l` of the third of a block that starts at column `o` is column `o + l` of the block. -/
theorem emb_cols (o : ℕ) (inb : ∀ a, (![0, o] : Fin 2 → ℕ) a + (![1024, 256] : Fin 2 → ℕ) a ≤ S1024x768.size a) (r : Fin 1024) (l : Fin 256) (ho : o + l.val < 768) :
    (Rect.unit (s := S1024x768) ![0, o] ![1024, 256] inb).emb (ix2 r l) = ix2 r ⟨o + l.val, ho⟩ := by
  funext a
  apply Fin.ext
  match a with
  | ⟨0, _⟩ => show 0 + 1 * r.val = r.val; omega
  | ⟨1, _⟩ => show o + 1 * l.val = o + l.val; omega

theorem ld_cols (x2 : Vec Ideal S2048x768 .bf16) (o : ℕ) (inb : ∀ a, (![0, o] : Fin 2 → ℕ) a + (![2048, 256] : Fin 2 → ℕ) a ≤ S2048x768.size a) (k : Fin 2048) (l : Fin 256) (ho : o + l.val < 768) :
    (View.ld x2 (Rect.unit (s := S2048x768) ![0, o] ![2048, 256] inb)) (ix2 k l) = x2 (ix2 k ⟨o + l.val, ho⟩) := by
  show x2 _ = x2 _
  congr 1
  funext a
  apply Fin.ext
  match a with
  | ⟨0, _⟩ => show 0 + 1 * k.val = k.val; omega
  | ⟨1, _⟩ => show o + 1 * l.val = o + l.val; omega

/-- A third of a block, from the third of the weights' block it is the product with. -/
theorem third (q0 : ℕ) (h : Vec Ideal S1024x2048 .bf16) (x2 : Vec Ideal S2048x768 .bf16) (o : ℕ) (inb inb') (r : Fin 1024) (l : Fin 256) (ho : o + l.val < 768) :
    gated (768 * q0 + (o + l.val)) (∑ k : Fin 2048, (h (ix2 r k) : EReal) * (View.ld x2 (Rect.unit (s := S2048x768) ![0, o] ![2048, 256] inb)) (ix2 k l))
      = blockOf q0 h x2 ((Rect.unit (s := S1024x768) ![0, o] ![1024, 256] inb').emb (ix2 r l)) := by
  rw [emb_cols o inb' r l ho]
  unfold blockOf
  simp only [ld_cols x2 o inb _ l ho]
  rfl

theorem pay4_apply (i : grid0.Coords) (h : Vec Ideal S1024x2048 .bf16) (w : Vec Ideal S2048x256 .bf16) (r : Fin 1024) (l : Fin 256) :
    k0_pay4 (F := Ideal) i h w (ix2 r l) = gated (768 * (i 1).val + (0 + l.val)) (∑ k : Fin 2048, (h (ix2 r k) : EReal) * w (ix2 k l)) := by
  rw [← gate_select (i 1) 0 (by decide) l]
  pointwise [k0_pay4]

theorem pay1_apply (i : grid0.Coords) (h : Vec Ideal S1024x2048 .bf16) (w : Vec Ideal S2048x256 .bf16) (r : Fin 1024) (l : Fin 256) :
    k0_pay1 (F := Ideal) (k0_pay5 h w) (k0_pay6 i) k0_pay7 (ix2 r l) = gated (768 * (i 1).val + (256 + l.val)) (∑ k : Fin 2048, (h (ix2 r k) : EReal) * w (ix2 k l)) := by
  rw [← gate_select (i 1) 256 (by decide) l]
  pointwise [k0_pay1, k0_pay5, k0_pay6, k0_pay7]

theorem pay2_apply (i : grid0.Coords) (h : Vec Ideal S1024x2048 .bf16) (w : Vec Ideal S2048x256 .bf16) (r : Fin 1024) (l : Fin 256) :
    k0_pay2 (F := Ideal) (BitVec.ofNat 32 (i 1).val) h w (ix2 r l) = gated (768 * (i 1).val + (512 + l.val)) (∑ k : Fin 2048, (h (ix2 r k) : EReal) * w (ix2 k l)) := by
  rw [← gate_select (i 1) 512 (by decide) l]
  pointwise [k0_pay2]

/-- The first point of a row block leaves the normalised rows in the scratch. -/
theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S1024x768 .bf16) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x768 .bf16) :
    sout0_A_0 c i arg2 harg2 arg3 harg3 arg4 harg4 arg5 harg5 arg6 harg6 hc0 x0 x1 x2 = k0_pay3 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, harg3.read_unread, View.ld_unit_zero (S := S1024x2048) hz, View.ld_unit_zero (S := S1x2048) hz]

/-- Whatever rows the scratch holds, a later point leaves the block of their products in the output. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S1024x768 .bf16) (harg5 : arg5.IsWhole) (arg6 : Memref sig .tc .vmem S1024x2048 .bf16) (harg6 : arg6.IsWhole) (hc0 : ¬ cond0_0 i)
    (x0 : Vec Ideal S1024x2048 .f32) (x1 : Vec Ideal S1x2048 .f32) (x2 : Vec Ideal S2048x768 .bf16) (xs0 : Vec Ideal S1024x2048 .bf16) :
    out0_B_3 c i arg2 harg2 arg3 harg3 arg4 harg4 arg5 harg5 arg6 harg6 hc0 x0 x1 x2 xs0 = blockOf (i 1).val xs0 x2 := by
  funext y
  unfold out0_B_3
  rw [View.read_writes_eq_canon _ _ _ (cover0_B_3 c i arg2 harg2 arg3 harg3 arg4 harg4 arg5 harg5 arg6 harg6 hc0 x0 x1 x2 xs0)]
  refine View.canon_apply_of_pieces _ _ (fun p hp j => ?_) y (cover0_B_3 c i arg2 harg2 arg3 harg3 arg4 harg4 arg5 harg5 arg6 harg6 hc0 x0 x1 x2 xs0 y)
  unfold kernelRun0_B at hp
  dsimp only at hp
  revert hp
  sl_unfold_words
  intro hp
  simp only [List.mem_cons, List.mem_nil_iff, or_false] at hp
  simp only [View.readAt_eq_ld, harg4.read_unread, harg6.read_unread, View.ld_unit_zero (S := S1024x2048) hz] at hp
  rcases hp with rfl | rfl | rfl
  · obtain ⟨r, l, rfl⟩ : ∃ (r : Fin 1024) (l : Fin 256), j = ix2 r l := ⟨j 0, j 1, eq_ix2 j⟩
    exact (pay2_apply i _ _ r l).trans (third _ _ _ 512 _ inb_S1024x768_S1024x256_0_512 r l (by omega))
  · obtain ⟨r, l, rfl⟩ : ∃ (r : Fin 1024) (l : Fin 256), j = ix2 r l := ⟨j 0, j 1, eq_ix2 j⟩
    exact (pay1_apply i _ _ r l).trans (third _ _ _ 256 _ inb_S1024x768_S1024x256_0_256 r l (by omega))
  · obtain ⟨r, l, rfl⟩ : ∃ (r : Fin 1024) (l : Fin 256), j = ix2 r l := ⟨j 0, j 1, eq_ix2 j⟩
    exact (pay4_apply i _ _ r l).trans (third _ _ _ 0 _ inb_S1024x768_S1024x256_0_0 r l (by omega))

/-- The first point of a row block leaves the block of the normalised rows' products. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S1024x768 .bf16) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x768 .bf16) :
    out0_A_3 c i arg2 harg2 arg3 harg3 arg4 harg4 arg5 harg5 arg6 harg6 hc0 x0 x1 x2 = blockOf (i 1).val (k0_pay3 x0 x1) x2 := by
  funext y
  unfold out0_A_3
  rw [View.read_writes_eq_canon _ _ _ (cover0_A_3 c i arg2 harg2 arg3 harg3 arg4 harg4 arg5 harg5 arg6 harg6 hc0 x0 x1 x2)]
  refine View.canon_apply_of_pieces _ _ (fun p hp j => ?_) y (cover0_A_3 c i arg2 harg2 arg3 harg3 arg4 harg4 arg5 harg5 arg6 harg6 hc0 x0 x1 x2 y)
  unfold kernelRun0_A at hp
  dsimp only at hp
  revert hp
  sl_unfold_words
  intro hp
  simp only [List.mem_cons, List.mem_nil_iff, or_false] at hp
  simp only [View.readAt_eq_ld, harg2.read_unread, harg3.read_unread, harg4.read_unread, View.ld_unit_zero (S := S1024x2048) hz, View.ld_unit_zero (S := S1x2048) hz] at hp
  rcases hp with rfl | rfl | rfl
  · obtain ⟨r, l, rfl⟩ : ∃ (r : Fin 1024) (l : Fin 256), j = ix2 r l := ⟨j 0, j 1, eq_ix2 j⟩
    rw [View.readCov_unit_zero (S := S1024x2048) _ hz]
    exact (pay2_apply i _ _ r l).trans (third _ _ _ 512 _ inb_S1024x768_S1024x256_0_512 r l (by omega))
  · obtain ⟨r, l, rfl⟩ : ∃ (r : Fin 1024) (l : Fin 256), j = ix2 r l := ⟨j 0, j 1, eq_ix2 j⟩
    rw [View.readCov_unit_zero (S := S1024x2048) _ hz]
    exact (pay1_apply i _ _ r l).trans (third _ _ _ 256 _ inb_S1024x768_S1024x256_0_256 r l (by omega))
  · obtain ⟨r, l, rfl⟩ : ∃ (r : Fin 1024) (l : Fin 256), j = ix2 r l := ⟨j 0, j 1, eq_ix2 j⟩
    rw [View.readCov_unit_zero (S := S1024x2048) _ hz]
    exact (pay4_apply i _ _ r l).trans (third _ _ _ 0 _ inb_S1024x768_S1024x256_0_0 r l (by omega))

end Cert.InProjIdeal.Value
-- ==== Proof.InProjArray.lean ====
module

public import proofs.«01_k».proof.Proof.InProjBlock

@[expose] public section

set_option maxRecDepth 16384

noncomputable section

namespace Cert.InProjIdeal.Value

open Cert.InProjIdeal Cert.InProjIdeal.Gen Idealize.ShloMosaic Idealize.ShloMosaic.TcCoe Idealize.SL.Sem

variable (m : (ℓ : Loc nD τ sig) → Buf (Elt Ideal) ℓ)

/-- Where each point's blocks lie: the row block is the quotient by nine, the column block the remainder. -/
theorem idx_facts : ∀ t : Fin cfg0.N,
    win0_0.index t (0 : Fin 2) = t.val / 9 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 9
    ∧ win0_3.index t (0 : Fin 2) = t.val / 9 ∧ win0_3.index t (1 : Fin 2) = t.val % 9
    ∧ (grid0.coords t 1).val = t.val % 9 :=
  (by decide +kernel : ∀ t : Fin grid0.N, _)

/-- Row `r` of the input's block at point `t`. -/
theorem rows_apply (c : Dev nD) (t : Fin cfg0.N) (r : Fin 1024) (k : Fin 2048) (R : Fin 32768) (hR : R.val = 1024 * (t.val / 9) + r.val) :
    iblk m c 0 t (ix2 r k) = (V m c main_v11 : S32768x2048.Idx → EReal) (ix2 R k) := by
  obtain ⟨h0, h1, -⟩ := idx_facts t
  show (V m c main_v11 : S32768x2048.Idx → EReal) _ = _
  congr 1
  funext a
  apply Fin.ext
  match a with
  | ⟨0, _⟩ => show win0_0.index t (0 : Fin 2) * 1024 + 1 * r.val = R.val; omega
  | ⟨1, _⟩ => show win0_0.index t (1 : Fin 2) * 2048 + 1 * k.val = k.val; omega

/-- The norm's weights are the same block at every point. -/
theorem norm_apply (c : Dev nD) (t : Fin cfg0.N) (k : Fin 2048) :
    iblk m c 1 t (ix2 (0 : Fin 1) k) = (V m c main_v13 : S1x2048.Idx → EReal) (ix2 (0 : Fin 1) k) := by
  obtain ⟨-, -, h0, h1, -⟩ := idx_facts t
  show (V m c main_v13 : S1x2048.Idx → EReal) _ = _
  congr 1
  funext a
  apply Fin.ext
  match a with
  | ⟨0, _⟩ => show win0_1.index t (0 : Fin 2) * 1 + 1 * 0 = 0; omega
  | ⟨1, _⟩ => show win0_1.index t (1 : Fin 2) * 2048 + 1 * k.val = k.val; omega

/-- Column `l` of the projection's block at point `t`. -/
theorem cols_apply (c : Dev nD) (t : Fin cfg0.N) (k : Fin 2048) (l : Fin 768) (q : Fin 6912) (hq : q.val = 768 * (t.val % 9) + l.val) :
    iblk m c 2 t (ix2 k l) = (V m c main_v10 : S2048x6912.Idx → EReal) (ix2 k q) := by
  obtain ⟨-, -, -, -, h0, h1, -⟩ := idx_facts t
  show (V m c main_v10 : S2048x6912.Idx → EReal) _ = _
  congr 1
  funext a
  apply Fin.ext
  match a with
  | ⟨0, _⟩ => show win0_2.index t (0 : Fin 2) * 2048 + 1 * k.val = k.val; omega
  | ⟨1, _⟩ => show win0_2.index t (1 : Fin 2) * 768 + 1 * l.val = q.val; omega

/-- A row of the input, normalised. -/
def hidden (x : S32768x2048.Idx → EReal) (n : S1x2048.Idx → EReal) (R : Fin 32768) (k : Fin 2048) : EReal :=
  x (ix2 R k) * Ideal.rsqrt (Ideal.div (∑ k', x (ix2 R k') * x (ix2 R k')) (Ideal.ofBits FTy.f32 1157627904#32) + Ideal.ofBits FTy.f32 897988541#32)
    * n (ix2 (0 : Fin 1) k)

theorem pay3_rows (c : Dev nD) (t : Fin cfg0.N) (r : Fin 1024) (k : Fin 2048) (R : Fin 32768) (hR : R.val = 1024 * (t.val / 9) + r.val) :
    k0_pay3 (F := Ideal) (iblk m c 0 t) (iblk m c 1 t) (ix2 r k) = hidden (V m c main_v11) (V m c main_v13) R k := by
  refine (pay3_apply _ _ r k).trans ?_
  unfold hidden
  simp only [rows_apply m c t r _ R hR, norm_apply]

/-- After every point the scratch holds the normalised rows of the point's row block. -/
theorem scratch_eq (c : Dev nD) : ∀ (n : ℕ) (hn : n < cfg0.N) (r : Fin 1024) (k : Fin 2048) (R : Fin 32768) (hR : R.val = 1024 * (n / 9) + r.val),
    (outsAt0 m c n hn).2 (ix2 r k) = hidden (V m c main_v11) (V m c main_v13) R k := by
  intro n
  induction n with
  | zero =>
    intro hn r k R hR
    rw [outsAt0_A m c ⟨0, hn⟩ rfl]
    dsimp only
    rw [sout_A]
    exact pay3_rows m c ⟨0, hn⟩ r k R hR
  | succ n ih =>
    intro hn r k R hR
    by_cases h0 : (n + 1) % 9 = 0
    · rw [outsAt0_A m c ⟨n + 1, hn⟩ h0]
      dsimp only
      rw [sout_A]
      exact pay3_rows m c ⟨n + 1, hn⟩ r k R hR
    · rw [outsAt0_B m c ⟨n + 1, hn⟩ h0]
      exact ih (Nat.lt_of_succ_lt hn) r k R (by rw [hR]; omega)

/-- The projection at a row and a column, from the arrays the call reads. -/
def projected (x : S32768x2048.Idx → EReal) (n : S1x2048.Idx → EReal) (w : S2048x6912.Idx → EReal) : S32768x6912.Idx → EReal :=
  fun i => gated (i 1).val (∑ k : Fin 2048, hidden x n (i 0) k * w (ix2 k (i 1)))

theorem block_apply (c : Dev nD) (t : Fin cfg0.N) (h : Vec Ideal S1024x2048 .bf16)
    (hh : ∀ (r : Fin 1024) (k : Fin 2048) (R : Fin 32768), R.val = 1024 * (t.val / 9) + r.val → h (ix2 r k) = hidden (V m c main_v11) (V m c main_v13) R k)
    (r : Fin 1024) (l : Fin 768) (R : Fin 32768) (q : Fin 6912) (hR : R.val = 1024 * (t.val / 9) + r.val) (hq : q.val = 768 * (t.val % 9) + l.val) :
    blockOf (grid0.coords t 1).val h (iblk m c 2 t) (ix2 r l) = projected (V m c main_v11) (V m c main_v13) (V m c main_v10) (ix2 R q) := by
  obtain ⟨-, -, -, -, -, -, -, -, hc⟩ := idx_facts t
  unfold blockOf projected
  show gated (768 * (grid0.coords t 1).val + l.val) (∑ k : Fin 2048, (h (ix2 r k) : EReal) * iblk m c 2 t (ix2 k l)) = gated q.val (∑ k : Fin 2048, hidden (V m c main_v11) (V m c main_v13) R k * (V m c main_v10 : S2048x6912.Idx → EReal) (ix2 k q))
  rw [hc, ← hq]
  congr 1
  refine Finset.sum_congr rfl fun k _ => ?_
  rw [hh r k R hR, cols_apply m c t k l q hq]

/-- What every point leaves in the output's block. -/
theorem out_eq (c : Dev nD) (t : Fin cfg0.N) (r : Fin 1024) (l : Fin 768) (R : Fin 32768) (q : Fin 6912) (hR : R.val = 1024 * (t.val / 9) + r.val) (hq : q.val = 768 * (t.val % 9) + l.val) :
    (outsAt0 m c t.val t.isLt).1 (ix2 r l) = projected (V m c main_v11) (V m c main_v13) (V m c main_v10) (ix2 R q) := by
  by_cases h0 : t.val % 9 = 0
  · rw [outsAt0_A m c t h0]
    dsimp only
    rw [out_A]
    exact block_apply m c t _ (fun r k R hR => pay3_rows m c t r k R hR) r l R q hR hq
  · rw [outsAt0_B m c t h0]
    dsimp only
    rw [out_B]
    exact block_apply m c t _ (fun r k R hR => scratch_eq m c (t.val - 1) _ r k R (by rw [hR]; omega)) r l R q hR hq

/-- WHAT THE CALL'S OUTPUT ENDS HOLDING: the projection, at every index. -/
theorem array_eq (c : Dev nD) : (dats m 0 c).arrAt 3 cfg0.N = projected (V m c main_v11) (V m c main_v13) (V m c main_v10) := by
  refine (dats m 0 c).arrAt_eq_of_cover 3 _ (fun t hf => ?_) (fun i => (covered_iff3 i).2 (by
    have h0 : (i 0).val < 32768 := (i 0).isLt; have h1 : (i 1).val < 6912 := (i 1).isLt; omega))
  rw [flushed3]
  funext y
  have ht : t.val < 288 := lt_of_lt_of_eq t.isLt N_0
  obtain ⟨r, l, rfl⟩ : ∃ (r : Fin 1024) (l : Fin 768), y = ix2 r l := ⟨y 0, y 1, eq_ix2 y⟩
  obtain ⟨-, -, -, -, -, -, h0, h1, -⟩ := idx_facts t
  have := r.isLt; have := l.isLt
  refine (out_eq m c t r l ⟨1024 * (t.val / 9) + r.val, by omega⟩ ⟨768 * (t.val % 9) + l.val, by omega⟩ rfl rfl).trans ?_
  show _ = projected (V m c main_v11) (V m c main_v13) (V m c main_v10) _
  congr 1
  funext a
  apply Fin.ext
  match a with
  | ⟨0, _⟩ => show 1024 * (t.val / 9) + r.val = win0_3.index t (0 : Fin 2) * 1024 + 1 * r.val; omega
  | ⟨1, _⟩ => show 768 * (t.val % 9) + l.val = win0_3.index t (1 : Fin 2) * 768 + 1 * l.val; omega

/-! ## The arrays the call reads, from the arguments -/

/-- Which column of the argument's weights a column of the reordered weights is. -/
def column (q : ℕ) : ℕ := if q < 4096 then 2816 + q else if q < 5120 then q - 4096 + 1536 else if q < 6656 then q - 5120 else q - 6656 + 2560

theorem V_v11 (c : Dev nD) : V m c main_v11 = shapeCast S32768x2048 (m ((c.tc : Thread nD τ).loc main_arg0)) shapeCasts_S2x16384x2048_S32768x2048 := by
  unfold V
  after_results_simp
  try rfl

theorem V_v13 (c : Dev nD) : V m c main_v13 = broadcastInDim S1x2048 ![1] bcast_S2048_S1x2048_1 (shapeCast S2048 (m ((c.tc : Thread nD τ).loc main_arg1)) shapeCasts_S1x2048_S2048) := by
  unfold V
  after_results_simp
  try rfl

end Cert.InProjIdeal.Value
-- ==== Proof.InProjWeights.lean ====
module

public import proofs.«01_k».proof.Proof.InProjArray

@[expose] public section

set_option maxRecDepth 16384

noncomputable section

namespace Cert.InProjIdeal.Value

open Cert.InProjIdeal Cert.InProjIdeal.Gen Idealize.ShloMosaic Idealize.ShloMosaic.TcCoe Idealize.SL.Sem

variable (m : (ℓ : Loc nD τ sig) → Buf (Elt Ideal) ℓ)

/-- The weights with their columns put in the order the kernel multiplies them. -/
def reordered (w : (⟨S2048x6912, .f32⟩ : BufTy).Contents (Elt Ideal)) : (⟨S2048x6912, .f32⟩ : BufTy).Contents (Elt Ideal) :=
  concatenate S2048x6912 1 [⟨S2048x2048, extractStridedSlice S2048x2048 ![0, 2816] w slices_S2048x6912_S2048x2048_0_2816⟩,
    ⟨S2048x2048, extractStridedSlice S2048x2048 ![0, 4864] w slices_S2048x6912_S2048x2048_0_4864⟩,
    ⟨S2048x1024, extractStridedSlice S2048x1024 ![0, 1536] w slices_S2048x6912_S2048x1024_0_1536⟩,
    ⟨S2048x512, extractStridedSlice S2048x512 ![0, 0] w slices_S2048x6912_S2048x512_0_0⟩,
    ⟨S2048x512, extractStridedSlice S2048x512 ![0, 512] w slices_S2048x6912_S2048x512_0_512⟩,
    ⟨S2048x512, extractStridedSlice S2048x512 ![0, 1024] w slices_S2048x6912_S2048x512_0_1024⟩,
    ⟨S2048x128, extractStridedSlice S2048x128 ![0, 2560] w slices_S2048x6912_S2048x128_0_2560⟩,
    ⟨S2048x128, extractStridedSlice S2048x128 ![0, 2688] w slices_S2048x6912_S2048x128_0_2688⟩]
    concatenates_S2048x2048_S2048x2048_S2048x1024_S2048x512_S2048x512_S2048x512_S2048x128_S2048x128_S2048x6912_d1

/-- Equal pieces side by side are equal. -/
theorem pieces_congr {a a' : (⟨S2048x2048, .f32⟩ : BufTy).Contents (Elt Ideal)} {b b' : (⟨S2048x2048, .f32⟩ : BufTy).Contents (Elt Ideal)} {c c' : (⟨S2048x1024, .f32⟩ : BufTy).Contents (Elt Ideal)} {d d' : (⟨S2048x512, .f32⟩ : BufTy).Contents (Elt Ideal)} {e e' : (⟨S2048x512, .f32⟩ : BufTy).Contents (Elt Ideal)} {f f' : (⟨S2048x512, .f32⟩ : BufTy).Contents (Elt Ideal)} {g g' : (⟨S2048x128, .f32⟩ : BufTy).Contents (Elt Ideal)} {h h' : (⟨S2048x128, .f32⟩ : BufTy).Contents (Elt Ideal)}
    (ha : a = a') (hb : b = b') (hc : c = c') (hd : d = d') (he : e = e') (hf : f = f') (hg : g = g') (hh : h = h') :
    (concatenate S2048x6912 1 [⟨S2048x2048, a⟩, ⟨S2048x2048, b⟩, ⟨S2048x1024, c⟩, ⟨S2048x512, d⟩, ⟨S2048x512, e⟩, ⟨S2048x512, f⟩, ⟨S2048x128, g⟩, ⟨S2048x128, h⟩] concatenates_S2048x2048_S2048x2048_S2048x1024_S2048x512_S2048x512_S2048x512_S2048x128_S2048x128_S2048x6912_d1 : (⟨S2048x6912, .f32⟩ : BufTy).Contents (Elt Ideal))
      = concatenate S2048x6912 1 [⟨S2048x2048, a'⟩, ⟨S2048x2048, b'⟩, ⟨S2048x1024, c'⟩, ⟨S2048x512, d'⟩, ⟨S2048x512, e'⟩, ⟨S2048x512, f'⟩, ⟨S2048x128, g'⟩, ⟨S2048x128, h'⟩] concatenates_S2048x2048_S2048x2048_S2048x1024_S2048x512_S2048x512_S2048x512_S2048x128_S2048x128_S2048x6912_d1 := by
  subst ha; subst hb; subst hc; subst hd; subst he; subst hf; subst hg; subst hh; rfl

set_option maxHeartbeats 1600000 in
theorem V_v10 (c : Dev nD) : V m c main_v10 = truncf (F := Ideal) .bf16 (reordered (shapeCast S2048x6912 (m ((c.tc : Thread nD τ).loc main_arg2)) shapeCasts_S1x2048x6912_S2048x6912)) bitsLt_bf16_f32 := by
  unfold V
  after_results_simp
  refine congrArg (truncf (F := Ideal) .bf16 · bitsLt_bf16_f32) (pieces_congr ?_ ?_ ?_ ?_ ?_ ?_ ?_ ?_) <;>
  · dsimp only [Matrix.cons_val]
    after_results_simp
    rfl

theorem reordered_apply (w : (⟨S2048x6912, .f32⟩ : BufTy).Contents (Elt Ideal)) (k : Fin 2048) (q q' : Fin 6912) (hq : q'.val = column q.val) :
    reordered w (ix2 k q) = w (ix2 k q') := by
  have e : ∀ (n : ℕ) (h : n < 6912), n = q'.val → w (ix2 k ⟨n, h⟩) = w (ix2 k q') := fun n h hn => by subst hn; rfl
  pointwise [reordered]
  have := q.isLt
  split_ifs <;> refine e _ _ ?_ <;> rw [hq] <;> unfold column <;> split_ifs <;> omega

/-- The rows of the two batches one below the other. -/
theorem rows_reshape (x : (⟨S2x16384x2048, .f32⟩ : BufTy).Contents (Elt Ideal)) (R : Fin 32768) (k : Fin 2048) (b : Fin 2) (s : Fin 16384) (hb : b.val = R.val / 16384) (hs : s.val = R.val % 16384) :
    shapeCast S32768x2048 x shapeCasts_S2x16384x2048_S32768x2048 (ix2 R k) = x (ix3 b s k) := by
  refine shapeCast_apply x _ (ix2 R k) (ix3 b s k) ?_
  rw [Shape.rowMajor_val_three, Shape.rowMajor_val_two]
  show (b.val * 16384 + s.val) * 2048 + k.val = R.val * 2048 + k.val
  omega

/-- The norm's weights as a row. -/
theorem norm_row (x : (⟨S1x2048, .f32⟩ : BufTy).Contents (Elt Ideal)) (k : Fin 2048) :
    broadcastInDim S1x2048 ![1] bcast_S2048_S1x2048_1 (shapeCast S2048 x shapeCasts_S1x2048_S2048) (ix2 (0 : Fin 1) k) = x (ix2 0 k) := by
  pointwise

/-- The weights without their leading axis of one. -/
theorem weights_reshape (x : (⟨S1x2048x6912, .f32⟩ : BufTy).Contents (Elt Ideal)) (k : Fin 2048) (q : Fin 6912) :
    shapeCast S2048x6912 x shapeCasts_S1x2048x6912_S2048x6912 (ix2 k q) = x (ix3 0 k q) := by
  pointwise

end Cert.InProjIdeal.Value
-- ==== Proof.InProjReference.lean ====
module

public import proofs.«01_k».proof.Proof.InProjWeights
public import proofs.«01_k».proof.Proof.Gen.InProjReferenceIdeal.Read

@[expose] public section

set_option maxRecDepth 16384

noncomputable section

namespace Cert.InProjReferenceIdeal.Read

open Cert.InProjReferenceIdeal Idealize.ShloMosaic Idealize.ShloMosaic.TcCoe Idealize.SL.Sem

variable (x0 : (⟨S2x16384x2048, .f32⟩ : BufTy).Contents (Elt Ideal)) (x1 : (⟨S1x2048, .f32⟩ : BufTy).Contents (Elt Ideal)) (x2 : (⟨S1x2048x6912, .f32⟩ : BufTy).Contents (Elt Ideal))

/-- The reference's normalised row. -/
theorem v13_apply (b : Fin 2) (s : Fin 16384) (k : Fin 2048) : val_main_v13 (F := Ideal) x0 x1 (ix3 b s k) = (x0 (ix3 b s k) : EReal) *
        Ideal.rsqrt
          (Ideal.div (∑ x, (x0 (ix3 b s x) : EReal) * x0 (ix3 b s x)) (Ideal.ofBits FTy.f32 1157627904#32) +
            Ideal.ofBits FTy.f32 897988541#32) *
      x1 (ix2 0 k) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's product of a normalised row and a column of the weights. -/
theorem v15_apply (b : Fin 2) (s : Fin 16384) (q : Fin 6912) : val_main_v15 (F := Ideal) x0 x1 x2 (ix3 b s q) = ∑ k : Fin 2048, (val_main_v13 (F := Ideal) x0 x1 (ix3 b s k) : EReal) * x2 (ix3 0 k q) := by
  rw [val_main_v15_apply]
  refine Finset.sum_congr rfl fun k _ => ?_
  have el : lidx_main_v15 (ix3 b s q) k = ix3 b s k := by funext a; fin_cases a <;> rfl
  have er : ridx_main_v15 (ix3 b s q) k = ix2 k q := by funext a; fin_cases a <;> rfl
  rw [el, er]
  have e : val_main_v14 (F := Ideal) x2 (ix2 k q) = x2 (ix3 0 k q) := by pointwise [val_main_v14]
  rw [e]

/-- The logistic gate through the hyperbolic tangent, on every extended real. -/
theorem gate_eq (v : EReal) : Ideal.div (Ideal.ofBits .f32 0x3F800000#32) (Ideal.ofBits .f32 0x3F800000#32 + Ideal.exp (-v))
    = Cert.InProjIdeal.Value.half + Cert.InProjIdeal.Value.half * Ideal.tanh (Cert.InProjIdeal.Value.half * v) := by
  have h1 : Ideal.ofBits .f32 0x3F800000#32 = ((1 : ℝ) : EReal) := by
    simp [Ideal.ofBits, Ideal.ieee, -EReal.coe_mul]
    norm_num
  have h2 : Cert.InProjIdeal.Value.half = ((1 / 2 : ℝ) : EReal) := by
    simp [Cert.InProjIdeal.Value.half, Ideal.ofBits, Ideal.ieee, -EReal.coe_mul]
    norm_num
  rw [h1, h2]
  induction v using EReal.rec with
  | bot =>
    rw [EReal.coe_mul_bot_of_pos (by norm_num), EReal.neg_bot, Ideal.exp_top, Ideal.tanh_bot, EReal.coe_add_top]
    rw [show (-1 : EReal) = ((-1 : ℝ) : EReal) from rfl, ← EReal.coe_mul, ← EReal.coe_add]
    unfold Ideal.div
    rw [if_neg (by simp)]
    norm_num
  | top =>
    rw [EReal.coe_mul_top_of_pos (by norm_num), EReal.neg_top, Ideal.exp_bot, Ideal.tanh_top, add_zero, Ideal.div_coe one_ne_zero]
    rw [mul_one, ← EReal.coe_mul, ← EReal.coe_add]
    norm_num
  | coe r =>
    rw [← EReal.coe_neg, Ideal.exp_coe, ← EReal.coe_mul, Ideal.tanh_coe, ← EReal.coe_add, ← EReal.coe_mul, ← EReal.coe_add,
      Ideal.div_coe (by positivity), ← EReal.coe_mul]
    congr 1
    rw [Real.tanh_eq_sinh_div_cosh, Real.sinh_eq, Real.cosh_eq]
    have e : Real.exp (-r) = Real.exp (-(1 / 2 * r)) / Real.exp (1 / 2 * r) := by
      rw [← Real.exp_sub]; congr 1; ring
    have p := Real.exp_pos (1 / 2 * r)
    have p' := Real.exp_pos (-(1 / 2 * r))
    rw [e]
    field_simp
    ring

/-- The reference at a row and a column: the product with the column that the order puts there, through the gate. -/
theorem v28_apply (R : Fin 32768) (q q' : Fin 6912) (hq : q'.val = Cert.InProjIdeal.Value.column q.val) (b : Fin 2) (s : Fin 16384) (hb : b.val = R.val / 16384) (hs : s.val = R.val % 16384) :
    val_main_v28 (F := Ideal) x0 x1 x2 (ix2 R q) = Cert.InProjIdeal.Value.gated q.val (val_main_v15 (F := Ideal) x0 x1 x2 (ix3 b s q')) := by
  have e : ∀ (nb : ℕ) (h₁ : nb < 2) (ns : ℕ) (h₂ : ns < 16384) (n : ℕ) (h : n < 6912), nb = b.val → ns = s.val → n = q'.val →
      val_main_v15 (F := Ideal) x0 x1 x2 (ix3 ⟨nb, h₁⟩ ⟨ns, h₂⟩ ⟨n, h⟩) = val_main_v15 (F := Ideal) x0 x1 x2 (ix3 b s q') := by
    intro nb h₁ ns h₂ n h e1 e2 e3
    subst e1 e2 e3
    rfl
  unfold Cert.InProjIdeal.Value.gated
  rw [← gate_eq]
  pointwise [val_main_v28, val_main_v27, val_main_v26, val_main_v25, val_main_v24, val_main_v23, val_main_v22, val_main_v21, val_main_v20, val_main_v19, val_main_v18, val_main_v17, val_main_v16, val_main_cst_2, val_main_cst_3]
  have := q.isLt
  by_cases h : q.val < 4096
  · rw [dif_pos h, if_pos h]
    rw [e _ _ _ _ _ _ hb.symm hs.symm (by rw [hq]; unfold Cert.InProjIdeal.Value.column; rw [if_pos h])]
  · rw [dif_neg h, if_neg h]
    split_ifs <;> refine e _ _ _ _ _ _ hb.symm hs.symm ?_ <;> rw [hq] <;> unfold Cert.InProjIdeal.Value.column <;> split_ifs <;> omega

end Cert.InProjReferenceIdeal.Read
-- ==== Proof.InProjClaims.lean ====
module

public import proofs.«01_k».proof.Proof.InProjReference
public import proofs.«01_k».proof.Proof.Gen.InProjReferenceIdeal.Run
public import proofs.«01_k».proof.Defs

@[expose] public section

set_option maxRecDepth 16384

noncomputable section

namespace Cert.InProjClaims

open Idealize.ShloMosaic Idealize.ShloMosaic.TcCoe Idealize.SL.Sem Cert.InProjIdeal.Value Cert.InProjReferenceIdeal.Read
open Cert.InProjIdeal.Gen (V)

theorem column_lt (q : ℕ) (h : q < 6912) : column q < 6912 := by unfold column; split_ifs <;> omega

/-- THE EQUATION: the projection the call computes from the launch's arguments is the reference's. -/
theorem projected_eq (m : (ℓ : Loc Cert.InProjIdeal.nD Cert.InProjIdeal.τ Cert.InProjIdeal.sig) → Buf (Elt Ideal) ℓ) (c : Dev Cert.InProjIdeal.nD) :
    projected (V m c Cert.InProjIdeal.main_v11) (V m c Cert.InProjIdeal.main_v13) (V m c Cert.InProjIdeal.main_v10)
      = val_main_v28 (F := Ideal) (m ((c.tc : Thread Cert.InProjIdeal.nD Cert.InProjIdeal.τ).loc Cert.InProjIdeal.main_arg0))
          (m ((c.tc : Thread Cert.InProjIdeal.nD Cert.InProjIdeal.τ).loc Cert.InProjIdeal.main_arg1))
          (m ((c.tc : Thread Cert.InProjIdeal.nD Cert.InProjIdeal.τ).loc Cert.InProjIdeal.main_arg2)) := by
  rw [V_v11, V_v13, V_v10]
  generalize m ((c.tc : Thread Cert.InProjIdeal.nD Cert.InProjIdeal.τ).loc Cert.InProjIdeal.main_arg0) = x0
  generalize m ((c.tc : Thread Cert.InProjIdeal.nD Cert.InProjIdeal.τ).loc Cert.InProjIdeal.main_arg1) = x1
  generalize m ((c.tc : Thread Cert.InProjIdeal.nD Cert.InProjIdeal.τ).loc Cert.InProjIdeal.main_arg2) = x2
  funext i
  obtain ⟨R, q, rfl⟩ : ∃ (R : Fin 32768) (q : Fin 6912), i = ix2 R q := ⟨i 0, i 1, eq_ix2 i⟩
  have hR := R.isLt
  let b : Fin 2 := ⟨R.val / 16384, by omega⟩
  let s : Fin 16384 := ⟨R.val % 16384, by omega⟩
  let q' : Fin 6912 := ⟨column q.val, column_lt q.val q.isLt⟩
  refine Eq.trans ?_ (v28_apply x0 x1 x2 R q q' rfl b s rfl rfl).symm
  rw [v15_apply]
  unfold projected
  show gated q.val (∑ k : Fin 2048, hidden _ _ R k * reordered _ (ix2 k q)) = gated q.val _
  congr 1
  refine Finset.sum_congr rfl fun k _ => ?_
  rw [reordered_apply _ k q q' rfl, v13_apply]
  have e0 := fun k => rows_reshape x0 R k b s rfl rfl
  have e2 := weights_reshape x2 k q'
  unfold Cert.InProjIdeal.Value.hidden
  simp only [e0]
  rw [norm_row, e2]

/-- The kernel's projection and the reference's are equal on the extended reals. -/
theorem algebraic : Cert.algebraic_InProjIdeal_InProjReferenceIdeal (hInProjIdeal := Cert.InProjIdeal.Gen.facts) (hInProjReferenceIdeal := Cert.InProjReferenceIdeal.Gen.facts) := by
  intro m g m' g' _ hm
  refine ⟨fun c => val_main_v28 (F := Ideal) (m ((c.tc : Thread Cert.InProjIdeal.nD Cert.InProjIdeal.τ).loc Cert.InProjIdeal.main_arg0))
          (m ((c.tc : Thread Cert.InProjIdeal.nD Cert.InProjIdeal.τ).loc Cert.InProjIdeal.main_arg1))
          (m ((c.tc : Thread Cert.InProjIdeal.nD Cert.InProjIdeal.τ).loc Cert.InProjIdeal.main_arg2)), ?_, ?_⟩
  · refine (θ_run _ _ _).mono (fun r h c => ?_) (Cert.InProjIdeal.Value.run_blocks m g)
    exact ⟨(h c).1.trans ((array_eq m c).trans (projected_eq m c)), (h c).2⟩
  · refine (θ_run _ _ _).mono (fun r h c => ?_) (Cert.InProjReferenceIdeal.Value.run m' g')
    obtain ⟨h0, h1, h2⟩ := hm c
    refine ⟨(h c).1.trans ((val_main_v28_eq m' c).trans ?_), (h c).2⟩
    rw [h0, h1, h2]

end Cert.InProjClaims
-- ==== Proof.lean ====
/-
  The certificate: the attention kernel and the input projection run to their ends and keep their arguments, and on the extended
  reals each computes its reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Bits.Frame
public import proofs.«01_k».proof.Proof.Frame
public import proofs.«01_k».proof.Proof.AttentionClaims
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.InProjClaims
public import Idealize.ShloMosaic.Adequacy
public import Idealize.ShloMosaic.Init

@[expose] public section

noncomputable section

namespace Cert.Proof

open Idealize.ShloMosaic Idealize.SL.Sem

/-- The attention runs to its end, keeps its arguments and leaves every counter at zero. -/
theorem frame_kernel : Cert.quiescent_Kernel (hKernel := Cert.Kernel.Gen.facts) := fun m ρ _ => Cert.Kernel.Run.frame m ρ

/-- So does its reading on the extended reals, from finite arguments as from any. -/
theorem frame_kernelIdeal : Cert.quiescent_KernelIdeal (hKernelIdeal := Cert.KernelIdeal.Gen.facts) := fun m ρ _ => Cert.KernelIdeal.Run.frame m ρ
theorem frame_kernelIdeal_finite : Cert.quiescent_KernelIdeal_pre_finite (hKernelIdeal := Cert.KernelIdeal.Gen.facts) (hPre_finite := Cert.Pre_finite.Gen.facts) :=
  fun m ρ _ => Cert.KernelIdeal.Run.frame m ρ

/-- The attention's reference is a straight line of host operations that declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_referenceIdeal_finite : Cert.quiescent_ReferenceIdeal_pre_finite (hReferenceIdeal := Cert.ReferenceIdeal.Gen.facts) (hPre_finite := Cert.Pre_finite.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The input projection runs to its end, keeps its arguments and leaves every counter at zero. -/
theorem frame_inProj : Cert.quiescent_InProj (hInProj := Cert.InProj.Gen.facts) := fun m ρ _ => Cert.InProj.Gen.frame m ρ

/-- So does its reading on the extended reals. -/
theorem frame_inProjIdeal : Cert.quiescent_InProjIdeal (hInProjIdeal := Cert.InProjIdeal.Gen.facts) := fun m ρ _ => Cert.InProjIdeal.Gen.frame m ρ

/-- The projection's reference is a straight line of host operations that declares no semaphore. -/
theorem frame_inProjReferenceIdeal : Cert.quiescent_InProjReferenceIdeal (hInProjReferenceIdeal := Cert.InProjReferenceIdeal.Gen.facts) := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

/-- The test that ends a walk early is named, and its ideal reading is the bottom. -/
theorem preserves_kernel : Cert.preserves_Kernel_KernelIdeal := IdealRules.named_const.statement Cert.KernelIdeal.κ "exit_log" .f32 0xC2DC0000#32 ⊥ rfl

theorem claim : Cert.Claim := ⟨Cert.Kernel.Gen.facts, Cert.KernelIdeal.Gen.facts, Cert.ReferenceIdeal.Gen.facts, Cert.InProj.Gen.facts,
  Cert.InProjIdeal.Gen.facts, Cert.InProjReferenceIdeal.Gen.facts, Cert.Pre_finite.Gen.facts,
  frame_kernel, frame_kernelIdeal, frame_kernelIdeal_finite, frame_referenceIdeal, frame_referenceIdeal_finite,
  frame_inProj, frame_inProjIdeal, frame_inProjReferenceIdeal, preserves_kernel, Cert.AttentionClaims.algebraic, trivial, Cert.InProjClaims.algebraic⟩

end Cert.Proof
